-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_qkv_finite [hPre_qkv_finite : Cert.Pre_qkv_finite.Facts] (m : (ℓ : Loc Cert.KernelIdeal.nD Cert.KernelIdeal.τ Cert.KernelIdeal.sig) → Buf (Elt Ideal) ℓ) : Prop :=
  ∀ c : Dev Cert.KernelIdeal.nD,
    (Cert.Pre_qkv_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_qkv_finite [hPre_qkv_finite : Cert.Pre_qkv_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_qkv_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_MlstmIn (m : (ℓ : Loc Cert.MlstmIn.nD Cert.MlstmIn.τ Cert.MlstmIn.sig) → Buf (Elt Bits) ℓ) : Prop :=
  True

def Pre_MlstmInIdeal (m : (ℓ : Loc Cert.MlstmInIdeal.nD Cert.MlstmInIdeal.τ Cert.MlstmInIdeal.sig) → Buf (Elt Ideal) ℓ) : Prop :=
  True

def Pre_MlstmInRefIdeal (m : (ℓ : Loc Cert.MlstmInRefIdeal.nD Cert.MlstmInRefIdeal.τ Cert.MlstmInRefIdeal.sig) → Buf (Elt Ideal) ℓ) : Prop :=
  True

def Pre_HgrnIn (m : (ℓ : Loc Cert.HgrnIn.nD Cert.HgrnIn.τ Cert.HgrnIn.sig) → Buf (Elt Bits) ℓ) : Prop :=
  True

def Pre_HgrnInIdeal (m : (ℓ : Loc Cert.HgrnInIdeal.nD Cert.HgrnInIdeal.τ Cert.HgrnInIdeal.sig) → Buf (Elt Ideal) ℓ) : Prop :=
  True

def Pre_HgrnInRefIdeal (m : (ℓ : Loc Cert.HgrnInRefIdeal.nD Cert.HgrnInRefIdeal.τ Cert.HgrnInRefIdeal.sig) → Buf (Elt Ideal) ℓ) : Prop :=
  True

def Pre_SsdIn (m : (ℓ : Loc Cert.SsdIn.nD Cert.SsdIn.τ Cert.SsdIn.sig) → Buf (Elt Bits) ℓ) : Prop :=
  True

def Pre_SsdInIdeal (m : (ℓ : Loc Cert.SsdInIdeal.nD Cert.SsdInIdeal.τ Cert.SsdInIdeal.sig) → Buf (Elt Ideal) ℓ) : Prop :=
  True

def Pre_SsdInRefIdeal (m : (ℓ : Loc Cert.SsdInRefIdeal.nD Cert.SsdInRefIdeal.τ Cert.SsdInRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_SsdOut (m : (ℓ : Loc Cert.SsdOut.nD Cert.SsdOut.τ Cert.SsdOut.sig) → Buf (Elt Bits) ℓ) : Prop :=
  True

def Pre_SsdOutIdeal (m : (ℓ : Loc Cert.SsdOutIdeal.nD Cert.SsdOutIdeal.τ Cert.SsdOutIdeal.sig) → Buf (Elt Ideal) ℓ) : Prop :=
  True

def Pre_SsdOutRefIdeal (m : (ℓ : Loc Cert.SsdOutRefIdeal.nD Cert.SsdOutRefIdeal.τ Cert.SsdOutRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_MlstmGates (m : (ℓ : Loc Cert.MlstmGates.nD Cert.MlstmGates.τ Cert.MlstmGates.sig) → Buf (Elt Bits) ℓ) : Prop :=
  True

def Pre_MlstmGatesIdeal (m : (ℓ : Loc Cert.MlstmGatesIdeal.nD Cert.MlstmGatesIdeal.τ Cert.MlstmGatesIdeal.sig) → Buf (Elt Ideal) ℓ) : Prop :=
  True

def Pre_MlstmGatesRefIdeal (m : (ℓ : Loc Cert.MlstmGatesRefIdeal.nD Cert.MlstmGatesRefIdeal.τ Cert.MlstmGatesRefIdeal.sig) → Buf (Elt Ideal) ℓ) : Prop :=
  True

def Pre_SsdDt (m : (ℓ : Loc Cert.SsdDt.nD Cert.SsdDt.τ Cert.SsdDt.sig) → Buf (Elt Bits) ℓ) : Prop :=
  True

def Pre_SsdDtIdeal (m : (ℓ : Loc Cert.SsdDtIdeal.nD Cert.SsdDtIdeal.τ Cert.SsdDtIdeal.sig) → Buf (Elt Ideal) ℓ) : Prop :=
  True

def Pre_SsdDtRefIdeal (m : (ℓ : Loc Cert.SsdDtRefIdeal.nD Cert.SsdDtRefIdeal.τ Cert.SsdDtRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_W1Prep (m : (ℓ : Loc Cert.W1Prep.nD Cert.W1Prep.τ Cert.W1Prep.sig) → Buf (Elt Bits) ℓ) : Prop :=
  True

def Pre_W1PrepIdeal (m : (ℓ : Loc Cert.W1PrepIdeal.nD Cert.W1PrepIdeal.τ Cert.W1PrepIdeal.sig) → Buf (Elt Ideal) ℓ) : Prop :=
  True

def Pre_W1PrepRefIdeal (m : (ℓ : Loc Cert.W1PrepRefIdeal.nD Cert.W1PrepRefIdeal.τ Cert.W1PrepRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_qkv_finite [hKernelIdeal : Cert.KernelIdeal.Facts] [hPre_qkv_finite : Cert.Pre_qkv_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_qkv_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_qkv_finite [hReferenceIdeal : Cert.ReferenceIdeal.Facts] [hPre_qkv_finite : Cert.Pre_qkv_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_qkv_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_MlstmIn [hMlstmIn : Cert.MlstmIn.Facts] : Prop :=
  ∀ (m : (ℓ : Loc Cert.MlstmIn.nD Cert.MlstmIn.τ Cert.MlstmIn.sig) → Buf (Elt Bits) ℓ) (g : Dev Cert.MlstmIn.nD → PrngReg), Pre_MlstmIn m →
    θ_run (Cert.MlstmIn.defs (F := Bits)) (onTc (τ := Cert.MlstmIn.τ) (Cert.MlstmIn.main (F := Bits))) ⟨m, fun _ => 0, g⟩ (fun r => (∀ c : Dev Cert.MlstmIn.nD,
      r.2.mem ((c.tc : Thread Cert.MlstmIn.nD Cert.MlstmIn.τ).loc Cert.MlstmIn.main_arg0) = m ((c.tc : Thread Cert.MlstmIn.nD Cert.MlstmIn.τ).loc Cert.MlstmIn.main_arg0)
      ∧ r.2.mem ((c.tc : Thread Cert.MlstmIn.nD Cert.MlstmIn.τ).loc Cert.MlstmIn.main_arg1) = m ((c.tc : Thread Cert.MlstmIn.nD Cert.MlstmIn.τ).loc Cert.MlstmIn.main_arg1)
      ∧ r.2.mem ((c.tc : Thread Cert.MlstmIn.nD Cert.MlstmIn.τ).loc Cert.MlstmIn.main_arg2) = m ((c.tc : Thread Cert.MlstmIn.nD Cert.MlstmIn.τ).loc Cert.MlstmIn.main_arg2))
      ∧ r.2.sem = fun _ => 0)

def quiescent_MlstmInIdeal [hMlstmInIdeal : Cert.MlstmInIdeal.Facts] : Prop :=
  ∀ (m : (ℓ : Loc Cert.MlstmInIdeal.nD Cert.MlstmInIdeal.τ Cert.MlstmInIdeal.sig) → Buf (Elt Ideal) ℓ) (g : Dev Cert.MlstmInIdeal.nD → PrngReg), Pre_MlstmInIdeal m →
    θ_run (Cert.MlstmInIdeal.defs (F := Ideal)) (onTc (τ := Cert.MlstmInIdeal.τ) (Cert.MlstmInIdeal.main (F := Ideal))) ⟨m, fun _ => 0, g⟩ (fun r => (∀ c : Dev Cert.MlstmInIdeal.nD,
      r.2.mem ((c.tc : Thread Cert.MlstmInIdeal.nD Cert.MlstmInIdeal.τ).loc Cert.MlstmInIdeal.main_arg0) = m ((c.tc : Thread Cert.MlstmInIdeal.nD Cert.MlstmInIdeal.τ).loc Cert.MlstmInIdeal.main_arg0)
      ∧ r.2.mem ((c.tc : Thread Cert.MlstmInIdeal.nD Cert.MlstmInIdeal.τ).loc Cert.MlstmInIdeal.main_arg1) = m ((c.tc : Thread Cert.MlstmInIdeal.nD Cert.MlstmInIdeal.τ).loc Cert.MlstmInIdeal.main_arg1)
      ∧ r.2.mem ((c.tc : Thread Cert.MlstmInIdeal.nD Cert.MlstmInIdeal.τ).loc Cert.MlstmInIdeal.main_arg2) = m ((c.tc : Thread Cert.MlstmInIdeal.nD Cert.MlstmInIdeal.τ).loc Cert.MlstmInIdeal.main_arg2))
      ∧ r.2.sem = fun _ => 0)

def quiescent_MlstmInRefIdeal [hMlstmInRefIdeal : Cert.MlstmInRefIdeal.Facts] : Prop :=
  ∀ (m : (ℓ : Loc Cert.MlstmInRefIdeal.nD Cert.MlstmInRefIdeal.τ Cert.MlstmInRefIdeal.sig) → Buf (Elt Ideal) ℓ) (g : Dev Cert.MlstmInRefIdeal.nD → PrngReg), Pre_MlstmInRefIdeal m →
    θ_run (Cert.MlstmInRefIdeal.defs (F := Ideal)) (onTc (τ := Cert.MlstmInRefIdeal.τ) (Cert.MlstmInRefIdeal.main (F := Ideal))) ⟨m, fun _ => 0, g⟩ (fun r => (∀ c : Dev Cert.MlstmInRefIdeal.nD,
      r.2.mem ((c.tc : Thread Cert.MlstmInRefIdeal.nD Cert.MlstmInRefIdeal.τ).loc Cert.MlstmInRefIdeal.main_arg0) = m ((c.tc : Thread Cert.MlstmInRefIdeal.nD Cert.MlstmInRefIdeal.τ).loc Cert.MlstmInRefIdeal.main_arg0)
      ∧ r.2.mem ((c.tc : Thread Cert.MlstmInRefIdeal.nD Cert.MlstmInRefIdeal.τ).loc Cert.MlstmInRefIdeal.main_arg1) = m ((c.tc : Thread Cert.MlstmInRefIdeal.nD Cert.MlstmInRefIdeal.τ).loc Cert.MlstmInRefIdeal.main_arg1)
      ∧ r.2.mem ((c.tc : Thread Cert.MlstmInRefIdeal.nD Cert.MlstmInRefIdeal.τ).loc Cert.MlstmInRefIdeal.main_arg2) = m ((c.tc : Thread Cert.MlstmInRefIdeal.nD Cert.MlstmInRefIdeal.τ).loc Cert.MlstmInRefIdeal.main_arg2))
      ∧ r.2.sem = fun _ => 0)

def quiescent_HgrnIn [hHgrnIn : Cert.HgrnIn.Facts] : Prop :=
  ∀ (m : (ℓ : Loc Cert.HgrnIn.nD Cert.HgrnIn.τ Cert.HgrnIn.sig) → Buf (Elt Bits) ℓ) (g : Dev Cert.HgrnIn.nD → PrngReg), Pre_HgrnIn m →
    θ_run (Cert.HgrnIn.defs (F := Bits)) (onTc (τ := Cert.HgrnIn.τ) (Cert.HgrnIn.main (F := Bits))) ⟨m, fun _ => 0, g⟩ (fun r => (∀ c : Dev Cert.HgrnIn.nD,
      r.2.mem ((c.tc : Thread Cert.HgrnIn.nD Cert.HgrnIn.τ).loc Cert.HgrnIn.main_arg0) = m ((c.tc : Thread Cert.HgrnIn.nD Cert.HgrnIn.τ).loc Cert.HgrnIn.main_arg0)
      ∧ r.2.mem ((c.tc : Thread Cert.HgrnIn.nD Cert.HgrnIn.τ).loc Cert.HgrnIn.main_arg1) = m ((c.tc : Thread Cert.HgrnIn.nD Cert.HgrnIn.τ).loc Cert.HgrnIn.main_arg1)
      ∧ r.2.mem ((c.tc : Thread Cert.HgrnIn.nD Cert.HgrnIn.τ).loc Cert.HgrnIn.main_arg2) = m ((c.tc : Thread Cert.HgrnIn.nD Cert.HgrnIn.τ).loc Cert.HgrnIn.main_arg2))
      ∧ r.2.sem = fun _ => 0)

def quiescent_HgrnInIdeal [hHgrnInIdeal : Cert.HgrnInIdeal.Facts] : Prop :=
  ∀ (m : (ℓ : Loc Cert.HgrnInIdeal.nD Cert.HgrnInIdeal.τ Cert.HgrnInIdeal.sig) → Buf (Elt Ideal) ℓ) (g : Dev Cert.HgrnInIdeal.nD → PrngReg), Pre_HgrnInIdeal m →
    θ_run (Cert.HgrnInIdeal.defs (F := Ideal)) (onTc (τ := Cert.HgrnInIdeal.τ) (Cert.HgrnInIdeal.main (F := Ideal))) ⟨m, fun _ => 0, g⟩ (fun r => (∀ c : Dev Cert.HgrnInIdeal.nD,
      r.2.mem ((c.tc : Thread Cert.HgrnInIdeal.nD Cert.HgrnInIdeal.τ).loc Cert.HgrnInIdeal.main_arg0) = m ((c.tc : Thread Cert.HgrnInIdeal.nD Cert.HgrnInIdeal.τ).loc Cert.HgrnInIdeal.main_arg0)
      ∧ r.2.mem ((c.tc : Thread Cert.HgrnInIdeal.nD Cert.HgrnInIdeal.τ).loc Cert.HgrnInIdeal.main_arg1) = m ((c.tc : Thread Cert.HgrnInIdeal.nD Cert.HgrnInIdeal.τ).loc Cert.HgrnInIdeal.main_arg1)
      ∧ r.2.mem ((c.tc : Thread Cert.HgrnInIdeal.nD Cert.HgrnInIdeal.τ).loc Cert.HgrnInIdeal.main_arg2) = m ((c.tc : Thread Cert.HgrnInIdeal.nD Cert.HgrnInIdeal.τ).loc Cert.HgrnInIdeal.main_arg2))
      ∧ r.2.sem = fun _ => 0)

def quiescent_HgrnInRefIdeal [hHgrnInRefIdeal : Cert.HgrnInRefIdeal.Facts] : Prop :=
  ∀ (m : (ℓ : Loc Cert.HgrnInRefIdeal.nD Cert.HgrnInRefIdeal.τ Cert.HgrnInRefIdeal.sig) → Buf (Elt Ideal) ℓ) (g : Dev Cert.HgrnInRefIdeal.nD → PrngReg), Pre_HgrnInRefIdeal m →
    θ_run (Cert.HgrnInRefIdeal.defs (F := Ideal)) (onTc (τ := Cert.HgrnInRefIdeal.τ) (Cert.HgrnInRefIdeal.main (F := Ideal))) ⟨m, fun _ => 0, g⟩ (fun r => (∀ c : Dev Cert.HgrnInRefIdeal.nD,
      r.2.mem ((c.tc : Thread Cert.HgrnInRefIdeal.nD Cert.HgrnInRefIdeal.τ).loc Cert.HgrnInRefIdeal.main_arg0) = m ((c.tc : Thread Cert.HgrnInRefIdeal.nD Cert.HgrnInRefIdeal.τ).loc Cert.HgrnInRefIdeal.main_arg0)
      ∧ r.2.mem ((c.tc : Thread Cert.HgrnInRefIdeal.nD Cert.HgrnInRefIdeal.τ).loc Cert.HgrnInRefIdeal.main_arg1) = m ((c.tc : Thread Cert.HgrnInRefIdeal.nD Cert.HgrnInRefIdeal.τ).loc Cert.HgrnInRefIdeal.main_arg1)
      ∧ r.2.mem ((c.tc : Thread Cert.HgrnInRefIdeal.nD Cert.HgrnInRefIdeal.τ).loc Cert.HgrnInRefIdeal.main_arg2) = m ((c.tc : Thread Cert.HgrnInRefIdeal.nD Cert.HgrnInRefIdeal.τ).loc Cert.HgrnInRefIdeal.main_arg2))
      ∧ r.2.sem = fun _ => 0)

def quiescent_SsdIn [hSsdIn : Cert.SsdIn.Facts] : Prop :=
  ∀ (m : (ℓ : Loc Cert.SsdIn.nD Cert.SsdIn.τ Cert.SsdIn.sig) → Buf (Elt Bits) ℓ) (g : Dev Cert.SsdIn.nD → PrngReg), Pre_SsdIn m →
    θ_run (Cert.SsdIn.defs (F := Bits)) (onTc (τ := Cert.SsdIn.τ) (Cert.SsdIn.main (F := Bits))) ⟨m, fun _ => 0, g⟩ (fun r => (∀ c : Dev Cert.SsdIn.nD,
      r.2.mem ((c.tc : Thread Cert.SsdIn.nD Cert.SsdIn.τ).loc Cert.SsdIn.main_arg0) = m ((c.tc : Thread Cert.SsdIn.nD Cert.SsdIn.τ).loc Cert.SsdIn.main_arg0)
      ∧ r.2.mem ((c.tc : Thread Cert.SsdIn.nD Cert.SsdIn.τ).loc Cert.SsdIn.main_arg1) = m ((c.tc : Thread Cert.SsdIn.nD Cert.SsdIn.τ).loc Cert.SsdIn.main_arg1)
      ∧ r.2.mem ((c.tc : Thread Cert.SsdIn.nD Cert.SsdIn.τ).loc Cert.SsdIn.main_arg2) = m ((c.tc : Thread Cert.SsdIn.nD Cert.SsdIn.τ).loc Cert.SsdIn.main_arg2))
      ∧ r.2.sem = fun _ => 0)

def quiescent_SsdInIdeal [hSsdInIdeal : Cert.SsdInIdeal.Facts] : Prop :=
  ∀ (m : (ℓ : Loc Cert.SsdInIdeal.nD Cert.SsdInIdeal.τ Cert.SsdInIdeal.sig) → Buf (Elt Ideal) ℓ) (g : Dev Cert.SsdInIdeal.nD → PrngReg), Pre_SsdInIdeal m →
    θ_run (Cert.SsdInIdeal.defs (F := Ideal)) (onTc (τ := Cert.SsdInIdeal.τ) (Cert.SsdInIdeal.main (F := Ideal))) ⟨m, fun _ => 0, g⟩ (fun r => (∀ c : Dev Cert.SsdInIdeal.nD,
      r.2.mem ((c.tc : Thread Cert.SsdInIdeal.nD Cert.SsdInIdeal.τ).loc Cert.SsdInIdeal.main_arg0) = m ((c.tc : Thread Cert.SsdInIdeal.nD Cert.SsdInIdeal.τ).loc Cert.SsdInIdeal.main_arg0)
      ∧ r.2.mem ((c.tc : Thread Cert.SsdInIdeal.nD Cert.SsdInIdeal.τ).loc Cert.SsdInIdeal.main_arg1) = m ((c.tc : Thread Cert.SsdInIdeal.nD Cert.SsdInIdeal.τ).loc Cert.SsdInIdeal.main_arg1)
      ∧ r.2.mem ((c.tc : Thread Cert.SsdInIdeal.nD Cert.SsdInIdeal.τ).loc Cert.SsdInIdeal.main_arg2) = m ((c.tc : Thread Cert.SsdInIdeal.nD Cert.SsdInIdeal.τ).loc Cert.SsdInIdeal.main_arg2))
      ∧ r.2.sem = fun _ => 0)

def quiescent_SsdInRefIdeal [hSsdInRefIdeal : Cert.SsdInRefIdeal.Facts] : Prop :=
  ∀ (m : (ℓ : Loc Cert.SsdInRefIdeal.nD Cert.SsdInRefIdeal.τ Cert.SsdInRefIdeal.sig) → Buf (Elt Ideal) ℓ) (g : Dev Cert.SsdInRefIdeal.nD → PrngReg), Pre_SsdInRefIdeal m →
    θ_run (Cert.SsdInRefIdeal.defs (F := Ideal)) (onTc (τ := Cert.SsdInRefIdeal.τ) (Cert.SsdInRefIdeal.main (F := Ideal))) ⟨m, fun _ => 0, g⟩ (fun r => (∀ c : Dev Cert.SsdInRefIdeal.nD,
      r.2.mem ((c.tc : Thread Cert.SsdInRefIdeal.nD Cert.SsdInRefIdeal.τ).loc Cert.SsdInRefIdeal.main_arg0) = m ((c.tc : Thread Cert.SsdInRefIdeal.nD Cert.SsdInRefIdeal.τ).loc Cert.SsdInRefIdeal.main_arg0)
      ∧ r.2.mem ((c.tc : Thread Cert.SsdInRefIdeal.nD Cert.SsdInRefIdeal.τ).loc Cert.SsdInRefIdeal.main_arg1) = m ((c.tc : Thread Cert.SsdInRefIdeal.nD Cert.SsdInRefIdeal.τ).loc Cert.SsdInRefIdeal.main_arg1)
      ∧ r.2.mem ((c.tc : Thread Cert.SsdInRefIdeal.nD Cert.SsdInRefIdeal.τ).loc Cert.SsdInRefIdeal.main_arg2) = m ((c.tc : Thread Cert.SsdInRefIdeal.nD Cert.SsdInRefIdeal.τ).loc Cert.SsdInRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5))
      ∧ r.2.sem = fun _ => 0)

def quiescent_SsdOut [hSsdOut : Cert.SsdOut.Facts] : Prop :=
  ∀ (m : (ℓ : Loc Cert.SsdOut.nD Cert.SsdOut.τ Cert.SsdOut.sig) → Buf (Elt Bits) ℓ) (g : Dev Cert.SsdOut.nD → PrngReg), Pre_SsdOut m →
    θ_run (Cert.SsdOut.defs (F := Bits)) (onTc (τ := Cert.SsdOut.τ) (Cert.SsdOut.main (F := Bits))) ⟨m, fun _ => 0, g⟩ (fun r => (∀ c : Dev Cert.SsdOut.nD,
      r.2.mem ((c.tc : Thread Cert.SsdOut.nD Cert.SsdOut.τ).loc Cert.SsdOut.main_arg0) = m ((c.tc : Thread Cert.SsdOut.nD Cert.SsdOut.τ).loc Cert.SsdOut.main_arg0)
      ∧ r.2.mem ((c.tc : Thread Cert.SsdOut.nD Cert.SsdOut.τ).loc Cert.SsdOut.main_arg1) = m ((c.tc : Thread Cert.SsdOut.nD Cert.SsdOut.τ).loc Cert.SsdOut.main_arg1)
      ∧ r.2.mem ((c.tc : Thread Cert.SsdOut.nD Cert.SsdOut.τ).loc Cert.SsdOut.main_arg2) = m ((c.tc : Thread Cert.SsdOut.nD Cert.SsdOut.τ).loc Cert.SsdOut.main_arg2)
      ∧ r.2.mem ((c.tc : Thread Cert.SsdOut.nD Cert.SsdOut.τ).loc Cert.SsdOut.main_arg3) = m ((c.tc : Thread Cert.SsdOut.nD Cert.SsdOut.τ).loc Cert.SsdOut.main_arg3)
      ∧ r.2.mem ((c.tc : Thread Cert.SsdOut.nD Cert.SsdOut.τ).loc Cert.SsdOut.main_arg4) = m ((c.tc : Thread Cert.SsdOut.nD Cert.SsdOut.τ).loc Cert.SsdOut.main_arg4)
      ∧ r.2.mem ((c.tc : Thread Cert.SsdOut.nD Cert.SsdOut.τ).loc Cert.SsdOut.main_arg5) = m ((c.tc : Thread Cert.SsdOut.nD Cert.SsdOut.τ).loc Cert.SsdOut.main_arg5))
      ∧ r.2.sem = fun _ => 0)

def quiescent_SsdOutIdeal [hSsdOutIdeal : Cert.SsdOutIdeal.Facts] : Prop :=
  ∀ (m : (ℓ : Loc Cert.SsdOutIdeal.nD Cert.SsdOutIdeal.τ Cert.SsdOutIdeal.sig) → Buf (Elt Ideal) ℓ) (g : Dev Cert.SsdOutIdeal.nD → PrngReg), Pre_SsdOutIdeal m →
    θ_run (Cert.SsdOutIdeal.defs (F := Ideal)) (onTc (τ := Cert.SsdOutIdeal.τ) (Cert.SsdOutIdeal.main (F := Ideal))) ⟨m, fun _ => 0, g⟩ (fun r => (∀ c : Dev Cert.SsdOutIdeal.nD,
      r.2.mem ((c.tc : Thread Cert.SsdOutIdeal.nD Cert.SsdOutIdeal.τ).loc Cert.SsdOutIdeal.main_arg0) = m ((c.tc : Thread Cert.SsdOutIdeal.nD Cert.SsdOutIdeal.τ).loc Cert.SsdOutIdeal.main_arg0)
      ∧ r.2.mem ((c.tc : Thread Cert.SsdOutIdeal.nD Cert.SsdOutIdeal.τ).loc Cert.SsdOutIdeal.main_arg1) = m ((c.tc : Thread Cert.SsdOutIdeal.nD Cert.SsdOutIdeal.τ).loc Cert.SsdOutIdeal.main_arg1)
      ∧ r.2.mem ((c.tc : Thread Cert.SsdOutIdeal.nD Cert.SsdOutIdeal.τ).loc Cert.SsdOutIdeal.main_arg2) = m ((c.tc : Thread Cert.SsdOutIdeal.nD Cert.SsdOutIdeal.τ).loc Cert.SsdOutIdeal.main_arg2)
      ∧ r.2.mem ((c.tc : Thread Cert.SsdOutIdeal.nD Cert.SsdOutIdeal.τ).loc Cert.SsdOutIdeal.main_arg3) = m ((c.tc : Thread Cert.SsdOutIdeal.nD Cert.SsdOutIdeal.τ).loc Cert.SsdOutIdeal.main_arg3)
      ∧ r.2.mem ((c.tc : Thread Cert.SsdOutIdeal.nD Cert.SsdOutIdeal.τ).loc Cert.SsdOutIdeal.main_arg4) = m ((c.tc : Thread Cert.SsdOutIdeal.nD Cert.SsdOutIdeal.τ).loc Cert.SsdOutIdeal.main_arg4)
      ∧ r.2.mem ((c.tc : Thread Cert.SsdOutIdeal.nD Cert.SsdOutIdeal.τ).loc Cert.SsdOutIdeal.main_arg5) = m ((c.tc : Thread Cert.SsdOutIdeal.nD Cert.SsdOutIdeal.τ).loc Cert.SsdOutIdeal.main_arg5))
      ∧ r.2.sem = fun _ => 0)

def quiescent_SsdOutRefIdeal [hSsdOutRefIdeal : Cert.SsdOutRefIdeal.Facts] : Prop :=
  ∀ (m : (ℓ : Loc Cert.SsdOutRefIdeal.nD Cert.SsdOutRefIdeal.τ Cert.SsdOutRefIdeal.sig) → Buf (Elt Ideal) ℓ) (g : Dev Cert.SsdOutRefIdeal.nD → PrngReg), Pre_SsdOutRefIdeal m →
    θ_run (Cert.SsdOutRefIdeal.defs (F := Ideal)) (onTc (τ := Cert.SsdOutRefIdeal.τ) (Cert.SsdOutRefIdeal.main (F := Ideal))) ⟨m, fun _ => 0, g⟩ (fun r => (∀ c : Dev Cert.SsdOutRefIdeal.nD,
      r.2.mem ((c.tc : Thread Cert.SsdOutRefIdeal.nD Cert.SsdOutRefIdeal.τ).loc Cert.SsdOutRefIdeal.main_arg0) = m ((c.tc : Thread Cert.SsdOutRefIdeal.nD Cert.SsdOutRefIdeal.τ).loc Cert.SsdOutRefIdeal.main_arg0)
      ∧ r.2.mem ((c.tc : Thread Cert.SsdOutRefIdeal.nD Cert.SsdOutRefIdeal.τ).loc Cert.SsdOutRefIdeal.main_arg1) = m ((c.tc : Thread Cert.SsdOutRefIdeal.nD Cert.SsdOutRefIdeal.τ).loc Cert.SsdOutRefIdeal.main_arg1)
      ∧ r.2.mem ((c.tc : Thread Cert.SsdOutRefIdeal.nD Cert.SsdOutRefIdeal.τ).loc Cert.SsdOutRefIdeal.main_arg2) = m ((c.tc : Thread Cert.SsdOutRefIdeal.nD Cert.SsdOutRefIdeal.τ).loc Cert.SsdOutRefIdeal.main_arg2)
      ∧ r.2.mem ((c.tc : Thread Cert.SsdOutRefIdeal.nD Cert.SsdOutRefIdeal.τ).loc Cert.SsdOutRefIdeal.main_arg3) = m ((c.tc : Thread Cert.SsdOutRefIdeal.nD Cert.SsdOutRefIdeal.τ).loc Cert.SsdOutRefIdeal.main_arg3)
      ∧ r.2.mem ((c.tc : Thread Cert.SsdOutRefIdeal.nD Cert.SsdOutRefIdeal.τ).loc Cert.SsdOutRefIdeal.main_arg4) = m ((c.tc : Thread Cert.SsdOutRefIdeal.nD Cert.SsdOutRefIdeal.τ).loc Cert.SsdOutRefIdeal.main_arg4)
      ∧ r.2.mem ((c.tc : Thread Cert.SsdOutRefIdeal.nD Cert.SsdOutRefIdeal.τ).loc Cert.SsdOutRefIdeal.main_arg5) = m ((c.tc : Thread Cert.SsdOutRefIdeal.nD Cert.SsdOutRefIdeal.τ).loc Cert.SsdOutRefIdeal.main_arg5))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_MlstmGates [hMlstmGates : Cert.MlstmGates.Facts] : Prop :=
  ∀ (m : (ℓ : Loc Cert.MlstmGates.nD Cert.MlstmGates.τ Cert.MlstmGates.sig) → Buf (Elt Bits) ℓ) (g : Dev Cert.MlstmGates.nD → PrngReg), Pre_MlstmGates m →
    θ_run (Cert.MlstmGates.defs (F := Bits)) (onTc (τ := Cert.MlstmGates.τ) (Cert.MlstmGates.main (F := Bits))) ⟨m, fun _ => 0, g⟩ (fun r => (∀ c : Dev Cert.MlstmGates.nD,
      r.2.mem ((c.tc : Thread Cert.MlstmGates.nD Cert.MlstmGates.τ).loc Cert.MlstmGates.main_arg0) = m ((c.tc : Thread Cert.MlstmGates.nD Cert.MlstmGates.τ).loc Cert.MlstmGates.main_arg0)
      ∧ r.2.mem ((c.tc : Thread Cert.MlstmGates.nD Cert.MlstmGates.τ).loc Cert.MlstmGates.main_arg1) = m ((c.tc : Thread Cert.MlstmGates.nD Cert.MlstmGates.τ).loc Cert.MlstmGates.main_arg1)
      ∧ r.2.mem ((c.tc : Thread Cert.MlstmGates.nD Cert.MlstmGates.τ).loc Cert.MlstmGates.main_arg2) = m ((c.tc : Thread Cert.MlstmGates.nD Cert.MlstmGates.τ).loc Cert.MlstmGates.main_arg2))
      ∧ r.2.sem = fun _ => 0)

def quiescent_MlstmGatesIdeal [hMlstmGatesIdeal : Cert.MlstmGatesIdeal.Facts] : Prop :=
  ∀ (m : (ℓ : Loc Cert.MlstmGatesIdeal.nD Cert.MlstmGatesIdeal.τ Cert.MlstmGatesIdeal.sig) → Buf (Elt Ideal) ℓ) (g : Dev Cert.MlstmGatesIdeal.nD → PrngReg), Pre_MlstmGatesIdeal m →
    θ_run (Cert.MlstmGatesIdeal.defs (F := Ideal)) (onTc (τ := Cert.MlstmGatesIdeal.τ) (Cert.MlstmGatesIdeal.main (F := Ideal))) ⟨m, fun _ => 0, g⟩ (fun r => (∀ c : Dev Cert.MlstmGatesIdeal.nD,
      r.2.mem ((c.tc : Thread Cert.MlstmGatesIdeal.nD Cert.MlstmGatesIdeal.τ).loc Cert.MlstmGatesIdeal.main_arg0) = m ((c.tc : Thread Cert.MlstmGatesIdeal.nD Cert.MlstmGatesIdeal.τ).loc Cert.MlstmGatesIdeal.main_arg0)
      ∧ r.2.mem ((c.tc : Thread Cert.MlstmGatesIdeal.nD Cert.MlstmGatesIdeal.τ).loc Cert.MlstmGatesIdeal.main_arg1) = m ((c.tc : Thread Cert.MlstmGatesIdeal.nD Cert.MlstmGatesIdeal.τ).loc Cert.MlstmGatesIdeal.main_arg1)
      ∧ r.2.mem ((c.tc : Thread Cert.MlstmGatesIdeal.nD Cert.MlstmGatesIdeal.τ).loc Cert.MlstmGatesIdeal.main_arg2) = m ((c.tc : Thread Cert.MlstmGatesIdeal.nD Cert.MlstmGatesIdeal.τ).loc Cert.MlstmGatesIdeal.main_arg2))
      ∧ r.2.sem = fun _ => 0)

def quiescent_MlstmGatesRefIdeal [hMlstmGatesRefIdeal : Cert.MlstmGatesRefIdeal.Facts] : Prop :=
  ∀ (m : (ℓ : Loc Cert.MlstmGatesRefIdeal.nD Cert.MlstmGatesRefIdeal.τ Cert.MlstmGatesRefIdeal.sig) → Buf (Elt Ideal) ℓ) (g : Dev Cert.MlstmGatesRefIdeal.nD → PrngReg), Pre_MlstmGatesRefIdeal m →
    θ_run (Cert.MlstmGatesRefIdeal.defs (F := Ideal)) (onTc (τ := Cert.MlstmGatesRefIdeal.τ) (Cert.MlstmGatesRefIdeal.main (F := Ideal))) ⟨m, fun _ => 0, g⟩ (fun r => (∀ c : Dev Cert.MlstmGatesRefIdeal.nD,
      r.2.mem ((c.tc : Thread Cert.MlstmGatesRefIdeal.nD Cert.MlstmGatesRefIdeal.τ).loc Cert.MlstmGatesRefIdeal.main_arg0) = m ((c.tc : Thread Cert.MlstmGatesRefIdeal.nD Cert.MlstmGatesRefIdeal.τ).loc Cert.MlstmGatesRefIdeal.main_arg0)
      ∧ r.2.mem ((c.tc : Thread Cert.MlstmGatesRefIdeal.nD Cert.MlstmGatesRefIdeal.τ).loc Cert.MlstmGatesRefIdeal.main_arg1) = m ((c.tc : Thread Cert.MlstmGatesRefIdeal.nD Cert.MlstmGatesRefIdeal.τ).loc Cert.MlstmGatesRefIdeal.main_arg1)
      ∧ r.2.mem ((c.tc : Thread Cert.MlstmGatesRefIdeal.nD Cert.MlstmGatesRefIdeal.τ).loc Cert.MlstmGatesRefIdeal.main_arg2) = m ((c.tc : Thread Cert.MlstmGatesRefIdeal.nD Cert.MlstmGatesRefIdeal.τ).loc Cert.MlstmGatesRefIdeal.main_arg2))
      ∧ r.2.sem = fun _ => 0)

def quiescent_SsdDt [hSsdDt : Cert.SsdDt.Facts] : Prop :=
  ∀ (m : (ℓ : Loc Cert.SsdDt.nD Cert.SsdDt.τ Cert.SsdDt.sig) → Buf (Elt Bits) ℓ) (g : Dev Cert.SsdDt.nD → PrngReg), Pre_SsdDt m →
    θ_run (Cert.SsdDt.defs (F := Bits)) (onTc (τ := Cert.SsdDt.τ) (Cert.SsdDt.main (F := Bits))) ⟨m, fun _ => 0, g⟩ (fun r => (∀ c : Dev Cert.SsdDt.nD,
      r.2.mem ((c.tc : Thread Cert.SsdDt.nD Cert.SsdDt.τ).loc Cert.SsdDt.main_arg0) = m ((c.tc : Thread Cert.SsdDt.nD Cert.SsdDt.τ).loc Cert.SsdDt.main_arg0)
      ∧ r.2.mem ((c.tc : Thread Cert.SsdDt.nD Cert.SsdDt.τ).loc Cert.SsdDt.main_arg1) = m ((c.tc : Thread Cert.SsdDt.nD Cert.SsdDt.τ).loc Cert.SsdDt.main_arg1)
      ∧ r.2.mem ((c.tc : Thread Cert.SsdDt.nD Cert.SsdDt.τ).loc Cert.SsdDt.main_arg2) = m ((c.tc : Thread Cert.SsdDt.nD Cert.SsdDt.τ).loc Cert.SsdDt.main_arg2))
      ∧ r.2.sem = fun _ => 0)

def quiescent_SsdDtIdeal [hSsdDtIdeal : Cert.SsdDtIdeal.Facts] : Prop :=
  ∀ (m : (ℓ : Loc Cert.SsdDtIdeal.nD Cert.SsdDtIdeal.τ Cert.SsdDtIdeal.sig) → Buf (Elt Ideal) ℓ) (g : Dev Cert.SsdDtIdeal.nD → PrngReg), Pre_SsdDtIdeal m →
    θ_run (Cert.SsdDtIdeal.defs (F := Ideal)) (onTc (τ := Cert.SsdDtIdeal.τ) (Cert.SsdDtIdeal.main (F := Ideal))) ⟨m, fun _ => 0, g⟩ (fun r => (∀ c : Dev Cert.SsdDtIdeal.nD,
      r.2.mem ((c.tc : Thread Cert.SsdDtIdeal.nD Cert.SsdDtIdeal.τ).loc Cert.SsdDtIdeal.main_arg0) = m ((c.tc : Thread Cert.SsdDtIdeal.nD Cert.SsdDtIdeal.τ).loc Cert.SsdDtIdeal.main_arg0)
      ∧ r.2.mem ((c.tc : Thread Cert.SsdDtIdeal.nD Cert.SsdDtIdeal.τ).loc Cert.SsdDtIdeal.main_arg1) = m ((c.tc : Thread Cert.SsdDtIdeal.nD Cert.SsdDtIdeal.τ).loc Cert.SsdDtIdeal.main_arg1)
      ∧ r.2.mem ((c.tc : Thread Cert.SsdDtIdeal.nD Cert.SsdDtIdeal.τ).loc Cert.SsdDtIdeal.main_arg2) = m ((c.tc : Thread Cert.SsdDtIdeal.nD Cert.SsdDtIdeal.τ).loc Cert.SsdDtIdeal.main_arg2))
      ∧ r.2.sem = fun _ => 0)

def quiescent_SsdDtRefIdeal [hSsdDtRefIdeal : Cert.SsdDtRefIdeal.Facts] : Prop :=
  ∀ (m : (ℓ : Loc Cert.SsdDtRefIdeal.nD Cert.SsdDtRefIdeal.τ Cert.SsdDtRefIdeal.sig) → Buf (Elt Ideal) ℓ) (g : Dev Cert.SsdDtRefIdeal.nD → PrngReg), Pre_SsdDtRefIdeal m →
    θ_run (Cert.SsdDtRefIdeal.defs (F := Ideal)) (onTc (τ := Cert.SsdDtRefIdeal.τ) (Cert.SsdDtRefIdeal.main (F := Ideal))) ⟨m, fun _ => 0, g⟩ (fun r => (∀ c : Dev Cert.SsdDtRefIdeal.nD,
      r.2.mem ((c.tc : Thread Cert.SsdDtRefIdeal.nD Cert.SsdDtRefIdeal.τ).loc Cert.SsdDtRefIdeal.main_arg0) = m ((c.tc : Thread Cert.SsdDtRefIdeal.nD Cert.SsdDtRefIdeal.τ).loc Cert.SsdDtRefIdeal.main_arg0)
      ∧ r.2.mem ((c.tc : Thread Cert.SsdDtRefIdeal.nD Cert.SsdDtRefIdeal.τ).loc Cert.SsdDtRefIdeal.main_arg1) = m ((c.tc : Thread Cert.SsdDtRefIdeal.nD Cert.SsdDtRefIdeal.τ).loc Cert.SsdDtRefIdeal.main_arg1)
      ∧ r.2.mem ((c.tc : Thread Cert.SsdDtRefIdeal.nD Cert.SsdDtRefIdeal.τ).loc Cert.SsdDtRefIdeal.main_arg2) = m ((c.tc : Thread Cert.SsdDtRefIdeal.nD Cert.SsdDtRefIdeal.τ).loc Cert.SsdDtRefIdeal.main_arg2))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_W1Prep [hW1Prep : Cert.W1Prep.Facts] : Prop :=
  ∀ (m : (ℓ : Loc Cert.W1Prep.nD Cert.W1Prep.τ Cert.W1Prep.sig) → Buf (Elt Bits) ℓ) (g : Dev Cert.W1Prep.nD → PrngReg), Pre_W1Prep m →
    θ_run (Cert.W1Prep.defs (F := Bits)) (onTc (τ := Cert.W1Prep.τ) (Cert.W1Prep.main (F := Bits))) ⟨m, fun _ => 0, g⟩ (fun r => (∀ c : Dev Cert.W1Prep.nD,
      r.2.mem ((c.tc : Thread Cert.W1Prep.nD Cert.W1Prep.τ).loc Cert.W1Prep.main_arg0) = m ((c.tc : Thread Cert.W1Prep.nD Cert.W1Prep.τ).loc Cert.W1Prep.main_arg0))
      ∧ r.2.sem = fun _ => 0)

def quiescent_W1PrepIdeal [hW1PrepIdeal : Cert.W1PrepIdeal.Facts] : Prop :=
  ∀ (m : (ℓ : Loc Cert.W1PrepIdeal.nD Cert.W1PrepIdeal.τ Cert.W1PrepIdeal.sig) → Buf (Elt Ideal) ℓ) (g : Dev Cert.W1PrepIdeal.nD → PrngReg), Pre_W1PrepIdeal m →
    θ_run (Cert.W1PrepIdeal.defs (F := Ideal)) (onTc (τ := Cert.W1PrepIdeal.τ) (Cert.W1PrepIdeal.main (F := Ideal))) ⟨m, fun _ => 0, g⟩ (fun r => (∀ c : Dev Cert.W1PrepIdeal.nD,
      r.2.mem ((c.tc : Thread Cert.W1PrepIdeal.nD Cert.W1PrepIdeal.τ).loc Cert.W1PrepIdeal.main_arg0) = m ((c.tc : Thread Cert.W1PrepIdeal.nD Cert.W1PrepIdeal.τ).loc Cert.W1PrepIdeal.main_arg0))
      ∧ r.2.sem = fun _ => 0)

def quiescent_W1PrepRefIdeal [hW1PrepRefIdeal : Cert.W1PrepRefIdeal.Facts] : Prop :=
  ∀ (m : (ℓ : Loc Cert.W1PrepRefIdeal.nD Cert.W1PrepRefIdeal.τ Cert.W1PrepRefIdeal.sig) → Buf (Elt Ideal) ℓ) (g : Dev Cert.W1PrepRefIdeal.nD → PrngReg), Pre_W1PrepRefIdeal m →
    θ_run (Cert.W1PrepRefIdeal.defs (F := Ideal)) (onTc (τ := Cert.W1PrepRefIdeal.τ) (Cert.W1PrepRefIdeal.main (F := Ideal))) ⟨m, fun _ => 0, g⟩ (fun r => (∀ c : Dev Cert.W1PrepRefIdeal.nD,
      r.2.mem ((c.tc : Thread Cert.W1PrepRefIdeal.nD Cert.W1PrepRefIdeal.τ).loc Cert.W1PrepRefIdeal.main_arg0) = m ((c.tc : Thread Cert.W1PrepRefIdeal.nD Cert.W1PrepRefIdeal.τ).loc Cert.W1PrepRefIdeal.main_arg0))
      ∧ r.2.sem = fun _ => 0)

def preserves_Kernel_KernelIdeal : Prop :=
  True

def algebraic_KernelIdeal_ReferenceIdeal_pre_qkv_finite [hKernelIdeal : Cert.KernelIdeal.Facts] [hReferenceIdeal : Cert.ReferenceIdeal.Facts] [hPre_qkv_finite : Cert.Pre_qkv_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_qkv_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_MlstmIn_MlstmInIdeal : Prop :=
  True

def algebraic_MlstmInIdeal_MlstmInRefIdeal [hMlstmInIdeal : Cert.MlstmInIdeal.Facts] [hMlstmInRefIdeal : Cert.MlstmInRefIdeal.Facts] : Prop :=
  ∀ (m : (ℓ : Loc Cert.MlstmInIdeal.nD Cert.MlstmInIdeal.τ Cert.MlstmInIdeal.sig) → Buf (Elt Ideal) ℓ) (g : Dev Cert.MlstmInIdeal.nD → PrngReg)
    (m' : (ℓ : Loc Cert.MlstmInRefIdeal.nD Cert.MlstmInRefIdeal.τ Cert.MlstmInRefIdeal.sig) → Buf (Elt Ideal) ℓ) (g' : Dev Cert.MlstmInRefIdeal.nD → PrngReg), Pre_MlstmInIdeal m →
    (∀ c : Dev Cert.MlstmInIdeal.nD,
      m' ((c.tc : Thread Cert.MlstmInRefIdeal.nD Cert.MlstmInRefIdeal.τ).loc Cert.MlstmInRefIdeal.main_arg0) = m ((c.tc : Thread Cert.MlstmInIdeal.nD Cert.MlstmInIdeal.τ).loc Cert.MlstmInIdeal.main_arg0)
      ∧ m' ((c.tc : Thread Cert.MlstmInRefIdeal.nD Cert.MlstmInRefIdeal.τ).loc Cert.MlstmInRefIdeal.main_arg1) = m ((c.tc : Thread Cert.MlstmInIdeal.nD Cert.MlstmInIdeal.τ).loc Cert.MlstmInIdeal.main_arg1)
      ∧ m' ((c.tc : Thread Cert.MlstmInRefIdeal.nD Cert.MlstmInRefIdeal.τ).loc Cert.MlstmInRefIdeal.main_arg2) = m ((c.tc : Thread Cert.MlstmInIdeal.nD Cert.MlstmInIdeal.τ).loc Cert.MlstmInIdeal.main_arg2)) →
    ∃ (v0 : (c : Dev Cert.MlstmInIdeal.nD) → Buf (Elt Ideal) ((c.tc : Thread Cert.MlstmInIdeal.nD Cert.MlstmInIdeal.τ).loc Cert.MlstmInIdeal.main_v3)),
      θ_run (Cert.MlstmInIdeal.defs (F := Ideal)) (onTc (τ := Cert.MlstmInIdeal.τ) (Cert.MlstmInIdeal.main (F := Ideal))) ⟨m, fun _ => 0, g⟩ (fun r => ∀ c : Dev Cert.MlstmInIdeal.nD,
          r.2.mem ((c.tc : Thread Cert.MlstmInIdeal.nD Cert.MlstmInIdeal.τ).loc Cert.MlstmInIdeal.main_v3) = v0 c
          ∧ r.2.mem ((c.tc : Thread Cert.MlstmInIdeal.nD Cert.MlstmInIdeal.τ).loc Cert.MlstmInIdeal.main_arg0) = m ((c.tc : Thread Cert.MlstmInIdeal.nD Cert.MlstmInIdeal.τ).loc Cert.MlstmInIdeal.main_arg0)
          ∧ r.2.mem ((c.tc : Thread Cert.MlstmInIdeal.nD Cert.MlstmInIdeal.τ).loc Cert.MlstmInIdeal.main_arg1) = m ((c.tc : Thread Cert.MlstmInIdeal.nD Cert.MlstmInIdeal.τ).loc Cert.MlstmInIdeal.main_arg1)
          ∧ r.2.mem ((c.tc : Thread Cert.MlstmInIdeal.nD Cert.MlstmInIdeal.τ).loc Cert.MlstmInIdeal.main_arg2) = m ((c.tc : Thread Cert.MlstmInIdeal.nD Cert.MlstmInIdeal.τ).loc Cert.MlstmInIdeal.main_arg2))
      ∧ θ_run (Cert.MlstmInRefIdeal.defs (F := Ideal)) (onTc (τ := Cert.MlstmInRefIdeal.τ) (Cert.MlstmInRefIdeal.main (F := Ideal))) ⟨m', fun _ => 0, g'⟩ (fun r => ∀ c : Dev Cert.MlstmInRefIdeal.nD,
          r.2.mem ((c.tc : Thread Cert.MlstmInRefIdeal.nD Cert.MlstmInRefIdeal.τ).loc Cert.MlstmInRefIdeal.main_v17) = v0 c
          ∧ r.2.mem ((c.tc : Thread Cert.MlstmInRefIdeal.nD Cert.MlstmInRefIdeal.τ).loc Cert.MlstmInRefIdeal.main_arg0) = m' ((c.tc : Thread Cert.MlstmInRefIdeal.nD Cert.MlstmInRefIdeal.τ).loc Cert.MlstmInRefIdeal.main_arg0)
          ∧ r.2.mem ((c.tc : Thread Cert.MlstmInRefIdeal.nD Cert.MlstmInRefIdeal.τ).loc Cert.MlstmInRefIdeal.main_arg1) = m' ((c.tc : Thread Cert.MlstmInRefIdeal.nD Cert.MlstmInRefIdeal.τ).loc Cert.MlstmInRefIdeal.main_arg1)
          ∧ r.2.mem ((c.tc : Thread Cert.MlstmInRefIdeal.nD Cert.MlstmInRefIdeal.τ).loc Cert.MlstmInRefIdeal.main_arg2) = m' ((c.tc : Thread Cert.MlstmInRefIdeal.nD Cert.MlstmInRefIdeal.τ).loc Cert.MlstmInRefIdeal.main_arg2))

def preserves_HgrnIn_HgrnInIdeal : Prop :=
  True

def algebraic_HgrnInIdeal_HgrnInRefIdeal [hHgrnInIdeal : Cert.HgrnInIdeal.Facts] [hHgrnInRefIdeal : Cert.HgrnInRefIdeal.Facts] : Prop :=
  ∀ (m : (ℓ : Loc Cert.HgrnInIdeal.nD Cert.HgrnInIdeal.τ Cert.HgrnInIdeal.sig) → Buf (Elt Ideal) ℓ) (g : Dev Cert.HgrnInIdeal.nD → PrngReg)
    (m' : (ℓ : Loc Cert.HgrnInRefIdeal.nD Cert.HgrnInRefIdeal.τ Cert.HgrnInRefIdeal.sig) → Buf (Elt Ideal) ℓ) (g' : Dev Cert.HgrnInRefIdeal.nD → PrngReg), Pre_HgrnInIdeal m →
    (∀ c : Dev Cert.HgrnInIdeal.nD,
      m' ((c.tc : Thread Cert.HgrnInRefIdeal.nD Cert.HgrnInRefIdeal.τ).loc Cert.HgrnInRefIdeal.main_arg0) = m ((c.tc : Thread Cert.HgrnInIdeal.nD Cert.HgrnInIdeal.τ).loc Cert.HgrnInIdeal.main_arg0)
      ∧ m' ((c.tc : Thread Cert.HgrnInRefIdeal.nD Cert.HgrnInRefIdeal.τ).loc Cert.HgrnInRefIdeal.main_arg1) = m ((c.tc : Thread Cert.HgrnInIdeal.nD Cert.HgrnInIdeal.τ).loc Cert.HgrnInIdeal.main_arg1)
      ∧ m' ((c.tc : Thread Cert.HgrnInRefIdeal.nD Cert.HgrnInRefIdeal.τ).loc Cert.HgrnInRefIdeal.main_arg2) = m ((c.tc : Thread Cert.HgrnInIdeal.nD Cert.HgrnInIdeal.τ).loc Cert.HgrnInIdeal.main_arg2)) →
    ∃ (v0 : (c : Dev Cert.HgrnInIdeal.nD) → Buf (Elt Ideal) ((c.tc : Thread Cert.HgrnInIdeal.nD Cert.HgrnInIdeal.τ).loc Cert.HgrnInIdeal.main_v5)),
      θ_run (Cert.HgrnInIdeal.defs (F := Ideal)) (onTc (τ := Cert.HgrnInIdeal.τ) (Cert.HgrnInIdeal.main (F := Ideal))) ⟨m, fun _ => 0, g⟩ (fun r => ∀ c : Dev Cert.HgrnInIdeal.nD,
          r.2.mem ((c.tc : Thread Cert.HgrnInIdeal.nD Cert.HgrnInIdeal.τ).loc Cert.HgrnInIdeal.main_v5) = v0 c
          ∧ r.2.mem ((c.tc : Thread Cert.HgrnInIdeal.nD Cert.HgrnInIdeal.τ).loc Cert.HgrnInIdeal.main_arg0) = m ((c.tc : Thread Cert.HgrnInIdeal.nD Cert.HgrnInIdeal.τ).loc Cert.HgrnInIdeal.main_arg0)
          ∧ r.2.mem ((c.tc : Thread Cert.HgrnInIdeal.nD Cert.HgrnInIdeal.τ).loc Cert.HgrnInIdeal.main_arg1) = m ((c.tc : Thread Cert.HgrnInIdeal.nD Cert.HgrnInIdeal.τ).loc Cert.HgrnInIdeal.main_arg1)
          ∧ r.2.mem ((c.tc : Thread Cert.HgrnInIdeal.nD Cert.HgrnInIdeal.τ).loc Cert.HgrnInIdeal.main_arg2) = m ((c.tc : Thread Cert.HgrnInIdeal.nD Cert.HgrnInIdeal.τ).loc Cert.HgrnInIdeal.main_arg2))
      ∧ θ_run (Cert.HgrnInRefIdeal.defs (F := Ideal)) (onTc (τ := Cert.HgrnInRefIdeal.τ) (Cert.HgrnInRefIdeal.main (F := Ideal))) ⟨m', fun _ => 0, g'⟩ (fun r => ∀ c : Dev Cert.HgrnInRefIdeal.nD,
          r.2.mem ((c.tc : Thread Cert.HgrnInRefIdeal.nD Cert.HgrnInRefIdeal.τ).loc Cert.HgrnInRefIdeal.main_v18) = v0 c
          ∧ r.2.mem ((c.tc : Thread Cert.HgrnInRefIdeal.nD Cert.HgrnInRefIdeal.τ).loc Cert.HgrnInRefIdeal.main_arg0) = m' ((c.tc : Thread Cert.HgrnInRefIdeal.nD Cert.HgrnInRefIdeal.τ).loc Cert.HgrnInRefIdeal.main_arg0)
          ∧ r.2.mem ((c.tc : Thread Cert.HgrnInRefIdeal.nD Cert.HgrnInRefIdeal.τ).loc Cert.HgrnInRefIdeal.main_arg1) = m' ((c.tc : Thread Cert.HgrnInRefIdeal.nD Cert.HgrnInRefIdeal.τ).loc Cert.HgrnInRefIdeal.main_arg1)
          ∧ r.2.mem ((c.tc : Thread Cert.HgrnInRefIdeal.nD Cert.HgrnInRefIdeal.τ).loc Cert.HgrnInRefIdeal.main_arg2) = m' ((c.tc : Thread Cert.HgrnInRefIdeal.nD Cert.HgrnInRefIdeal.τ).loc Cert.HgrnInRefIdeal.main_arg2))

def preserves_SsdIn_SsdInIdeal : Prop :=
  True

def algebraic_SsdInIdeal_SsdInRefIdeal [hSsdInIdeal : Cert.SsdInIdeal.Facts] [hSsdInRefIdeal : Cert.SsdInRefIdeal.Facts] : Prop :=
  ∀ (m : (ℓ : Loc Cert.SsdInIdeal.nD Cert.SsdInIdeal.τ Cert.SsdInIdeal.sig) → Buf (Elt Ideal) ℓ) (g : Dev Cert.SsdInIdeal.nD → PrngReg)
    (m' : (ℓ : Loc Cert.SsdInRefIdeal.nD Cert.SsdInRefIdeal.τ Cert.SsdInRefIdeal.sig) → Buf (Elt Ideal) ℓ) (g' : Dev Cert.SsdInRefIdeal.nD → PrngReg), Pre_SsdInIdeal m →
    (∀ c : Dev Cert.SsdInIdeal.nD,
      m' ((c.tc : Thread Cert.SsdInRefIdeal.nD Cert.SsdInRefIdeal.τ).loc Cert.SsdInRefIdeal.main_arg0) = m ((c.tc : Thread Cert.SsdInIdeal.nD Cert.SsdInIdeal.τ).loc Cert.SsdInIdeal.main_arg0)
      ∧ m' ((c.tc : Thread Cert.SsdInRefIdeal.nD Cert.SsdInRefIdeal.τ).loc Cert.SsdInRefIdeal.main_arg1) = m ((c.tc : Thread Cert.SsdInIdeal.nD Cert.SsdInIdeal.τ).loc Cert.SsdInIdeal.main_arg1)
      ∧ m' ((c.tc : Thread Cert.SsdInRefIdeal.nD Cert.SsdInRefIdeal.τ).loc Cert.SsdInRefIdeal.main_arg2) = m ((c.tc : Thread Cert.SsdInIdeal.nD Cert.SsdInIdeal.τ).loc Cert.SsdInIdeal.main_arg2)) →
    ∃ (v0 : (c : Dev Cert.SsdInIdeal.nD) → Buf (Elt Ideal) ((c.tc : Thread Cert.SsdInIdeal.nD Cert.SsdInIdeal.τ).loc Cert.SsdInIdeal.main_v3)),
      θ_run (Cert.SsdInIdeal.defs (F := Ideal)) (onTc (τ := Cert.SsdInIdeal.τ) (Cert.SsdInIdeal.main (F := Ideal))) ⟨m, fun _ => 0, g⟩ (fun r => ∀ c : Dev Cert.SsdInIdeal.nD,
          r.2.mem ((c.tc : Thread Cert.SsdInIdeal.nD Cert.SsdInIdeal.τ).loc Cert.SsdInIdeal.main_v3) = v0 c
          ∧ r.2.mem ((c.tc : Thread Cert.SsdInIdeal.nD Cert.SsdInIdeal.τ).loc Cert.SsdInIdeal.main_arg0) = m ((c.tc : Thread Cert.SsdInIdeal.nD Cert.SsdInIdeal.τ).loc Cert.SsdInIdeal.main_arg0)
          ∧ r.2.mem ((c.tc : Thread Cert.SsdInIdeal.nD Cert.SsdInIdeal.τ).loc Cert.SsdInIdeal.main_arg1) = m ((c.tc : Thread Cert.SsdInIdeal.nD Cert.SsdInIdeal.τ).loc Cert.SsdInIdeal.main_arg1)
          ∧ r.2.mem ((c.tc : Thread Cert.SsdInIdeal.nD Cert.SsdInIdeal.τ).loc Cert.SsdInIdeal.main_arg2) = m ((c.tc : Thread Cert.SsdInIdeal.nD Cert.SsdInIdeal.τ).loc Cert.SsdInIdeal.main_arg2))
      ∧ θ_run (Cert.SsdInRefIdeal.defs (F := Ideal)) (onTc (τ := Cert.SsdInRefIdeal.τ) (Cert.SsdInRefIdeal.main (F := Ideal))) ⟨m', fun _ => 0, g'⟩ (fun r => ∀ c : Dev Cert.SsdInRefIdeal.nD,
          r.2.mem ((c.tc : Thread Cert.SsdInRefIdeal.nD Cert.SsdInRefIdeal.τ).loc Cert.SsdInRefIdeal.main_v17) = v0 c
          ∧ r.2.mem ((c.tc : Thread Cert.SsdInRefIdeal.nD Cert.SsdInRefIdeal.τ).loc Cert.SsdInRefIdeal.main_arg0) = m' ((c.tc : Thread Cert.SsdInRefIdeal.nD Cert.SsdInRefIdeal.τ).loc Cert.SsdInRefIdeal.main_arg0)
          ∧ r.2.mem ((c.tc : Thread Cert.SsdInRefIdeal.nD Cert.SsdInRefIdeal.τ).loc Cert.SsdInRefIdeal.main_arg1) = m' ((c.tc : Thread Cert.SsdInRefIdeal.nD Cert.SsdInRefIdeal.τ).loc Cert.SsdInRefIdeal.main_arg1)
          ∧ r.2.mem ((c.tc : Thread Cert.SsdInRefIdeal.nD Cert.SsdInRefIdeal.τ).loc Cert.SsdInRefIdeal.main_arg2) = m' ((c.tc : Thread Cert.SsdInRefIdeal.nD Cert.SsdInRefIdeal.τ).loc Cert.SsdInRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)) →
    ∃ (v0 : (c : Dev Cert.OutIdeal.nD) → Buf (Elt Ideal) ((c.tc : Thread Cert.OutIdeal.nD Cert.OutIdeal.τ).loc Cert.OutIdeal.main_v4)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v4) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v42) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5))

def preserves_SsdOut_SsdOutIdeal : Prop :=
  True

def algebraic_SsdOutIdeal_SsdOutRefIdeal [hSsdOutIdeal : Cert.SsdOutIdeal.Facts] [hSsdOutRefIdeal : Cert.SsdOutRefIdeal.Facts] : Prop :=
  ∀ (m : (ℓ : Loc Cert.SsdOutIdeal.nD Cert.SsdOutIdeal.τ Cert.SsdOutIdeal.sig) → Buf (Elt Ideal) ℓ) (g : Dev Cert.SsdOutIdeal.nD → PrngReg)
    (m' : (ℓ : Loc Cert.SsdOutRefIdeal.nD Cert.SsdOutRefIdeal.τ Cert.SsdOutRefIdeal.sig) → Buf (Elt Ideal) ℓ) (g' : Dev Cert.SsdOutRefIdeal.nD → PrngReg), Pre_SsdOutIdeal m →
    (∀ c : Dev Cert.SsdOutIdeal.nD,
      m' ((c.tc : Thread Cert.SsdOutRefIdeal.nD Cert.SsdOutRefIdeal.τ).loc Cert.SsdOutRefIdeal.main_arg0) = m ((c.tc : Thread Cert.SsdOutIdeal.nD Cert.SsdOutIdeal.τ).loc Cert.SsdOutIdeal.main_arg0)
      ∧ m' ((c.tc : Thread Cert.SsdOutRefIdeal.nD Cert.SsdOutRefIdeal.τ).loc Cert.SsdOutRefIdeal.main_arg1) = m ((c.tc : Thread Cert.SsdOutIdeal.nD Cert.SsdOutIdeal.τ).loc Cert.SsdOutIdeal.main_arg1)
      ∧ m' ((c.tc : Thread Cert.SsdOutRefIdeal.nD Cert.SsdOutRefIdeal.τ).loc Cert.SsdOutRefIdeal.main_arg2) = m ((c.tc : Thread Cert.SsdOutIdeal.nD Cert.SsdOutIdeal.τ).loc Cert.SsdOutIdeal.main_arg2)
      ∧ m' ((c.tc : Thread Cert.SsdOutRefIdeal.nD Cert.SsdOutRefIdeal.τ).loc Cert.SsdOutRefIdeal.main_arg3) = m ((c.tc : Thread Cert.SsdOutIdeal.nD Cert.SsdOutIdeal.τ).loc Cert.SsdOutIdeal.main_arg3)
      ∧ m' ((c.tc : Thread Cert.SsdOutRefIdeal.nD Cert.SsdOutRefIdeal.τ).loc Cert.SsdOutRefIdeal.main_arg4) = m ((c.tc : Thread Cert.SsdOutIdeal.nD Cert.SsdOutIdeal.τ).loc Cert.SsdOutIdeal.main_arg4)
      ∧ m' ((c.tc : Thread Cert.SsdOutRefIdeal.nD Cert.SsdOutRefIdeal.τ).loc Cert.SsdOutRefIdeal.main_arg5) = m ((c.tc : Thread Cert.SsdOutIdeal.nD Cert.SsdOutIdeal.τ).loc Cert.SsdOutIdeal.main_arg5)) →
    ∃ (v0 : (c : Dev Cert.SsdOutIdeal.nD) → Buf (Elt Ideal) ((c.tc : Thread Cert.SsdOutIdeal.nD Cert.SsdOutIdeal.τ).loc Cert.SsdOutIdeal.main_v4)),
      θ_run (Cert.SsdOutIdeal.defs (F := Ideal)) (onTc (τ := Cert.SsdOutIdeal.τ) (Cert.SsdOutIdeal.main (F := Ideal))) ⟨m, fun _ => 0, g⟩ (fun r => ∀ c : Dev Cert.SsdOutIdeal.nD,
          r.2.mem ((c.tc : Thread Cert.SsdOutIdeal.nD Cert.SsdOutIdeal.τ).loc Cert.SsdOutIdeal.main_v4) = v0 c
          ∧ r.2.mem ((c.tc : Thread Cert.SsdOutIdeal.nD Cert.SsdOutIdeal.τ).loc Cert.SsdOutIdeal.main_arg0) = m ((c.tc : Thread Cert.SsdOutIdeal.nD Cert.SsdOutIdeal.τ).loc Cert.SsdOutIdeal.main_arg0)
          ∧ r.2.mem ((c.tc : Thread Cert.SsdOutIdeal.nD Cert.SsdOutIdeal.τ).loc Cert.SsdOutIdeal.main_arg1) = m ((c.tc : Thread Cert.SsdOutIdeal.nD Cert.SsdOutIdeal.τ).loc Cert.SsdOutIdeal.main_arg1)
          ∧ r.2.mem ((c.tc : Thread Cert.SsdOutIdeal.nD Cert.SsdOutIdeal.τ).loc Cert.SsdOutIdeal.main_arg2) = m ((c.tc : Thread Cert.SsdOutIdeal.nD Cert.SsdOutIdeal.τ).loc Cert.SsdOutIdeal.main_arg2)
          ∧ r.2.mem ((c.tc : Thread Cert.SsdOutIdeal.nD Cert.SsdOutIdeal.τ).loc Cert.SsdOutIdeal.main_arg3) = m ((c.tc : Thread Cert.SsdOutIdeal.nD Cert.SsdOutIdeal.τ).loc Cert.SsdOutIdeal.main_arg3)
          ∧ r.2.mem ((c.tc : Thread Cert.SsdOutIdeal.nD Cert.SsdOutIdeal.τ).loc Cert.SsdOutIdeal.main_arg4) = m ((c.tc : Thread Cert.SsdOutIdeal.nD Cert.SsdOutIdeal.τ).loc Cert.SsdOutIdeal.main_arg4)
          ∧ r.2.mem ((c.tc : Thread Cert.SsdOutIdeal.nD Cert.SsdOutIdeal.τ).loc Cert.SsdOutIdeal.main_arg5) = m ((c.tc : Thread Cert.SsdOutIdeal.nD Cert.SsdOutIdeal.τ).loc Cert.SsdOutIdeal.main_arg5))
      ∧ θ_run (Cert.SsdOutRefIdeal.defs (F := Ideal)) (onTc (τ := Cert.SsdOutRefIdeal.τ) (Cert.SsdOutRefIdeal.main (F := Ideal))) ⟨m', fun _ => 0, g'⟩ (fun r => ∀ c : Dev Cert.SsdOutRefIdeal.nD,
          r.2.mem ((c.tc : Thread Cert.SsdOutRefIdeal.nD Cert.SsdOutRefIdeal.τ).loc Cert.SsdOutRefIdeal.main_v42) = v0 c
          ∧ r.2.mem ((c.tc : Thread Cert.SsdOutRefIdeal.nD Cert.SsdOutRefIdeal.τ).loc Cert.SsdOutRefIdeal.main_arg0) = m' ((c.tc : Thread Cert.SsdOutRefIdeal.nD Cert.SsdOutRefIdeal.τ).loc Cert.SsdOutRefIdeal.main_arg0)
          ∧ r.2.mem ((c.tc : Thread Cert.SsdOutRefIdeal.nD Cert.SsdOutRefIdeal.τ).loc Cert.SsdOutRefIdeal.main_arg1) = m' ((c.tc : Thread Cert.SsdOutRefIdeal.nD Cert.SsdOutRefIdeal.τ).loc Cert.SsdOutRefIdeal.main_arg1)
          ∧ r.2.mem ((c.tc : Thread Cert.SsdOutRefIdeal.nD Cert.SsdOutRefIdeal.τ).loc Cert.SsdOutRefIdeal.main_arg2) = m' ((c.tc : Thread Cert.SsdOutRefIdeal.nD Cert.SsdOutRefIdeal.τ).loc Cert.SsdOutRefIdeal.main_arg2)
          ∧ r.2.mem ((c.tc : Thread Cert.SsdOutRefIdeal.nD Cert.SsdOutRefIdeal.τ).loc Cert.SsdOutRefIdeal.main_arg3) = m' ((c.tc : Thread Cert.SsdOutRefIdeal.nD Cert.SsdOutRefIdeal.τ).loc Cert.SsdOutRefIdeal.main_arg3)
          ∧ r.2.mem ((c.tc : Thread Cert.SsdOutRefIdeal.nD Cert.SsdOutRefIdeal.τ).loc Cert.SsdOutRefIdeal.main_arg4) = m' ((c.tc : Thread Cert.SsdOutRefIdeal.nD Cert.SsdOutRefIdeal.τ).loc Cert.SsdOutRefIdeal.main_arg4)
          ∧ r.2.mem ((c.tc : Thread Cert.SsdOutRefIdeal.nD Cert.SsdOutRefIdeal.τ).loc Cert.SsdOutRefIdeal.main_arg5) = m' ((c.tc : Thread Cert.SsdOutRefIdeal.nD Cert.SsdOutRefIdeal.τ).loc Cert.SsdOutRefIdeal.main_arg5))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v2)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v2) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v37) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_MlstmGates_MlstmGatesIdeal : Prop :=
  True

def algebraic_MlstmGatesIdeal_MlstmGatesRefIdeal [hMlstmGatesIdeal : Cert.MlstmGatesIdeal.Facts] [hMlstmGatesRefIdeal : Cert.MlstmGatesRefIdeal.Facts] : Prop :=
  ∀ (m : (ℓ : Loc Cert.MlstmGatesIdeal.nD Cert.MlstmGatesIdeal.τ Cert.MlstmGatesIdeal.sig) → Buf (Elt Ideal) ℓ) (g : Dev Cert.MlstmGatesIdeal.nD → PrngReg)
    (m' : (ℓ : Loc Cert.MlstmGatesRefIdeal.nD Cert.MlstmGatesRefIdeal.τ Cert.MlstmGatesRefIdeal.sig) → Buf (Elt Ideal) ℓ) (g' : Dev Cert.MlstmGatesRefIdeal.nD → PrngReg), Pre_MlstmGatesIdeal m →
    (∀ c : Dev Cert.MlstmGatesIdeal.nD,
      m' ((c.tc : Thread Cert.MlstmGatesRefIdeal.nD Cert.MlstmGatesRefIdeal.τ).loc Cert.MlstmGatesRefIdeal.main_arg0) = m ((c.tc : Thread Cert.MlstmGatesIdeal.nD Cert.MlstmGatesIdeal.τ).loc Cert.MlstmGatesIdeal.main_arg0)
      ∧ m' ((c.tc : Thread Cert.MlstmGatesRefIdeal.nD Cert.MlstmGatesRefIdeal.τ).loc Cert.MlstmGatesRefIdeal.main_arg1) = m ((c.tc : Thread Cert.MlstmGatesIdeal.nD Cert.MlstmGatesIdeal.τ).loc Cert.MlstmGatesIdeal.main_arg1)
      ∧ m' ((c.tc : Thread Cert.MlstmGatesRefIdeal.nD Cert.MlstmGatesRefIdeal.τ).loc Cert.MlstmGatesRefIdeal.main_arg2) = m ((c.tc : Thread Cert.MlstmGatesIdeal.nD Cert.MlstmGatesIdeal.τ).loc Cert.MlstmGatesIdeal.main_arg2)) →
    ∃ (v0 : (c : Dev Cert.MlstmGatesIdeal.nD) → Buf (Elt Ideal) ((c.tc : Thread Cert.MlstmGatesIdeal.nD Cert.MlstmGatesIdeal.τ).loc Cert.MlstmGatesIdeal.main_v6)),
      θ_run (Cert.MlstmGatesIdeal.defs (F := Ideal)) (onTc (τ := Cert.MlstmGatesIdeal.τ) (Cert.MlstmGatesIdeal.main (F := Ideal))) ⟨m, fun _ => 0, g⟩ (fun r => ∀ c : Dev Cert.MlstmGatesIdeal.nD,
          r.2.mem ((c.tc : Thread Cert.MlstmGatesIdeal.nD Cert.MlstmGatesIdeal.τ).loc Cert.MlstmGatesIdeal.main_v6) = v0 c
          ∧ r.2.mem ((c.tc : Thread Cert.MlstmGatesIdeal.nD Cert.MlstmGatesIdeal.τ).loc Cert.MlstmGatesIdeal.main_arg0) = m ((c.tc : Thread Cert.MlstmGatesIdeal.nD Cert.MlstmGatesIdeal.τ).loc Cert.MlstmGatesIdeal.main_arg0)
          ∧ r.2.mem ((c.tc : Thread Cert.MlstmGatesIdeal.nD Cert.MlstmGatesIdeal.τ).loc Cert.MlstmGatesIdeal.main_arg1) = m ((c.tc : Thread Cert.MlstmGatesIdeal.nD Cert.MlstmGatesIdeal.τ).loc Cert.MlstmGatesIdeal.main_arg1)
          ∧ r.2.mem ((c.tc : Thread Cert.MlstmGatesIdeal.nD Cert.MlstmGatesIdeal.τ).loc Cert.MlstmGatesIdeal.main_arg2) = m ((c.tc : Thread Cert.MlstmGatesIdeal.nD Cert.MlstmGatesIdeal.τ).loc Cert.MlstmGatesIdeal.main_arg2))
      ∧ θ_run (Cert.MlstmGatesRefIdeal.defs (F := Ideal)) (onTc (τ := Cert.MlstmGatesRefIdeal.τ) (Cert.MlstmGatesRefIdeal.main (F := Ideal))) ⟨m', fun _ => 0, g'⟩ (fun r => ∀ c : Dev Cert.MlstmGatesRefIdeal.nD,
          r.2.mem ((c.tc : Thread Cert.MlstmGatesRefIdeal.nD Cert.MlstmGatesRefIdeal.τ).loc Cert.MlstmGatesRefIdeal.main_v18) = v0 c
          ∧ r.2.mem ((c.tc : Thread Cert.MlstmGatesRefIdeal.nD Cert.MlstmGatesRefIdeal.τ).loc Cert.MlstmGatesRefIdeal.main_arg0) = m' ((c.tc : Thread Cert.MlstmGatesRefIdeal.nD Cert.MlstmGatesRefIdeal.τ).loc Cert.MlstmGatesRefIdeal.main_arg0)
          ∧ r.2.mem ((c.tc : Thread Cert.MlstmGatesRefIdeal.nD Cert.MlstmGatesRefIdeal.τ).loc Cert.MlstmGatesRefIdeal.main_arg1) = m' ((c.tc : Thread Cert.MlstmGatesRefIdeal.nD Cert.MlstmGatesRefIdeal.τ).loc Cert.MlstmGatesRefIdeal.main_arg1)
          ∧ r.2.mem ((c.tc : Thread Cert.MlstmGatesRefIdeal.nD Cert.MlstmGatesRefIdeal.τ).loc Cert.MlstmGatesRefIdeal.main_arg2) = m' ((c.tc : Thread Cert.MlstmGatesRefIdeal.nD Cert.MlstmGatesRefIdeal.τ).loc Cert.MlstmGatesRefIdeal.main_arg2))

def preserves_SsdDt_SsdDtIdeal : Prop :=
  True

def algebraic_SsdDtIdeal_SsdDtRefIdeal [hSsdDtIdeal : Cert.SsdDtIdeal.Facts] [hSsdDtRefIdeal : Cert.SsdDtRefIdeal.Facts] : Prop :=
  ∀ (m : (ℓ : Loc Cert.SsdDtIdeal.nD Cert.SsdDtIdeal.τ Cert.SsdDtIdeal.sig) → Buf (Elt Ideal) ℓ) (g : Dev Cert.SsdDtIdeal.nD → PrngReg)
    (m' : (ℓ : Loc Cert.SsdDtRefIdeal.nD Cert.SsdDtRefIdeal.τ Cert.SsdDtRefIdeal.sig) → Buf (Elt Ideal) ℓ) (g' : Dev Cert.SsdDtRefIdeal.nD → PrngReg), Pre_SsdDtIdeal m →
    (∀ c : Dev Cert.SsdDtIdeal.nD,
      m' ((c.tc : Thread Cert.SsdDtRefIdeal.nD Cert.SsdDtRefIdeal.τ).loc Cert.SsdDtRefIdeal.main_arg0) = m ((c.tc : Thread Cert.SsdDtIdeal.nD Cert.SsdDtIdeal.τ).loc Cert.SsdDtIdeal.main_arg0)
      ∧ m' ((c.tc : Thread Cert.SsdDtRefIdeal.nD Cert.SsdDtRefIdeal.τ).loc Cert.SsdDtRefIdeal.main_arg1) = m ((c.tc : Thread Cert.SsdDtIdeal.nD Cert.SsdDtIdeal.τ).loc Cert.SsdDtIdeal.main_arg1)
      ∧ m' ((c.tc : Thread Cert.SsdDtRefIdeal.nD Cert.SsdDtRefIdeal.τ).loc Cert.SsdDtRefIdeal.main_arg2) = m ((c.tc : Thread Cert.SsdDtIdeal.nD Cert.SsdDtIdeal.τ).loc Cert.SsdDtIdeal.main_arg2)) →
    ∃ (v0 : (c : Dev Cert.SsdDtIdeal.nD) → Buf (Elt Ideal) ((c.tc : Thread Cert.SsdDtIdeal.nD Cert.SsdDtIdeal.τ).loc Cert.SsdDtIdeal.main_v6)),
      θ_run (Cert.SsdDtIdeal.defs (F := Ideal)) (onTc (τ := Cert.SsdDtIdeal.τ) (Cert.SsdDtIdeal.main (F := Ideal))) ⟨m, fun _ => 0, g⟩ (fun r => ∀ c : Dev Cert.SsdDtIdeal.nD,
          r.2.mem ((c.tc : Thread Cert.SsdDtIdeal.nD Cert.SsdDtIdeal.τ).loc Cert.SsdDtIdeal.main_v6) = v0 c
          ∧ r.2.mem ((c.tc : Thread Cert.SsdDtIdeal.nD Cert.SsdDtIdeal.τ).loc Cert.SsdDtIdeal.main_arg0) = m ((c.tc : Thread Cert.SsdDtIdeal.nD Cert.SsdDtIdeal.τ).loc Cert.SsdDtIdeal.main_arg0)
          ∧ r.2.mem ((c.tc : Thread Cert.SsdDtIdeal.nD Cert.SsdDtIdeal.τ).loc Cert.SsdDtIdeal.main_arg1) = m ((c.tc : Thread Cert.SsdDtIdeal.nD Cert.SsdDtIdeal.τ).loc Cert.SsdDtIdeal.main_arg1)
          ∧ r.2.mem ((c.tc : Thread Cert.SsdDtIdeal.nD Cert.SsdDtIdeal.τ).loc Cert.SsdDtIdeal.main_arg2) = m ((c.tc : Thread Cert.SsdDtIdeal.nD Cert.SsdDtIdeal.τ).loc Cert.SsdDtIdeal.main_arg2))
      ∧ θ_run (Cert.SsdDtRefIdeal.defs (F := Ideal)) (onTc (τ := Cert.SsdDtRefIdeal.τ) (Cert.SsdDtRefIdeal.main (F := Ideal))) ⟨m', fun _ => 0, g'⟩ (fun r => ∀ c : Dev Cert.SsdDtRefIdeal.nD,
          r.2.mem ((c.tc : Thread Cert.SsdDtRefIdeal.nD Cert.SsdDtRefIdeal.τ).loc Cert.SsdDtRefIdeal.main_v18) = v0 c
          ∧ r.2.mem ((c.tc : Thread Cert.SsdDtRefIdeal.nD Cert.SsdDtRefIdeal.τ).loc Cert.SsdDtRefIdeal.main_arg0) = m' ((c.tc : Thread Cert.SsdDtRefIdeal.nD Cert.SsdDtRefIdeal.τ).loc Cert.SsdDtRefIdeal.main_arg0)
          ∧ r.2.mem ((c.tc : Thread Cert.SsdDtRefIdeal.nD Cert.SsdDtRefIdeal.τ).loc Cert.SsdDtRefIdeal.main_arg1) = m' ((c.tc : Thread Cert.SsdDtRefIdeal.nD Cert.SsdDtRefIdeal.τ).loc Cert.SsdDtRefIdeal.main_arg1)
          ∧ r.2.mem ((c.tc : Thread Cert.SsdDtRefIdeal.nD Cert.SsdDtRefIdeal.τ).loc Cert.SsdDtRefIdeal.main_arg2) = m' ((c.tc : Thread Cert.SsdDtRefIdeal.nD Cert.SsdDtRefIdeal.τ).loc Cert.SsdDtRefIdeal.main_arg2))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v4)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v4) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v39) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_W1Prep_W1PrepIdeal : Prop :=
  True

def algebraic_W1PrepIdeal_W1PrepRefIdeal [hW1PrepIdeal : Cert.W1PrepIdeal.Facts] [hW1PrepRefIdeal : Cert.W1PrepRefIdeal.Facts] : Prop :=
  ∀ (m : (ℓ : Loc Cert.W1PrepIdeal.nD Cert.W1PrepIdeal.τ Cert.W1PrepIdeal.sig) → Buf (Elt Ideal) ℓ) (g : Dev Cert.W1PrepIdeal.nD → PrngReg)
    (m' : (ℓ : Loc Cert.W1PrepRefIdeal.nD Cert.W1PrepRefIdeal.τ Cert.W1PrepRefIdeal.sig) → Buf (Elt Ideal) ℓ) (g' : Dev Cert.W1PrepRefIdeal.nD → PrngReg), Pre_W1PrepIdeal m →
    (∀ c : Dev Cert.W1PrepIdeal.nD,
      m' ((c.tc : Thread Cert.W1PrepRefIdeal.nD Cert.W1PrepRefIdeal.τ).loc Cert.W1PrepRefIdeal.main_arg0) = m ((c.tc : Thread Cert.W1PrepIdeal.nD Cert.W1PrepIdeal.τ).loc Cert.W1PrepIdeal.main_arg0)) →
    ∃ (v0 : (c : Dev Cert.W1PrepIdeal.nD) → Buf (Elt Ideal) ((c.tc : Thread Cert.W1PrepIdeal.nD Cert.W1PrepIdeal.τ).loc Cert.W1PrepIdeal.main_v20)),
      θ_run (Cert.W1PrepIdeal.defs (F := Ideal)) (onTc (τ := Cert.W1PrepIdeal.τ) (Cert.W1PrepIdeal.main (F := Ideal))) ⟨m, fun _ => 0, g⟩ (fun r => ∀ c : Dev Cert.W1PrepIdeal.nD,
          r.2.mem ((c.tc : Thread Cert.W1PrepIdeal.nD Cert.W1PrepIdeal.τ).loc Cert.W1PrepIdeal.main_v20) = v0 c
          ∧ r.2.mem ((c.tc : Thread Cert.W1PrepIdeal.nD Cert.W1PrepIdeal.τ).loc Cert.W1PrepIdeal.main_arg0) = m ((c.tc : Thread Cert.W1PrepIdeal.nD Cert.W1PrepIdeal.τ).loc Cert.W1PrepIdeal.main_arg0))
      ∧ θ_run (Cert.W1PrepRefIdeal.defs (F := Ideal)) (onTc (τ := Cert.W1PrepRefIdeal.τ) (Cert.W1PrepRefIdeal.main (F := Ideal))) ⟨m', fun _ => 0, g'⟩ (fun r => ∀ c : Dev Cert.W1PrepRefIdeal.nD,
          r.2.mem ((c.tc : Thread Cert.W1PrepRefIdeal.nD Cert.W1PrepRefIdeal.τ).loc Cert.W1PrepRefIdeal.main_v4) = v0 c
          ∧ r.2.mem ((c.tc : Thread Cert.W1PrepRefIdeal.nD Cert.W1PrepRefIdeal.τ).loc Cert.W1PrepRefIdeal.main_arg0) = m' ((c.tc : Thread Cert.W1PrepRefIdeal.nD Cert.W1PrepRefIdeal.τ).loc Cert.W1PrepRefIdeal.main_arg0))

def Claim : Prop :=
  ∃ (hKernel : Cert.Kernel.Facts) (hKernelIdeal : Cert.KernelIdeal.Facts) (hReferenceIdeal : Cert.ReferenceIdeal.Facts) (hMlstmIn : Cert.MlstmIn.Facts) (hMlstmInIdeal : Cert.MlstmInIdeal.Facts) (hMlstmInRefIdeal : Cert.MlstmInRefIdeal.Facts) (hHgrnIn : Cert.HgrnIn.Facts) (hHgrnInIdeal : Cert.HgrnInIdeal.Facts) (hHgrnInRefIdeal : Cert.HgrnInRefIdeal.Facts) (hSsdIn : Cert.SsdIn.Facts) (hSsdInIdeal : Cert.SsdInIdeal.Facts) (hSsdInRefIdeal : Cert.SsdInRefIdeal.Facts) (hOut : Cert.Out.Facts) (hOutIdeal : Cert.OutIdeal.Facts) (hOutRefIdeal : Cert.OutRefIdeal.Facts) (hSsdOut : Cert.SsdOut.Facts) (hSsdOutIdeal : Cert.SsdOutIdeal.Facts) (hSsdOutRefIdeal : Cert.SsdOutRefIdeal.Facts) (hConv : Cert.Conv.Facts) (hConvIdeal : Cert.ConvIdeal.Facts) (hConvRefIdeal : Cert.ConvRefIdeal.Facts) (hMlstmGates : Cert.MlstmGates.Facts) (hMlstmGatesIdeal : Cert.MlstmGatesIdeal.Facts) (hMlstmGatesRefIdeal : Cert.MlstmGatesRefIdeal.Facts) (hSsdDt : Cert.SsdDt.Facts) (hSsdDtIdeal : Cert.SsdDtIdeal.Facts) (hSsdDtRefIdeal : Cert.SsdDtRefIdeal.Facts) (hAda : Cert.Ada.Facts) (hAdaIdeal : Cert.AdaIdeal.Facts) (hAdaRefIdeal : Cert.AdaRefIdeal.Facts) (hW1Prep : Cert.W1Prep.Facts) (hW1PrepIdeal : Cert.W1PrepIdeal.Facts) (hW1PrepRefIdeal : Cert.W1PrepRefIdeal.Facts) (hPre_qkv_finite : Cert.Pre_qkv_finite.Facts),
    quiescent_Kernel (hKernel := hKernel)
    ∧ quiescent_KernelIdeal (hKernelIdeal := hKernelIdeal)
    ∧ quiescent_KernelIdeal_pre_qkv_finite (hKernelIdeal := hKernelIdeal) (hPre_qkv_finite := hPre_qkv_finite)
    ∧ quiescent_ReferenceIdeal (hReferenceIdeal := hReferenceIdeal)
    ∧ quiescent_ReferenceIdeal_pre_qkv_finite (hReferenceIdeal := hReferenceIdeal) (hPre_qkv_finite := hPre_qkv_finite)
    ∧ quiescent_MlstmIn (hMlstmIn := hMlstmIn)
    ∧ quiescent_MlstmInIdeal (hMlstmInIdeal := hMlstmInIdeal)
    ∧ quiescent_MlstmInRefIdeal (hMlstmInRefIdeal := hMlstmInRefIdeal)
    ∧ quiescent_HgrnIn (hHgrnIn := hHgrnIn)
    ∧ quiescent_HgrnInIdeal (hHgrnInIdeal := hHgrnInIdeal)
    ∧ quiescent_HgrnInRefIdeal (hHgrnInRefIdeal := hHgrnInRefIdeal)
    ∧ quiescent_SsdIn (hSsdIn := hSsdIn)
    ∧ quiescent_SsdInIdeal (hSsdInIdeal := hSsdInIdeal)
    ∧ quiescent_SsdInRefIdeal (hSsdInRefIdeal := hSsdInRefIdeal)
    ∧ quiescent_Out (hOut := hOut)
    ∧ quiescent_OutIdeal (hOutIdeal := hOutIdeal)
    ∧ quiescent_OutRefIdeal (hOutRefIdeal := hOutRefIdeal)
    ∧ quiescent_SsdOut (hSsdOut := hSsdOut)
    ∧ quiescent_SsdOutIdeal (hSsdOutIdeal := hSsdOutIdeal)
    ∧ quiescent_SsdOutRefIdeal (hSsdOutRefIdeal := hSsdOutRefIdeal)
    ∧ quiescent_Conv (hConv := hConv)
    ∧ quiescent_ConvIdeal (hConvIdeal := hConvIdeal)
    ∧ quiescent_ConvRefIdeal (hConvRefIdeal := hConvRefIdeal)
    ∧ quiescent_MlstmGates (hMlstmGates := hMlstmGates)
    ∧ quiescent_MlstmGatesIdeal (hMlstmGatesIdeal := hMlstmGatesIdeal)
    ∧ quiescent_MlstmGatesRefIdeal (hMlstmGatesRefIdeal := hMlstmGatesRefIdeal)
    ∧ quiescent_SsdDt (hSsdDt := hSsdDt)
    ∧ quiescent_SsdDtIdeal (hSsdDtIdeal := hSsdDtIdeal)
    ∧ quiescent_SsdDtRefIdeal (hSsdDtRefIdeal := hSsdDtRefIdeal)
    ∧ quiescent_Ada (hAda := hAda)
    ∧ quiescent_AdaIdeal (hAdaIdeal := hAdaIdeal)
    ∧ quiescent_AdaRefIdeal (hAdaRefIdeal := hAdaRefIdeal)
    ∧ quiescent_W1Prep (hW1Prep := hW1Prep)
    ∧ quiescent_W1PrepIdeal (hW1PrepIdeal := hW1PrepIdeal)
    ∧ quiescent_W1PrepRefIdeal (hW1PrepRefIdeal := hW1PrepRefIdeal)
    ∧ preserves_Kernel_KernelIdeal
    ∧ algebraic_KernelIdeal_ReferenceIdeal_pre_qkv_finite (hKernelIdeal := hKernelIdeal) (hReferenceIdeal := hReferenceIdeal) (hPre_qkv_finite := hPre_qkv_finite)
    ∧ preserves_MlstmIn_MlstmInIdeal
    ∧ algebraic_MlstmInIdeal_MlstmInRefIdeal (hMlstmInIdeal := hMlstmInIdeal) (hMlstmInRefIdeal := hMlstmInRefIdeal)
    ∧ preserves_HgrnIn_HgrnInIdeal
    ∧ algebraic_HgrnInIdeal_HgrnInRefIdeal (hHgrnInIdeal := hHgrnInIdeal) (hHgrnInRefIdeal := hHgrnInRefIdeal)
    ∧ preserves_SsdIn_SsdInIdeal
    ∧ algebraic_SsdInIdeal_SsdInRefIdeal (hSsdInIdeal := hSsdInIdeal) (hSsdInRefIdeal := hSsdInRefIdeal)
    ∧ preserves_Out_OutIdeal
    ∧ algebraic_OutIdeal_OutRefIdeal (hOutIdeal := hOutIdeal) (hOutRefIdeal := hOutRefIdeal)
    ∧ preserves_SsdOut_SsdOutIdeal
    ∧ algebraic_SsdOutIdeal_SsdOutRefIdeal (hSsdOutIdeal := hSsdOutIdeal) (hSsdOutRefIdeal := hSsdOutRefIdeal)
    ∧ preserves_Conv_ConvIdeal
    ∧ algebraic_ConvIdeal_ConvRefIdeal (hConvIdeal := hConvIdeal) (hConvRefIdeal := hConvRefIdeal)
    ∧ preserves_MlstmGates_MlstmGatesIdeal
    ∧ algebraic_MlstmGatesIdeal_MlstmGatesRefIdeal (hMlstmGatesIdeal := hMlstmGatesIdeal) (hMlstmGatesRefIdeal := hMlstmGatesRefIdeal)
    ∧ preserves_SsdDt_SsdDtIdeal
    ∧ algebraic_SsdDtIdeal_SsdDtRefIdeal (hSsdDtIdeal := hSsdDtIdeal) (hSsdDtRefIdeal := hSsdDtRefIdeal)
    ∧ preserves_Ada_AdaIdeal
    ∧ algebraic_AdaIdeal_AdaRefIdeal (hAdaIdeal := hAdaIdeal) (hAdaRefIdeal := hAdaRefIdeal)
    ∧ preserves_W1Prep_W1PrepIdeal
    ∧ algebraic_W1PrepIdeal_W1PrepRefIdeal (hW1PrepIdeal := hW1PrepIdeal) (hW1PrepRefIdeal := hW1PrepRefIdeal)
-- ==== Pre_qkv_finite.lean ====
abbrev S32768x6144 : Shape := ⟨2, ![32768, 6144]⟩
abbrev S32768x128 : Shape := ⟨2, ![32768, 128]⟩
abbrev S8 : Shape := ⟨1, ![8]⟩
abbrev S2048 : Shape := ⟨1, ![2048]⟩
abbrev S32768x4096 : Shape := ⟨2, ![32768, 4096]⟩
abbrev S_ : Shape := ⟨0, ![]⟩

class Facts : Prop where
  slices_S32768x6144_S32768x4096_0_0 : S32768x6144.Slices ![0, 0] S32768x4096
  bitsLt_bf16_f32 : FTy.bits .bf16 < FTy.bits .f32
  bcast_S_S32768x4096 : S_.BroadcastsInDim S32768x4096 (![] : Fin 0 → Fin S32768x4096.rank)

variable [Facts]

def fn {F : FTy → Type} [FloatOps F] (main_arg0 : FVec F S32768x6144 .bf16) (main_arg1 : FVec F S32768x128 .f32) (main_arg2 : FVec F S8 .f32) (main_arg3 : FVec F S2048 .f32) : IVec S32768x4096 1 :=
  let main_v0 : FVec F S32768x4096 .bf16 := (extractStridedSlice S32768x4096 ![0, 0] · slices_S32768x6144_S32768x4096_0_0) main_arg0
  let main_v1 : FVec F S32768x4096 .f32 := (extf .f32 · bitsLt_bf16_f32) main_v0
  let main_v2 : FVec F S32768x4096 .f32 := Host.absf main_v1
  let main_cst : FVec F S_ .f32 := constant S_ .f32 0x7F800000#32
  let main_v3 : FVec F S32768x4096 .f32 := broadcastInDim S32768x4096 ![] bcast_S_S32768x4096 main_cst
  let main_v4 : IVec S32768x4096 1 := cmpf .olt main_v2 main_v3
  main_v4
-- ==== Kernel.lean ====
abbrev S32768x6144 : Shape := ⟨2, ![32768, 6144]⟩
abbrev S32768x128 : Shape := ⟨2, ![32768, 128]⟩
abbrev S8 : Shape := ⟨1, ![8]⟩
abbrev S2048 : Shape := ⟨1, ![2048]⟩
abbrev S_ : Shape := ⟨0, ![]⟩
abbrev S1x128 : Shape := ⟨2, ![1, 128]⟩
abbrev S1 : Shape := ⟨1, ![1]⟩
abbrev S2 : Shape := ⟨1, ![2]⟩
abbrev S1x2048 : Shape := ⟨2, ![1, 2048]⟩
abbrev S32768x2048 : Shape := ⟨2, ![32768, 2048]⟩
abbrev S128x1024 : Shape := ⟨2, ![128, 1024]⟩
abbrev S128x2048 : Shape := ⟨2, ![128, 2048]⟩
abbrev S128x128 : Shape := ⟨2, ![128, 128]⟩
abbrev S4x512x256 : Shape := ⟨3, ![4, 512, 256]⟩
abbrev S4x8x256 : Shape := ⟨3, ![4, 8, 256]⟩
abbrev S4x8x128 : Shape := ⟨3, ![4, 8, 128]⟩
abbrev S128x1 : Shape := ⟨2, ![128, 1]⟩
abbrev S1x8x128 : Shape := ⟨3, ![1, 8, 128]⟩
abbrev S8x128 : Shape := ⟨2, ![8, 128]⟩
abbrev S1x1 : Shape := ⟨2, ![1, 1]⟩
abbrev S128 : Shape := ⟨1, ![128]⟩
abbrev S128x256 : Shape := ⟨2, ![128, 256]⟩
abbrev S128x512 : Shape := ⟨2, ![128, 512]⟩
abbrev S1x512x256 : Shape := ⟨3, ![1, 512, 256]⟩
abbrev S512x256 : Shape := ⟨2, ![512, 256]⟩
abbrev S1x8x256 : Shape := ⟨3, ![1, 8, 256]⟩
abbrev S8x256 : Shape := ⟨2, ![8, 256]⟩
abbrev S1x256 : Shape := ⟨2, ![1, 256]⟩
abbrev S256 : Shape := ⟨1, ![256]⟩
abbrev S1x512 : Shape := ⟨2, ![1, 512]⟩

abbrev nBuf : Space → Nat
  | .hbm => 14
  | .vmem => 17
  | .smem => 0
  | _ => 0

abbrev bufTy : (tb : Table) → Fin (tcTables nBuf tb) → BufTy
  | .hbm, ⟨0, _⟩ => ⟨S32768x6144, .bf16⟩
  | .hbm, ⟨1, _⟩ => ⟨S32768x128, .f32⟩
  | .hbm, ⟨2, _⟩ => ⟨S8, .f32⟩
  | .hbm, ⟨3, _⟩ => ⟨S2048, .f32⟩
  | .hbm, ⟨4, _⟩ => ⟨S_, .f32⟩
  | .hbm, ⟨5, _⟩ => ⟨S1x128, .f32⟩
  | .hbm, ⟨6, _⟩ => ⟨S_, .i32⟩
  | .hbm, ⟨7, _⟩ => ⟨S1, .i32⟩
  | .hbm, ⟨8, _⟩ => ⟨S_, .i32⟩
  | .hbm, ⟨9, _⟩ => ⟨S1, .i32⟩
  | .hbm, ⟨10, _⟩ => ⟨S2, .i32⟩
  | .hbm, ⟨11, _⟩ => ⟨S1x128, .f32⟩
  | .hbm, ⟨12, _⟩ => ⟨S1x2048, .f32⟩
  | .hbm, ⟨13, _⟩ => ⟨S32768x2048, .bf16⟩
  | .local _ .vmem, ⟨0, _⟩ => ⟨S128x1024, .bf16⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S128x2048, .bf16⟩
  | .local _ .vmem, ⟨5, _⟩ => ⟨S128x2048, .bf16⟩
  | .local _ .vmem, ⟨6, _⟩ => ⟨S128x2048, .bf16⟩
  | .local _ .vmem, ⟨7, _⟩ => ⟨S128x2048, .bf16⟩
  | .local _ .vmem, ⟨8, _⟩ => ⟨S128x128, .f32⟩
  | .local _ .vmem, ⟨9, _⟩ => ⟨S128x128, .f32⟩
  | .local _ .vmem, ⟨10, _⟩ => ⟨S1x128, .f32⟩
  | .local _ .vmem, ⟨11, _⟩ => ⟨S1x2048, .f32⟩
  | .local _ .vmem, ⟨12, _⟩ => ⟨S128x2048, .bf16⟩
  | .local _ .vmem, ⟨13, _⟩ => ⟨S128x2048, .bf16⟩
  | .local _ .vmem, ⟨14, _⟩ => ⟨S4x512x256, .f32⟩
  | .local _ .vmem, ⟨15, _⟩ => ⟨S4x8x256, .f32⟩
  | .local _ .vmem, ⟨16, _⟩ => ⟨S4x8x128, .f32⟩
  | _, _ => ⟨S32768x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![4, 64], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c1_i32 : BitVec 32 := 1#32
  let c0_i32 : BitVec 32 := 0#32
  ![v1.toNat, c1_i32.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c2_i32 : BitVec 32 := 2#32
  let c0_i32 : BitVec 32 := 0#32
  ![v1.toNat, c2_i32.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S32768x6144 : Shape := ⟨2, ![32768, 6144]⟩
abbrev S32768x128 : Shape := ⟨2, ![32768, 128]⟩
abbrev S8 : Shape := ⟨1, ![8]⟩
abbrev S2048 : Shape := ⟨1, ![2048]⟩
abbrev S4x8192x6144 : Shape := ⟨3, ![4, 8192, 6144]⟩
abbrev S4x8192x128 : Shape := ⟨3, ![4, 8192, 128]⟩
abbrev S4x8192x8 : Shape := ⟨3, ![4, 8192, 8]⟩
abbrev S4x8192x4096 : Shape := ⟨3, ![4, 8192, 4096]⟩
abbrev S4x8192x1024 : Shape := ⟨3, ![4, 8192, 1024]⟩
abbrev S4x8192x2048 : Shape := ⟨3, ![4, 8192, 2048]⟩
abbrev S1x1x8 : Shape := ⟨3, ![1, 1, 8]⟩
abbrev S_ : Shape := ⟨0, ![]⟩
abbrev S4x8192x4 : Shape := ⟨3, ![4, 8192, 4]⟩
abbrev S4x8192x4x256 : Shape := ⟨4, ![4, 8192, 4, 256]⟩
abbrev S4x8192x4x512 : Shape := ⟨4, ![4, 8192, 4, 512]⟩
abbrev S64x64 : Shape := ⟨2, ![64, 64]⟩
abbrev S4x4x512x256 : Shape := ⟨4, ![4, 4, 512, 256]⟩
abbrev S4x4x256 : Shape := ⟨3, ![4, 4, 256]⟩
abbrev S4x4 : Shape := ⟨2, ![4, 4]⟩
abbrev S4x128x64x4x256 : Shape := ⟨5, ![4, 128, 64, 4, 256]⟩
abbrev S128x4x64x4x256 : Shape := ⟨5, ![128, 4, 64, 4, 256]⟩
abbrev S4x128x64x4x512 : Shape := ⟨5, ![4, 128, 64, 4, 512]⟩
abbrev S128x4x64x4x512 : Shape := ⟨5, ![128, 4, 64, 4, 512]⟩
abbrev S4x128x64x4 : Shape := ⟨4, ![4, 128, 64, 4]⟩
abbrev S128x4x64x4 : Shape := ⟨4, ![128, 4, 64, 4]⟩
abbrev S1x4x64x4x256 : Shape := ⟨5, ![1, 4, 64, 4, 256]⟩
abbrev S4x64x4x256 : Shape := ⟨4, ![4, 64, 4, 256]⟩
abbrev S1x4x64x4x512 : Shape := ⟨5, ![1, 4, 64, 4, 512]⟩
abbrev S4x64x4x512 : Shape := ⟨4, ![4, 64, 4, 512]⟩
abbrev S1x4x64x4 : Shape := ⟨4, ![1, 4, 64, 4]⟩
abbrev S4x64x4 : Shape := ⟨3, ![4, 64, 4]⟩
abbrev S4x64x1x4 : Shape := ⟨4, ![4, 64, 1, 4]⟩
abbrev S4x1x64x4 : Shape := ⟨4, ![4, 1, 64, 4]⟩
abbrev S4x64x64x4 : Shape := ⟨4, ![4, 64, 64, 4]⟩
abbrev S1x64x64x1 : Shape := ⟨4, ![1, 64, 64, 1]⟩
abbrev S4x1x4 : Shape := ⟨3, ![4, 1, 4]⟩
abbrev S4x4x64x64 : Shape := ⟨4, ![4, 4, 64, 64]⟩
abbrev S4x4x512x64 : Shape := ⟨4, ![4, 4, 512, 64]⟩
abbrev S4x64x4x1 : Shape := ⟨4, ![4, 64, 4, 1]⟩
abbrev S4x4x64 : Shape := ⟨3, ![4, 4, 64]⟩
abbrev S4x4x1x1 : Shape := ⟨4, ![4, 4, 1, 1]⟩
abbrev S4x4x1 : Shape := ⟨3, ![4, 4, 1]⟩
abbrev S4x512 : Shape := ⟨2, ![4, 512]⟩
abbrev S4x8192x4x1 : Shape := ⟨4, ![4, 8192, 4, 1]⟩
abbrev S1x1x4x512 : Shape := ⟨4, ![1, 1, 4, 512]⟩
abbrev S32768x2048 : Shape := ⟨2, ![32768, 2048]⟩

abbrev nBuf : Space → Nat
  | .hbm => 244
  | .vmem => 0
  | .smem => 0
  | _ => 0

abbrev hbmTy0_0 (i : Nat) : BufTy := match i % 128 with
  | 0 => ⟨S32768x6144, .bf16⟩
  | 1 => ⟨S32768x128, .f32⟩
  | 2 => ⟨S8, .f32⟩
  | 3 => ⟨S2048, .f32⟩
  | 4 => ⟨S4x8192x6144, .bf16⟩
  | 5 => ⟨S4x8192x128, .f32⟩
  | 6 => ⟨S4x8192x8, .f32⟩
  | 7 => ⟨S4x8192x4096, .bf16⟩
  | 8 => ⟨S4x8192x1024, .bf16⟩
  | 9 => ⟨S4x8192x1024, .bf16⟩
  | 10 => ⟨S4x8192x2048, .bf16⟩
  | 11 => ⟨S1x1x8, .f32⟩
  | 12 => ⟨S4x8192x8, .f32⟩
  | 13 => ⟨S4x8192x8, .f32⟩
  | 14 => ⟨S_, .f32⟩
  | 15 => ⟨S4x8192x8, .f32⟩
  | 16 => ⟨S4x8192x8, .f32⟩
  | 17 => ⟨S4x8192x8, .f32⟩
  | 18 => ⟨S_, .f32⟩
  | 19 => ⟨S4x8192x8, .f32⟩
  | 20 => ⟨S4x8192x8, .f32⟩
  | 21 => ⟨S4x8192x4, .f32⟩
  | 22 => ⟨S4x8192x4, .f32⟩
  | 23 => ⟨S4x8192x4, .f32⟩
  | 24 => ⟨S_, .f32⟩
  | 25 => ⟨S4x8192x4, .f32⟩
  | 26 => ⟨S4x8192x4, .f32⟩
  | 27 => ⟨S4x8192x4, .f32⟩
  | 28 => ⟨S4x8192x4, .f32⟩
  | 29 => ⟨S4x8192x4, .i1⟩
  | 30 => ⟨S4x8192x4, .f32⟩
  | 31 => ⟨S4x8192x4, .f32⟩
  | 32 => ⟨S4x8192x4, .f32⟩
  | 33 => ⟨S4x8192x4, .f32⟩
  | 34 => ⟨S4x8192x4, .f32⟩
  | 35 => ⟨S4x8192x4, .f32⟩
  | 36 => ⟨S4x8192x4, .f32⟩
  | 37 => ⟨S4x8192x4, .f32⟩
  | 38 => ⟨S4x8192x4, .f32⟩
  | 39 => ⟨S4x8192x4x256, .bf16⟩
  | 40 => ⟨S4x8192x4x256, .f32⟩
  | 41 => ⟨S_, .f32⟩
  | 42 => ⟨S4x8192x4x256, .f32⟩
  | 43 => ⟨S4x8192x4x256, .f32⟩
  | 44 => ⟨S4x8192x4x256, .bf16⟩
  | 45 => ⟨S4x8192x4x256, .f32⟩
  | 46 => ⟨S4x8192x4x512, .bf16⟩
  | 47 => ⟨S4x8192x4x512, .f32⟩
  | 48 => ⟨S_, .i1⟩
  | 49 => ⟨S64x64, .i1⟩
  | 50 => ⟨S64x64, .i32⟩
  | 51 => ⟨S_, .i32⟩
  | 52 => ⟨S64x64, .i32⟩
  | 53 => ⟨S64x64, .i32⟩
  | 54 => ⟨S64x64, .i32⟩
  | 55 => ⟨S64x64, .i1⟩
  | 56 => ⟨S_, .i1⟩
  | 57 => ⟨S64x64, .i1⟩
  | 58 => ⟨S64x64, .i1⟩
  | 59 => ⟨S_, .f32⟩
  | 60 => ⟨S4x4x512x256, .f32⟩
  | 61 => ⟨S_, .f32⟩
  | 62 => ⟨S4x4x256, .f32⟩
  | 63 => ⟨S_, .f32⟩
  | 64 => ⟨S4x4, .f32⟩
  | 65 => ⟨S4x128x64x4x256, .f32⟩
  | 66 => ⟨S128x4x64x4x256, .f32⟩
  | 67 => ⟨S4x128x64x4x256, .f32⟩
  | 68 => ⟨S128x4x64x4x256, .f32⟩
  | 69 => ⟨S4x128x64x4x512, .f32⟩
  | 70 => ⟨S128x4x64x4x512, .f32⟩
  | 71 => ⟨S4x128x64x4, .f32⟩
  | 72 => ⟨S128x4x64x4, .f32⟩
  | 73 => ⟨S4x128x64x4, .f32⟩
  | 74 => ⟨S128x4x64x4, .f32⟩
  | 75 => ⟨S_, .f32⟩
  | 76 => ⟨S128x4x64x4x512, .f32⟩
  | 77 => ⟨S_, .i32⟩
  | 78 => ⟨S128x4x64x4x256, .f32⟩
  | 79 => ⟨S128x4x64x4x256, .f32⟩
  | 80 => ⟨S128x4x64x4x512, .f32⟩
  | 81 => ⟨S128x4x64x4, .f32⟩
  | 82 => ⟨S128x4x64x4, .f32⟩
  | 83 => ⟨S64x64, .i1⟩
  | 84 => ⟨S_, .i32⟩
  | 85 => ⟨S4x4x512x256, .f32⟩
  | 86 => ⟨S4x4x256, .f32⟩
  | 87 => ⟨S4x4, .f32⟩
  | 88 => ⟨S128x4x64x4x512, .f32⟩
  | 89 => ⟨S_, .i32⟩
  | 90 => ⟨S_, .i1⟩
  | 91 => ⟨S_, .i32⟩
  | 92 => ⟨S_, .i32⟩
  | 93 => ⟨S_, .i32⟩
  | 94 => ⟨S_, .i32⟩
  | 95 => ⟨S1x4x64x4x256, .f32⟩
  | 96 => ⟨S4x64x4x256, .f32⟩
  | 97 => ⟨S_, .i32⟩
  | 98 => ⟨S_, .i32⟩
  | 99 => ⟨S_, .i32⟩
  | 100 => ⟨S_, .i32⟩
  | 101 => ⟨S1x4x64x4x256, .f32⟩
  | 102 => ⟨S4x64x4x256, .f32⟩
  | 103 => ⟨S_, .i32⟩
  | 104 => ⟨S_, .i32⟩
  | 105 => ⟨S_, .i32⟩
  | 106 => ⟨S_, .i32⟩
  | 107 => ⟨S1x4x64x4x512, .f32⟩
  | 108 => ⟨S4x64x4x512, .f32⟩
  | 109 => ⟨S_, .i32⟩
  | 110 => ⟨S_, .i32⟩
  | 111 => ⟨S_, .i32⟩
  | 112 => ⟨S1x4x64x4, .f32⟩
  | 113 => ⟨S4x64x4, .f32⟩
  | 114 => ⟨S_, .i32⟩
  | 115 => ⟨S_, .i32⟩
  | 116 => ⟨S_, .i32⟩
  | 117 => ⟨S1x4x64x4, .f32⟩
  | 118 => ⟨S4x64x4, .f32⟩
  | 119 => ⟨S_, .f32⟩
  | 120 => ⟨S_, .f32⟩
  | 121 => ⟨S4x64x4, .f32⟩
  | 122 => ⟨S4x64x1x4, .f32⟩
  | 123 => ⟨S4x1x64x4, .f32⟩
  | 124 => ⟨S4x64x64x4, .f32⟩
  | 125 => ⟨S4x64x64x4, .f32⟩
  | 126 => ⟨S4x64x64x4, .f32⟩
  | 127 => ⟨S4x1x64x4, .f32⟩
  | _ => ⟨S32768x6144, .bf16⟩

abbrev hbmTy0_1 (i : Nat) : BufTy := match i % 128 with
  | 0 => ⟨S4x64x64x4, .f32⟩
  | 1 => ⟨S4x64x64x4, .f32⟩
  | 2 => ⟨S1x64x64x1, .i1⟩
  | 3 => ⟨S_, .f32⟩
  | 4 => ⟨S_, .f32⟩
  | 5 => ⟨S4x64x64x4, .i1⟩
  | 6 => ⟨S4x64x64x4, .f32⟩
  | 7 => ⟨S4x64x64x4, .f32⟩
  | 8 => ⟨S4x1x4, .f32⟩
  | 9 => ⟨S4x64x4, .f32⟩
  | 10 => ⟨S4x64x4, .f32⟩
  | 11 => ⟨S_, .f32⟩
  | 12 => ⟨S4x64x4, .f32⟩
  | 13 => ⟨S4x64x4, .f32⟩
  | 14 => ⟨S4x4x64x64, .f32⟩
  | 15 => ⟨S4x64x64x4, .f32⟩
  | 16 => ⟨S4x64x1x4, .f32⟩
  | 17 => ⟨S4x64x64x4, .f32⟩
  | 18 => ⟨S4x64x64x4, .f32⟩
  | 19 => ⟨S4x64x64x4, .f32⟩
  | 20 => ⟨S4x64x64x4, .f32⟩
  | 21 => ⟨S4x64x4, .f32⟩
  | 22 => ⟨S4x64x4, .f32⟩
  | 23 => ⟨S4x4x512x64, .f32⟩
  | 24 => ⟨S4x64x4x512, .f32⟩
  | 25 => ⟨S4x64x4x1, .f32⟩
  | 26 => ⟨S4x4x512x64, .f32⟩
  | 27 => ⟨S4x64x4x512, .f32⟩
  | 28 => ⟨S4x64x4x512, .f32⟩
  | 29 => ⟨S4x64x4x512, .f32⟩
  | 30 => ⟨S4x64x4x512, .f32⟩
  | 31 => ⟨S_, .f32⟩
  | 32 => ⟨S4x64x4, .f32⟩
  | 33 => ⟨S4x4x64, .f32⟩
  | 34 => ⟨S4x64x4, .f32⟩
  | 35 => ⟨S4x64x4, .f32⟩
  | 36 => ⟨S4x64x4, .f32⟩
  | 37 => ⟨S4x64x4, .f32⟩
  | 38 => ⟨S4x64x4, .f32⟩
  | 39 => ⟨S4x64x4, .f32⟩
  | 40 => ⟨S4x64x4, .f32⟩
  | 41 => ⟨S4x64x4x1, .f32⟩
  | 42 => ⟨S4x64x4x512, .f32⟩
  | 43 => ⟨S4x64x4x512, .f32⟩
  | 44 => ⟨S4x1x4, .f32⟩
  | 45 => ⟨S4x4, .f32⟩
  | 46 => ⟨S4x1x4, .f32⟩
  | 47 => ⟨S4x64x4, .f32⟩
  | 48 => ⟨S4x64x4, .f32⟩
  | 49 => ⟨S4x64x4, .f32⟩
  | 50 => ⟨S4x4, .f32⟩
  | 51 => ⟨S_, .f32⟩
  | 52 => ⟨S4x4, .f32⟩
  | 53 => ⟨S4x4, .f32⟩
  | 54 => ⟨S4x1x4, .f32⟩
  | 55 => ⟨S4x64x4, .f32⟩
  | 56 => ⟨S4x64x4, .f32⟩
  | 57 => ⟨S4x64x4, .f32⟩
  | 58 => ⟨S4x4, .f32⟩
  | 59 => ⟨S4x4, .f32⟩
  | 60 => ⟨S4x4, .f32⟩
  | 61 => ⟨S4x4x1x1, .f32⟩
  | 62 => ⟨S4x4x512x256, .f32⟩
  | 63 => ⟨S4x4x512x256, .f32⟩
  | 64 => ⟨S4x64x4x1, .f32⟩
  | 65 => ⟨S4x64x4x512, .f32⟩
  | 66 => ⟨S4x64x4x512, .f32⟩
  | 67 => ⟨S4x4x512x256, .f32⟩
  | 68 => ⟨S4x4x512x256, .f32⟩
  | 69 => ⟨S4x4x1, .f32⟩
  | 70 => ⟨S4x4x256, .f32⟩
  | 71 => ⟨S4x4x256, .f32⟩
  | 72 => ⟨S4x4x256, .f32⟩
  | 73 => ⟨S4x4x256, .f32⟩
  | 74 => ⟨S1x4x64x4x512, .f32⟩
  | 75 => ⟨S_, .i32⟩
  | 76 => ⟨S_, .i32⟩
  | 77 => ⟨S_, .i32⟩
  | 78 => ⟨S_, .i32⟩
  | 79 => ⟨S128x4x64x4x512, .f32⟩
  | 80 => ⟨S_, .i32⟩
  | 81 => ⟨S_, .i32⟩
  | 82 => ⟨S4x128x64x4x512, .f32⟩
  | 83 => ⟨S4x8192x4x512, .f32⟩
  | 84 => ⟨S4x512, .f32⟩
  | 85 => ⟨S4x8192x4x512, .f32⟩
  | 86 => ⟨S_, .f32⟩
  | 87 => ⟨S4x8192x4, .f32⟩
  | 88 => ⟨S4x8192x4x1, .f32⟩
  | 89 => ⟨S_, .f32⟩
  | 90 => ⟨S4x8192x4x1, .f32⟩
  | 91 => ⟨S4x8192x4x1, .f32⟩
  | 92 => ⟨S_, .f32⟩
  | 93 => ⟨S4x8192x4x1, .f32⟩
  | 94 => ⟨S4x8192x4x1, .f32⟩
  | 95 => ⟨S4x8192x4x1, .f32⟩
  | 96 => ⟨S4x8192x4x512, .f32⟩
  | 97 => ⟨S4x8192x4x512, .f32⟩
  | 98 => ⟨S1x1x4x512, .f32⟩
  | 99 => ⟨S4x8192x4x512, .f32⟩
  | 100 => ⟨S4x8192x4x512, .f32⟩
  | 101 => ⟨S4x8192x2048, .f32⟩
  | 102 => ⟨S4x8192x6144, .bf16⟩
  | 103 => ⟨S4x8192x2048, .bf16⟩
  | 104 => ⟨S4x8192x2048, .f32⟩
  | 105 => ⟨S4x8192x2048, .f32⟩
  | 106 => ⟨S4x8192x2048, .f32⟩
  | 107 => ⟨S_, .f32⟩
  | 108 => ⟨S4x8192x2048, .f32⟩
  | 109 => ⟨S4x8192x2048, .f32⟩
  | 110 => ⟨S_, .f32⟩
  | 111 => ⟨S4x8192x2048, .f32⟩
  | 112 => ⟨S4x8192x2048, .f32⟩
  | 113 => ⟨S4x8192x2048, .f32⟩
  | 114 => ⟨S32768x2048, .f32⟩
  | 115 => ⟨S32768x2048, .bf16⟩
  | _ => ⟨S32768x6144, .bf16⟩

abbrev hbmTy (i : Nat) : BufTy := match i / 128 with
  | 0 => hbmTy0_0 i
  | 1 => hbmTy0_1 i
  | _ => ⟨S32768x6144, .bf16⟩

abbrev bufTy : (tb : Table) → Fin (tcTables nBuf tb) → BufTy
  | .hbm, ⟨i, _⟩ => hbmTy i
  | _, _ => ⟨S32768x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_1 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_c : Ref sig .tc := ⟨.hbm, 48, rfl⟩
abbrev main_v26 : Ref sig .tc := ⟨.hbm, 49, rfl⟩
abbrev main_call1_v0 : Ref sig .tc := ⟨.hbm, 50, rfl⟩
abbrev main_call1_c : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_c_0 : Ref sig .tc := ⟨.hbm, 56, rfl⟩
abbrev main_call1_v5 : Ref sig .tc := ⟨.hbm, 57, rfl⟩
abbrev main_v27 : Ref sig .tc := ⟨.hbm, 58, rfl⟩
abbrev main_cst_2 : Ref sig .tc := ⟨.hbm, 59, rfl⟩
abbrev main_v28 : Ref sig .tc := ⟨.hbm, 60, rfl⟩
abbrev main_cst_3 : Ref sig .tc := ⟨.hbm, 61, rfl⟩
abbrev main_v29 : Ref sig .tc := ⟨.hbm, 62, rfl⟩
abbrev main_cst_4 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_cst_5 : Ref sig .tc := ⟨.hbm, 75, rfl⟩
abbrev main_v41 : Ref sig .tc := ⟨.hbm, 76, rfl⟩
abbrev main_c_6 : Ref sig .tc := ⟨.hbm, 77, rfl⟩
abbrev main_v42_0 : Ref sig .tc := ⟨.hbm, 78, rfl⟩
abbrev main_v42_1 : Ref sig .tc := ⟨.hbm, 79, rfl⟩
abbrev main_v42_2 : Ref sig .tc := ⟨.hbm, 80, rfl⟩
abbrev main_v42_3 : Ref sig .tc := ⟨.hbm, 81, rfl⟩
abbrev main_v42_4 : Ref sig .tc := ⟨.hbm, 82, rfl⟩
abbrev main_v42_5 : Ref sig .tc := ⟨.hbm, 83, rfl⟩
abbrev main_v42_6 : Ref sig .tc := ⟨.hbm, 84, rfl⟩
abbrev main_v42_7 : Ref sig .tc := ⟨.hbm, 85, rfl⟩
abbrev main_v42_8 : Ref sig .tc := ⟨.hbm, 86, rfl⟩
abbrev main_v42_9 : Ref sig .tc := ⟨.hbm, 87, rfl⟩
abbrev main_v42_10 : Ref sig .tc := ⟨.hbm, 88, rfl⟩
abbrev main_while0c_c_22 : Ref sig .tc := ⟨.hbm, 89, rfl⟩
abbrev main_while0c_v72 : Ref sig .tc := ⟨.hbm, 90, rfl⟩
abbrev main_while0b_call2_c : Ref sig .tc := ⟨.hbm, 91, rfl⟩
abbrev main_while0b_call2_c_0 : Ref sig .tc := ⟨.hbm, 92, rfl⟩
abbrev main_while0b_call2_c_1 : Ref sig .tc := ⟨.hbm, 93, rfl⟩
abbrev main_while0b_call2_c_2 : Ref sig .tc := ⟨.hbm, 94, rfl⟩
abbrev main_while0b_call2_v0 : Ref sig .tc := ⟨.hbm, 95, rfl⟩
abbrev main_while0b_v72 : Ref sig .tc := ⟨.hbm, 96, rfl⟩
abbrev main_while0b_call3_c : Ref sig .tc := ⟨.hbm, 97, rfl⟩
abbrev main_while0b_call3_c_0 : Ref sig .tc := ⟨.hbm, 98, rfl⟩
abbrev main_while0b_call3_c_1 : Ref sig .tc := ⟨.hbm, 99, rfl⟩
abbrev main_while0b_call3_c_2 : Ref sig .tc := ⟨.hbm, 100, rfl⟩
abbrev main_while0b_call3_v0 : Ref sig .tc := ⟨.hbm, 101, rfl⟩
abbrev main_while0b_v73 : Ref sig .tc := ⟨.hbm, 102, rfl⟩
abbrev main_while0b_call4_c : Ref sig .tc := ⟨.hbm, 103, rfl⟩
abbrev main_while0b_call4_c_0 : Ref sig .tc := ⟨.hbm, 104, rfl⟩
abbrev main_while0b_call4_c_1 : Ref sig .tc := ⟨.hbm, 105, rfl⟩
abbrev main_while0b_call4_c_2 : Ref sig .tc := ⟨.hbm, 106, rfl⟩
abbrev main_while0b_call4_v0 : Ref sig .tc := ⟨.hbm, 107, rfl⟩
abbrev main_while0b_v74 : Ref sig .tc := ⟨.hbm, 108, rfl⟩
abbrev main_while0b_call5_c : Ref sig .tc := ⟨.hbm, 109, rfl⟩
abbrev main_while0b_call5_c_0 : Ref sig .tc := ⟨.hbm, 110, rfl⟩
abbrev main_while0b_call5_c_1 : Ref sig .tc := ⟨.hbm, 111, rfl⟩
abbrev main_while0b_call5_v0 : Ref sig .tc := ⟨.hbm, 112, rfl⟩
abbrev main_while0b_v75 : Ref sig .tc := ⟨.hbm, 113, rfl⟩
abbrev main_while0b_call6_c : Ref sig .tc := ⟨.hbm, 114, rfl⟩
abbrev main_while0b_call6_c_0 : Ref sig .tc := ⟨.hbm, 115, rfl⟩
abbrev main_while0b_call6_c_1 : Ref sig .tc := ⟨.hbm, 116, rfl⟩
abbrev main_while0b_call6_v0 : Ref sig .tc := ⟨.hbm, 117, rfl⟩
abbrev main_while0b_v76 : Ref sig .tc := ⟨.hbm, 118, rfl⟩
abbrev main_while0b_call7_call0_cst : Ref sig .tc := ⟨.hbm, 119, rfl⟩
abbrev main_while0b_call7_call0_v0 : Ref sig .tc := ⟨.hbm, 120, rfl⟩
abbrev main_while0b_v77 : Ref sig .tc := ⟨.hbm, 121, rfl⟩
abbrev main_while0b_v78 : Ref sig .tc := ⟨.hbm, 122, rfl⟩
abbrev main_while0b_v79 : Ref sig .tc := ⟨.hbm, 123, rfl⟩
abbrev main_while0b_v80 : Ref sig .tc := ⟨.hbm, 124, rfl⟩
abbrev main_while0b_v81 : Ref sig .tc := ⟨.hbm, 125, rfl⟩
abbrev main_while0b_v82 : Ref sig .tc := ⟨.hbm, 126, rfl⟩
abbrev main_while0b_v83 : Ref sig .tc := ⟨.hbm, 127, rfl⟩
abbrev main_while0b_v84 : Ref sig .tc := ⟨.hbm, 128, rfl⟩
abbrev main_while0b_v85 : Ref sig .tc := ⟨.hbm, 129, rfl⟩
abbrev main_while0b_v86 : Ref sig .tc := ⟨.hbm, 130, rfl⟩
abbrev main_while0b_cst_22 : Ref sig .tc := ⟨.hbm, 131, rfl⟩
abbrev main_while0b_call8_v0 : Ref sig .tc := ⟨.hbm, 132, rfl⟩
abbrev main_while0b_call8_v1 : Ref sig .tc := ⟨.hbm, 133, rfl⟩
abbrev main_while0b_call8_v2 : Ref sig .tc := ⟨.hbm, 134, rfl⟩
abbrev main_while0b_v87 : Ref sig .tc := ⟨.hbm, 135, rfl⟩
abbrev main_while0b_v88 : Ref sig .tc := ⟨.hbm, 136, rfl⟩
abbrev main_while0b_v89 : Ref sig .tc := ⟨.hbm, 137, rfl⟩
abbrev main_while0b_v90 : Ref sig .tc := ⟨.hbm, 138, rfl⟩
abbrev main_while0b_cst_23 : Ref sig .tc := ⟨.hbm, 139, rfl⟩
abbrev main_while0b_v91 : Ref sig .tc := ⟨.hbm, 140, rfl⟩
abbrev main_while0b_v92 : Ref sig .tc := ⟨.hbm, 141, rfl⟩
abbrev main_while0b_v93 : Ref sig .tc := ⟨.hbm, 142, rfl⟩
abbrev main_while0b_v94 : Ref sig .tc := ⟨.hbm, 143, rfl⟩
abbrev main_while0b_v95 : Ref sig .tc := ⟨.hbm, 144, rfl⟩
abbrev main_while0b_v96 : Ref sig .tc := ⟨.hbm, 145, rfl⟩
abbrev main_while0b_v97 : Ref sig .tc := ⟨.hbm, 146, rfl⟩
abbrev main_while0b_v98 : Ref sig .tc := ⟨.hbm, 147, rfl⟩
abbrev main_while0b_v99 : Ref sig .tc := ⟨.hbm, 148, rfl⟩
abbrev main_while0b_v100 : Ref sig .tc := ⟨.hbm, 149, rfl⟩
abbrev main_while0b_v101 : Ref sig .tc := ⟨.hbm, 150, rfl⟩
abbrev main_while0b_v102 : Ref sig .tc := ⟨.hbm, 151, rfl⟩
abbrev main_while0b_v103 : Ref sig .tc := ⟨.hbm, 152, rfl⟩
abbrev main_while0b_v104 : Ref sig .tc := ⟨.hbm, 153, rfl⟩
abbrev main_while0b_v105 : Ref sig .tc := ⟨.hbm, 154, rfl⟩
abbrev main_while0b_v106 : Ref sig .tc := ⟨.hbm, 155, rfl⟩
abbrev main_while0b_v107 : Ref sig .tc := ⟨.hbm, 156, rfl⟩
abbrev main_while0b_v108 : Ref sig .tc := ⟨.hbm, 157, rfl⟩
abbrev main_while0b_v109 : Ref sig .tc := ⟨.hbm, 158, rfl⟩
abbrev main_while0b_cst_24 : Ref sig .tc := ⟨.hbm, 159, rfl⟩
abbrev main_while0b_v110 : Ref sig .tc := ⟨.hbm, 160, rfl⟩
abbrev main_while0b_v111 : Ref sig .tc := ⟨.hbm, 161, rfl⟩
abbrev main_while0b_v112 : Ref sig .tc := ⟨.hbm, 162, rfl⟩
abbrev main_while0b_v113 : Ref sig .tc := ⟨.hbm, 163, rfl⟩
abbrev main_while0b_v114 : Ref sig .tc := ⟨.hbm, 164, rfl⟩
abbrev main_while0b_v115 : Ref sig .tc := ⟨.hbm, 165, rfl⟩
abbrev main_while0b_v116 : Ref sig .tc := ⟨.hbm, 166, rfl⟩
abbrev main_while0b_v117 : Ref sig .tc := ⟨.hbm, 167, rfl⟩
abbrev main_while0b_v118 : Ref sig .tc := ⟨.hbm, 168, rfl⟩
abbrev main_while0b_v119 : Ref sig .tc := ⟨.hbm, 169, rfl⟩
abbrev main_while0b_v120 : Ref sig .tc := ⟨.hbm, 170, rfl⟩
abbrev main_while0b_v121 : Ref sig .tc := ⟨.hbm, 171, rfl⟩
abbrev main_while0b_v122 : Ref sig .tc := ⟨.hbm, 172, rfl⟩
abbrev main_while0b_v123 : Ref sig .tc := ⟨.hbm, 173, rfl⟩
abbrev main_while0b_v124 : Ref sig .tc := ⟨.hbm, 174, rfl⟩
abbrev main_while0b_v125 : Ref sig .tc := ⟨.hbm, 175, rfl⟩
abbrev main_while0b_v126 : Ref sig .tc := ⟨.hbm, 176, rfl⟩
abbrev main_while0b_v127 : Ref sig .tc := ⟨.hbm, 177, rfl⟩
abbrev main_while0b_v128 : Ref sig .tc := ⟨.hbm, 178, rfl⟩
abbrev main_while0b_cst_25 : Ref sig .tc := ⟨.hbm, 179, rfl⟩
abbrev main_while0b_v129 : Ref sig .tc := ⟨.hbm, 180, rfl⟩
abbrev main_while0b_v130 : Ref sig .tc := ⟨.hbm, 181, rfl⟩
abbrev main_while0b_v131 : Ref sig .tc := ⟨.hbm, 182, rfl⟩
abbrev main_while0b_v132 : Ref sig .tc := ⟨.hbm, 183, rfl⟩
abbrev main_while0b_v133 : Ref sig .tc := ⟨.hbm, 184, rfl⟩
abbrev main_while0b_v134 : Ref sig .tc := ⟨.hbm, 185, rfl⟩
abbrev main_while0b_v135 : Ref sig .tc := ⟨.hbm, 186, rfl⟩
abbrev main_while0b_v136 : Ref sig .tc := ⟨.hbm, 187, rfl⟩
abbrev main_while0b_v137 : Ref sig .tc := ⟨.hbm, 188, rfl⟩
abbrev main_while0b_v138 : Ref sig .tc := ⟨.hbm, 189, rfl⟩
abbrev main_while0b_v139 : Ref sig .tc := ⟨.hbm, 190, rfl⟩
abbrev main_while0b_v140 : Ref sig .tc := ⟨.hbm, 191, rfl⟩
abbrev main_while0b_v141 : Ref sig .tc := ⟨.hbm, 192, rfl⟩
abbrev main_while0b_v142 : Ref sig .tc := ⟨.hbm, 193, rfl⟩
abbrev main_while0b_v143 : Ref sig .tc := ⟨.hbm, 194, rfl⟩
abbrev main_while0b_v144 : Ref sig .tc := ⟨.hbm, 195, rfl⟩
abbrev main_while0b_v145 : Ref sig .tc := ⟨.hbm, 196, rfl⟩
abbrev main_while0b_v146 : Ref sig .tc := ⟨.hbm, 197, rfl⟩
abbrev main_while0b_v147 : Ref sig .tc := ⟨.hbm, 198, rfl⟩
abbrev main_while0b_v148 : Ref sig .tc := ⟨.hbm, 199, rfl⟩
abbrev main_while0b_v149 : Ref sig .tc := ⟨.hbm, 200, rfl⟩
abbrev main_while0b_v150 : Ref sig .tc := ⟨.hbm, 201, rfl⟩
abbrev main_while0b_call9_v0 : Ref sig .tc := ⟨.hbm, 202, rfl⟩
abbrev main_while0b_call9_c : Ref sig .tc := ⟨.hbm, 203, rfl⟩
abbrev main_while0b_call9_c_0 : Ref sig .tc := ⟨.hbm, 204, rfl⟩
abbrev main_while0b_call9_c_1 : Ref sig .tc := ⟨.hbm, 205, rfl⟩
abbrev main_while0b_call9_c_2 : Ref sig .tc := ⟨.hbm, 206, rfl⟩
abbrev main_while0b_v151 : Ref sig .tc := ⟨.hbm, 207, rfl⟩
abbrev main_while0b_c_26 : Ref sig .tc := ⟨.hbm, 208, rfl⟩
abbrev main_while0b_v152 : Ref sig .tc := ⟨.hbm, 209, rfl⟩
abbrev main_v43 : Ref sig .tc := ⟨.hbm, 210, rfl⟩
abbrev main_v44 : Ref sig .tc := ⟨.hbm, 211, rfl⟩
abbrev main_v45 : Ref sig .tc := ⟨.hbm, 212, rfl⟩
abbrev main_v46 : Ref sig .tc := ⟨.hbm, 213, rfl⟩
abbrev main_cst_7 : Ref sig .tc := ⟨.hbm, 214, rfl⟩
abbrev main_v47 : Ref sig .tc := ⟨.hbm, 215, rfl⟩
abbrev main_v48 : Ref sig .tc := ⟨.hbm, 216, rfl⟩
abbrev main_cst_8 : Ref sig .tc := ⟨.hbm, 217, rfl⟩
abbrev main_v49 : Ref sig .tc := ⟨.hbm, 218, rfl⟩
abbrev main_v50 : Ref sig .tc := ⟨.hbm, 219, rfl⟩
abbrev main_cst_9 : Ref sig .tc := ⟨.hbm, 220, rfl⟩
abbrev main_v51 : Ref sig .tc := ⟨.hbm, 221, rfl⟩
abbrev main_v52 : Ref sig .tc := ⟨.hbm, 222, rfl⟩
abbrev main_v53 : Ref sig .tc := ⟨.hbm, 223, rfl⟩
abbrev main_v54 : Ref sig .tc := ⟨.hbm, 224, rfl⟩
abbrev main_v55 : Ref sig .tc := ⟨.hbm, 225, rfl⟩
abbrev main_v56 : Ref sig .tc := ⟨.hbm, 226, rfl⟩
abbrev main_v57 : Ref sig .tc := ⟨.hbm, 227, rfl⟩
abbrev main_v58 : Ref sig .tc := ⟨.hbm, 228, rfl⟩
abbrev main_v59 : Ref sig .tc := ⟨.hbm, 229, rfl⟩
abbrev main_v60 : Ref sig .tc := ⟨.hbm, 230, rfl⟩
abbrev main_v61 : Ref sig .tc := ⟨.hbm, 231, rfl⟩
abbrev main_v62 : Ref sig .tc := ⟨.hbm, 232, rfl⟩
abbrev main_v63 : Ref sig .tc := ⟨.hbm, 233, rfl⟩
abbrev main_v64 : Ref sig .tc := ⟨.hbm, 234, rfl⟩
abbrev main_cst_10 : Ref sig .tc := ⟨.hbm, 235, rfl⟩
abbrev main_v65 : Ref sig .tc := ⟨.hbm, 236, rfl⟩
abbrev main_v66 : Ref sig .tc := ⟨.hbm, 237, rfl⟩
abbrev main_cst_11 : Ref sig .tc := ⟨.hbm, 238, rfl⟩
abbrev main_v67 : Ref sig .tc := ⟨.hbm, 239, rfl⟩
abbrev main_v68 : Ref sig .tc := ⟨.hbm, 240, rfl⟩
abbrev main_v69 : Ref sig .tc := ⟨.hbm, 241, rfl⟩
abbrev main_v70 : Ref sig .tc := ⟨.hbm, 242, rfl⟩
abbrev main_v71 : Ref sig .tc := ⟨.hbm, 243, rfl⟩

abbrev nD : Nat := 1
abbrev τ : Topo := Topo.v7x

variable {F : FTy → Type} [FloatOps F]

abbrev main_while0_count : Scf.Loop 32 := ⟨0#32, 128#32, 1#32⟩
-- ==== MlstmIn.lean ====
abbrev S32768x2048 : Shape := ⟨2, ![32768, 2048]⟩
abbrev S4x12288 : Shape := ⟨2, ![4, 12288]⟩
abbrev S2048x6152 : Shape := ⟨2, ![2048, 6152]⟩
abbrev S2048x6144 : Shape := ⟨2, ![2048, 6144]⟩
abbrev S4x6x2048 : Shape := ⟨3, ![4, 6, 2048]⟩
abbrev S32768x6144 : Shape := ⟨2, ![32768, 6144]⟩
abbrev S1024x2048 : Shape := ⟨2, ![1024, 2048]⟩
abbrev S1x6x2048 : Shape := ⟨3, ![1, 6, 2048]⟩
abbrev S2048x1024 : Shape := ⟨2, ![2048, 1024]⟩
abbrev S1024x1024 : Shape := ⟨2, ![1024, 1024]⟩
abbrev S6x2048 : Shape := ⟨2, ![6, 2048]⟩
abbrev S1x2048 : Shape := ⟨2, ![1, 2048]⟩

abbrev nBuf : Space → Nat
  | .hbm => 7
  | .vmem => 9
  | .smem => 0
  | _ => 0

abbrev bufTy : (tb : Table) → Fin (tcTables nBuf tb) → BufTy
  | .hbm, ⟨0, _⟩ => ⟨S32768x2048, .f32⟩
  | .hbm, ⟨1, _⟩ => ⟨S4x12288, .f32⟩
  | .hbm, ⟨2, _⟩ => ⟨S2048x6152, .f32⟩
  | .hbm, ⟨3, _⟩ => ⟨S2048x6144, .f32⟩
  | .hbm, ⟨4, _⟩ => ⟨S2048x6144, .bf16⟩
  | .hbm, ⟨5, _⟩ => ⟨S4x6x2048, .f32⟩
  | .hbm, ⟨6, _⟩ => ⟨S32768x6144, .bf16⟩
  | .local _ .vmem, ⟨0, _⟩ => ⟨S1024x2048, .f32⟩
  | .local _ .vmem, ⟨1, _⟩ => ⟨S1024x2048, .f32⟩
  | .local _ .vmem, ⟨2, _⟩ => ⟨S1x6x2048, .f32⟩
  | .local _ .vmem, ⟨3, _⟩ => ⟨S1x6x2048, .f32⟩
  | .local _ .vmem, ⟨4, _⟩ => ⟨S2048x1024, .bf16⟩
  | .local _ .vmem, ⟨5, _⟩ => ⟨S2048x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MlstmInRefIdeal.lean ====
abbrev S32768x2048 : Shape := ⟨2, ![32768, 2048]⟩
abbrev S4x12288 : Shape := ⟨2, ![4, 12288]⟩
abbrev S2048x6152 : Shape := ⟨2, ![2048, 6152]⟩
abbrev S4x1x12288 : Shape := ⟨3, ![4, 1, 12288]⟩
abbrev S4x1x2048 : Shape := ⟨3, ![4, 1, 2048]⟩
abbrev S4x8192x2048 : Shape := ⟨3, ![4, 8192, 2048]⟩
abbrev S_ : Shape := ⟨0, ![]⟩
abbrev S4x8192x6152 : Shape := ⟨3, ![4, 8192, 6152]⟩
abbrev S4x8192x6144 : Shape := ⟨3, ![4, 8192, 6144]⟩
abbrev S32768x6144 : Shape := ⟨2, ![32768, 6144]⟩

abbrev nBuf : Space → Nat
  | .hbm => 22
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S4x12288, .f32⟩
  | .hbm, ⟨2, _⟩ => ⟨S2048x6152, .f32⟩
  | .hbm, ⟨3, _⟩ => ⟨S4x1x12288, .f32⟩
  | .hbm, ⟨4, _⟩ => ⟨S4x1x2048, .f32⟩
  | .hbm, ⟨5, _⟩ => ⟨S4x1x2048, .f32⟩
  | .hbm, ⟨6, _⟩ => ⟨S4x1x2048, .f32⟩
  | .hbm, ⟨7, _⟩ => ⟨S4x1x2048, .f32⟩
  | .hbm, ⟨8, _⟩ => ⟨S4x1x2048, .f32⟩
  | .hbm, ⟨9, _⟩ => ⟨S4x1x2048, .f32⟩
  | .hbm, ⟨10, _⟩ => ⟨S4x8192x2048, .f32⟩
  | .hbm, ⟨11, _⟩ => ⟨S_, .f32⟩
  | .hbm, ⟨12, _⟩ => ⟨S4x1x2048, .f32⟩
  | .hbm, ⟨13, _⟩ => ⟨S4x1x2048, .f32⟩
  | .hbm, ⟨14, _⟩ => ⟨S4x8192x2048, .f32⟩
  | .hbm, ⟨15, _⟩ => ⟨S4x8192x2048, .f32⟩
  | .hbm, ⟨16, _⟩ => ⟨S4x8192x2048, .f32⟩
  | .hbm, ⟨17, _⟩ => ⟨S4x8192x2048, .f32⟩
  | .hbm, ⟨18, _⟩ => ⟨S4x8192x6152, .f32⟩
  | .hbm, ⟨19, _⟩ => ⟨S4x8192x6144, .f32⟩
  | .hbm, ⟨20, _⟩ => ⟨S32768x6144, .f32⟩
  | .hbm, ⟨21, _⟩ => ⟨S32768x6144, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩

abbrev nD : Nat := 1
abbrev τ : Topo := Topo.v7x

variable {F : FTy → Type} [FloatOps F]
-- ==== HgrnIn.lean ====
abbrev S32768x2048 : Shape := ⟨2, ![32768, 2048]⟩
abbrev S4x12288 : Shape := ⟨2, ![4, 12288]⟩
abbrev S2048x8192 : Shape := ⟨2, ![2048, 8192]⟩
abbrev S2048x4x16x128 : Shape := ⟨4, ![2048, 4, 16, 128]⟩
abbrev S2048x16x4x128 : Shape := ⟨4, ![2048, 16, 4, 128]⟩
abbrev S4x6x2048 : Shape := ⟨3, ![4, 6, 2048]⟩
abbrev S32768x8192 : Shape := ⟨2, ![32768, 8192]⟩
abbrev S1024x2048 : Shape := ⟨2, ![1024, 2048]⟩
abbrev S1x6x2048 : Shape := ⟨3, ![1, 6, 2048]⟩
abbrev S2048x1024 : Shape := ⟨2, ![2048, 1024]⟩
abbrev S1024x1024 : Shape := ⟨2, ![1024, 1024]⟩
abbrev S6x2048 : Shape := ⟨2, ![6, 2048]⟩
abbrev S1x2048 : Shape := ⟨2, ![1, 2048]⟩

abbrev nBuf : Space → Nat
  | .hbm => 9
  | .vmem => 9
  | .smem => 0
  | _ => 0

abbrev bufTy : (tb : Table) → Fin (tcTables nBuf tb) → BufTy
  | .hbm, ⟨0, _⟩ => ⟨S32768x2048, .f32⟩
  | .hbm, ⟨1, _⟩ => ⟨S4x12288, .f32⟩
  | .hbm, ⟨2, _⟩ => ⟨S2048x8192, .f32⟩
  | .hbm, ⟨3, _⟩ => ⟨S2048x4x16x128, .f32⟩
  | .hbm, ⟨4, _⟩ => ⟨S2048x16x4x128, .f32⟩
  | .hbm, ⟨5, _⟩ => ⟨S2048x8192, .f32⟩
  | .hbm, ⟨6, _⟩ => ⟨S2048x8192, .bf16⟩
  | .hbm, ⟨7, _⟩ => ⟨S4x6x2048, .f32⟩
  | .hbm, ⟨8, _⟩ => ⟨S32768x8192, .bf16⟩
  | .local _ .vmem, ⟨0, _⟩ => ⟨S1024x2048, .f32⟩
  | .local _ .vmem, ⟨1, _⟩ => ⟨S1024x2048, .f32⟩
  | .local _ .vmem, ⟨2, _⟩ => ⟨S1x6x2048, .f32⟩
  | .local _ .vmem, ⟨3, _⟩ => ⟨S1x6x2048, .f32⟩
  | .local _ .vmem, ⟨4, _⟩ => ⟨S2048x1024, .bf16⟩
  | .local _ .vmem, ⟨5, _⟩ => ⟨S2048x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== HgrnInRefIdeal.lean ====
abbrev S32768x2048 : Shape := ⟨2, ![32768, 2048]⟩
abbrev S4x12288 : Shape := ⟨2, ![4, 12288]⟩
abbrev S2048x8192 : Shape := ⟨2, ![2048, 8192]⟩
abbrev S4x1x12288 : Shape := ⟨3, ![4, 1, 12288]⟩
abbrev S4x1x2048 : Shape := ⟨3, ![4, 1, 2048]⟩
abbrev S4x8192x2048 : Shape := ⟨3, ![4, 8192, 2048]⟩
abbrev S_ : Shape := ⟨0, ![]⟩
abbrev S4x8192x8192 : Shape := ⟨3, ![4, 8192, 8192]⟩
abbrev S32768x4x16x128 : Shape := ⟨4, ![32768, 4, 16, 128]⟩
abbrev S32768x16x4x128 : Shape := ⟨4, ![32768, 16, 4, 128]⟩
abbrev S32768x8192 : Shape := ⟨2, ![32768, 8192]⟩

abbrev nBuf : Space → Nat
  | .hbm => 23
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S4x12288, .f32⟩
  | .hbm, ⟨2, _⟩ => ⟨S2048x8192, .f32⟩
  | .hbm, ⟨3, _⟩ => ⟨S4x1x12288, .f32⟩
  | .hbm, ⟨4, _⟩ => ⟨S4x1x2048, .f32⟩
  | .hbm, ⟨5, _⟩ => ⟨S4x1x2048, .f32⟩
  | .hbm, ⟨6, _⟩ => ⟨S4x1x2048, .f32⟩
  | .hbm, ⟨7, _⟩ => ⟨S4x1x2048, .f32⟩
  | .hbm, ⟨8, _⟩ => ⟨S4x1x2048, .f32⟩
  | .hbm, ⟨9, _⟩ => ⟨S4x1x2048, .f32⟩
  | .hbm, ⟨10, _⟩ => ⟨S4x8192x2048, .f32⟩
  | .hbm, ⟨11, _⟩ => ⟨S_, .f32⟩
  | .hbm, ⟨12, _⟩ => ⟨S4x1x2048, .f32⟩
  | .hbm, ⟨13, _⟩ => ⟨S4x1x2048, .f32⟩
  | .hbm, ⟨14, _⟩ => ⟨S4x8192x2048, .f32⟩
  | .hbm, ⟨15, _⟩ => ⟨S4x8192x2048, .f32⟩
  | .hbm, ⟨16, _⟩ => ⟨S4x8192x2048, .f32⟩
  | .hbm, ⟨17, _⟩ => ⟨S4x8192x2048, .f32⟩
  | .hbm, ⟨18, _⟩ => ⟨S4x8192x8192, .f32⟩
  | .hbm, ⟨19, _⟩ => ⟨S32768x4x16x128, .f32⟩
  | .hbm, ⟨20, _⟩ => ⟨S32768x16x4x128, .f32⟩
  | .hbm, ⟨21, _⟩ => ⟨S32768x8192, .f32⟩
  | .hbm, ⟨22, _⟩ => ⟨S32768x8192, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩

abbrev nD : Nat := 1
abbrev τ : Topo := Topo.v7x

variable {F : FTy → Type} [FloatOps F]
-- ==== SsdIn.lean ====
abbrev S32768x2048 : Shape := ⟨2, ![32768, 2048]⟩
abbrev S4x12288 : Shape := ⟨2, ![4, 12288]⟩
abbrev S2048x10304 : Shape := ⟨2, ![2048, 10304]⟩
abbrev S2048x10240 : Shape := ⟨2, ![2048, 10240]⟩
abbrev S4x6x2048 : Shape := ⟨3, ![4, 6, 2048]⟩
abbrev S32768x10240 : Shape := ⟨2, ![32768, 10240]⟩
abbrev S1024x2048 : Shape := ⟨2, ![1024, 2048]⟩
abbrev S1x6x2048 : Shape := ⟨3, ![1, 6, 2048]⟩
abbrev S2048x1024 : Shape := ⟨2, ![2048, 1024]⟩
abbrev S1024x1024 : Shape := ⟨2, ![1024, 1024]⟩
abbrev S6x2048 : Shape := ⟨2, ![6, 2048]⟩
abbrev S1x2048 : Shape := ⟨2, ![1, 2048]⟩

abbrev nBuf : Space → Nat
  | .hbm => 7
  | .vmem => 9
  | .smem => 0
  | _ => 0

abbrev bufTy : (tb : Table) → Fin (tcTables nBuf tb) → BufTy
  | .hbm, ⟨0, _⟩ => ⟨S32768x2048, .f32⟩
  | .hbm, ⟨1, _⟩ => ⟨S4x12288, .f32⟩
  | .hbm, ⟨2, _⟩ => ⟨S2048x10304, .f32⟩
  | .hbm, ⟨3, _⟩ => ⟨S2048x10240, .f32⟩
  | .hbm, ⟨4, _⟩ => ⟨S2048x10240, .bf16⟩
  | .hbm, ⟨5, _⟩ => ⟨S4x6x2048, .f32⟩
  | .hbm, ⟨6, _⟩ => ⟨S32768x10240, .bf16⟩
  | .local _ .vmem, ⟨0, _⟩ => ⟨S1024x2048, .f32⟩
  | .local _ .vmem, ⟨1, _⟩ => ⟨S1024x2048, .f32⟩
  | .local _ .vmem, ⟨2, _⟩ => ⟨S1x6x2048, .f32⟩
  | .local _ .vmem, ⟨3, _⟩ => ⟨S1x6x2048, .f32⟩
  | .local _ .vmem, ⟨4, _⟩ => ⟨S2048x1024, .bf16⟩
  | .local _ .vmem, ⟨5, _⟩ => ⟨S2048x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SsdInRefIdeal.lean ====
abbrev S32768x2048 : Shape := ⟨2, ![32768, 2048]⟩
abbrev S4x12288 : Shape := ⟨2, ![4, 12288]⟩
abbrev S2048x10304 : Shape := ⟨2, ![2048, 10304]⟩
abbrev S4x1x12288 : Shape := ⟨3, ![4, 1, 12288]⟩
abbrev S4x1x2048 : Shape := ⟨3, ![4, 1, 2048]⟩
abbrev S4x8192x2048 : Shape := ⟨3, ![4, 8192, 2048]⟩
abbrev S_ : Shape := ⟨0, ![]⟩
abbrev S4x8192x10304 : Shape := ⟨3, ![4, 8192, 10304]⟩
abbrev S4x8192x10240 : Shape := ⟨3, ![4, 8192, 10240]⟩
abbrev S32768x10240 : Shape := ⟨2, ![32768, 10240]⟩

abbrev nBuf : Space → Nat
  | .hbm => 22
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S4x12288, .f32⟩
  | .hbm, ⟨2, _⟩ => ⟨S2048x10304, .f32⟩
  | .hbm, ⟨3, _⟩ => ⟨S4x1x12288, .f32⟩
  | .hbm, ⟨4, _⟩ => ⟨S4x1x2048, .f32⟩
  | .hbm, ⟨5, _⟩ => ⟨S4x1x2048, .f32⟩
  | .hbm, ⟨6, _⟩ => ⟨S4x1x2048, .f32⟩
  | .hbm, ⟨7, _⟩ => ⟨S4x1x2048, .f32⟩
  | .hbm, ⟨8, _⟩ => ⟨S4x1x2048, .f32⟩
  | .hbm, ⟨9, _⟩ => ⟨S4x1x2048, .f32⟩
  | .hbm, ⟨10, _⟩ => ⟨S4x8192x2048, .f32⟩
  | .hbm, ⟨11, _⟩ => ⟨S_, .f32⟩
  | .hbm, ⟨12, _⟩ => ⟨S4x1x2048, .f32⟩
  | .hbm, ⟨13, _⟩ => ⟨S4x1x2048, .f32⟩
  | .hbm, ⟨14, _⟩ => ⟨S4x8192x2048, .f32⟩
  | .hbm, ⟨15, _⟩ => ⟨S4x8192x2048, .f32⟩
  | .hbm, ⟨16, _⟩ => ⟨S4x8192x2048, .f32⟩
  | .hbm, ⟨17, _⟩ => ⟨S4x8192x2048, .f32⟩
  | .hbm, ⟨18, _⟩ => ⟨S4x8192x10304, .f32⟩
  | .hbm, ⟨19, _⟩ => ⟨S4x8192x10240, .f32⟩
  | .hbm, ⟨20, _⟩ => ⟨S32768x10240, .f32⟩
  | .hbm, ⟨21, _⟩ => ⟨S32768x10240, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩

abbrev nD : Nat := 1
abbrev τ : Topo := Topo.v7x

variable {F : FTy → Type} [FloatOps F]
-- ==== Out.lean ====
abbrev S32768x2048 : Shape := ⟨2, ![32768, 2048]⟩
abbrev S2048x2048 : Shape := ⟨2, ![2048, 2048]⟩
abbrev S4x12288 : Shape := ⟨2, ![4, 12288]⟩
abbrev S2048 : Shape := ⟨1, ![2048]⟩
abbrev S4x6x2048 : Shape := ⟨3, ![4, 6, 2048]⟩
abbrev S1x2048 : Shape := ⟨2, ![1, 2048]⟩
abbrev S512x2048 : Shape := ⟨2, ![512, 2048]⟩
abbrev S1x6x2048 : Shape := ⟨3, ![1, 6, 2048]⟩
abbrev S6x2048 : Shape := ⟨2, ![6, 2048]⟩
abbrev S512 : Shape := ⟨1, ![512]⟩
abbrev S512x1 : Shape := ⟨2, ![512, 1]⟩

abbrev nBuf : Space → Nat
  | .hbm => 11
  | .vmem => 12
  | .smem => 0
  | _ => 0

abbrev bufTy : (tb : Table) → Fin (tcTables nBuf tb) → BufTy
  | .hbm, ⟨0, _⟩ => ⟨S32768x2048, .bf16⟩
  | .hbm, ⟨1, _⟩ => ⟨S2048x2048, .f32⟩
  | .hbm, ⟨2, _⟩ => ⟨S32768x2048, .f32⟩
  | .hbm, ⟨3, _⟩ => ⟨S4x12288, .f32⟩
  | .hbm, ⟨4, _⟩ => ⟨S2048, .f32⟩
  | .hbm, ⟨5, _⟩ => ⟨S2048, .f32⟩
  | .hbm, ⟨6, _⟩ => ⟨S2048x2048, .bf16⟩
  | .hbm, ⟨7, _⟩ => ⟨S4x6x2048, .f32⟩
  | .hbm, ⟨8, _⟩ => ⟨S1x2048, .f32⟩
  | .hbm, ⟨9, _⟩ => ⟨S1x2048, .f32⟩
  | .hbm, ⟨10, _⟩ => ⟨S32768x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x6x2048, .f32⟩
  | .local _ .vmem, ⟨6, _⟩ => ⟨S1x6x2048, .f32⟩
  | .local _ .vmem, ⟨7, _⟩ => ⟨S1x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![64, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x6x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== OutRefIdeal.lean ====
abbrev S32768x2048 : Shape := ⟨2, ![32768, 2048]⟩
abbrev S2048x2048 : Shape := ⟨2, ![2048, 2048]⟩
abbrev S4x12288 : Shape := ⟨2, ![4, 12288]⟩
abbrev S2048 : Shape := ⟨1, ![2048]⟩
abbrev S4x1x12288 : Shape := ⟨3, ![4, 1, 12288]⟩
abbrev S4x1x2048 : Shape := ⟨3, ![4, 1, 2048]⟩
abbrev S4x8192x2048 : Shape := ⟨3, ![4, 8192, 2048]⟩
abbrev S_ : Shape := ⟨0, ![]⟩
abbrev S4x8192 : Shape := ⟨2, ![4, 8192]⟩
abbrev S4x8192x1 : Shape := ⟨3, ![4, 8192, 1]⟩
abbrev S1x1x2048 : Shape := ⟨3, ![1, 1, 2048]⟩

abbrev nBuf : Space → Nat
  | .hbm => 56
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x2048, .f32⟩
  | .hbm, ⟨2, _⟩ => ⟨S32768x2048, .f32⟩
  | .hbm, ⟨3, _⟩ => ⟨S4x12288, .f32⟩
  | .hbm, ⟨4, _⟩ => ⟨S2048, .f32⟩
  | .hbm, ⟨5, _⟩ => ⟨S2048, .f32⟩
  | .hbm, ⟨6, _⟩ => ⟨S4x1x12288, .f32⟩
  | .hbm, ⟨7, _⟩ => ⟨S4x1x2048, .f32⟩
  | .hbm, ⟨8, _⟩ => ⟨S4x1x2048, .f32⟩
  | .hbm, ⟨9, _⟩ => ⟨S4x1x2048, .f32⟩
  | .hbm, ⟨10, _⟩ => ⟨S4x1x2048, .f32⟩
  | .hbm, ⟨11, _⟩ => ⟨S4x1x2048, .f32⟩
  | .hbm, ⟨12, _⟩ => ⟨S4x1x2048, .f32⟩
  | .hbm, ⟨13, _⟩ => ⟨S4x8192x2048, .f32⟩
  | .hbm, ⟨14, _⟩ => ⟨S32768x2048, .f32⟩
  | .hbm, ⟨15, _⟩ => ⟨S32768x2048, .f32⟩
  | .hbm, ⟨16, _⟩ => ⟨S4x8192x2048, .f32⟩
  | .hbm, ⟨17, _⟩ => ⟨S_, .f32⟩
  | .hbm, ⟨18, _⟩ => ⟨S4x8192x2048, .f32⟩
  | .hbm, ⟨19, _⟩ => ⟨S4x8192x2048, .f32⟩
  | .hbm, ⟨20, _⟩ => ⟨S_, .f32⟩
  | .hbm, ⟨21, _⟩ => ⟨S4x1x2048, .f32⟩
  | .hbm, ⟨22, _⟩ => ⟨S4x1x2048, .f32⟩
  | .hbm, ⟨23, _⟩ => ⟨S4x8192x2048, .f32⟩
  | .hbm, ⟨24, _⟩ => ⟨S4x8192x2048, .f32⟩
  | .hbm, ⟨25, _⟩ => ⟨S4x8192x2048, .f32⟩
  | .hbm, ⟨26, _⟩ => ⟨S_, .f32⟩
  | .hbm, ⟨27, _⟩ => ⟨S4x8192, .f32⟩
  | .hbm, ⟨28, _⟩ => ⟨S4x8192x1, .f32⟩
  | .hbm, ⟨29, _⟩ => ⟨S_, .f32⟩
  | .hbm, ⟨30, _⟩ => ⟨S4x8192x1, .f32⟩
  | .hbm, ⟨31, _⟩ => ⟨S4x8192x1, .f32⟩
  | .hbm, ⟨32, _⟩ => ⟨S4x8192x2048, .f32⟩
  | .hbm, ⟨33, _⟩ => ⟨S4x8192x2048, .f32⟩
  | .hbm, ⟨34, _⟩ => ⟨S4x8192x2048, .f32⟩
  | .hbm, ⟨35, _⟩ => ⟨S_, .f32⟩
  | .hbm, ⟨36, _⟩ => ⟨S4x8192, .f32⟩
  | .hbm, ⟨37, _⟩ => ⟨S4x8192x1, .f32⟩
  | .hbm, ⟨38, _⟩ => ⟨S_, .f32⟩
  | .hbm, ⟨39, _⟩ => ⟨S4x8192x1, .f32⟩
  | .hbm, ⟨40, _⟩ => ⟨S4x8192x1, .f32⟩
  | .hbm, ⟨41, _⟩ => ⟨S4x8192x2048, .f32⟩
  | .hbm, ⟨42, _⟩ => ⟨S4x8192x2048, .f32⟩
  | .hbm, ⟨43, _⟩ => ⟨S_, .f32⟩
  | .hbm, ⟨44, _⟩ => ⟨S4x8192x1, .f32⟩
  | .hbm, ⟨45, _⟩ => ⟨S4x8192x1, .f32⟩
  | .hbm, ⟨46, _⟩ => ⟨S4x8192x1, .f32⟩
  | .hbm, ⟨47, _⟩ => ⟨S4x8192x2048, .f32⟩
  | .hbm, ⟨48, _⟩ => ⟨S4x8192x2048, .f32⟩
  | .hbm, ⟨49, _⟩ => ⟨S1x1x2048, .f32⟩
  | .hbm, ⟨50, _⟩ => ⟨S4x8192x2048, .f32⟩
  | .hbm, ⟨51, _⟩ => ⟨S4x8192x2048, .f32⟩
  | .hbm, ⟨52, _⟩ => ⟨S1x1x2048, .f32⟩
  | .hbm, ⟨53, _⟩ => ⟨S4x8192x2048, .f32⟩
  | .hbm, ⟨54, _⟩ => ⟨S4x8192x2048, .f32⟩
  | .hbm, ⟨55, _⟩ => ⟨S32768x2048, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== SsdOut.lean ====
abbrev S32768x4096 : Shape := ⟨2, ![32768, 4096]⟩
abbrev S4096x2048 : Shape := ⟨2, ![4096, 2048]⟩
abbrev S32768x2048 : Shape := ⟨2, ![32768, 2048]⟩
abbrev S4x12288 : Shape := ⟨2, ![4, 12288]⟩
abbrev S2048 : Shape := ⟨1, ![2048]⟩
abbrev S4x6x2048 : Shape := ⟨3, ![4, 6, 2048]⟩
abbrev S1x2048 : Shape := ⟨2, ![1, 2048]⟩
abbrev S256x4096 : Shape := ⟨2, ![256, 4096]⟩
abbrev S256x2048 : Shape := ⟨2, ![256, 2048]⟩
abbrev S1x6x2048 : Shape := ⟨3, ![1, 6, 2048]⟩
abbrev S6x2048 : Shape := ⟨2, ![6, 2048]⟩
abbrev S256 : Shape := ⟨1, ![256]⟩
abbrev S256x1 : Shape := ⟨2, ![256, 1]⟩

abbrev nBuf : Space → Nat
  | .hbm => 11
  | .vmem => 12
  | .smem => 0
  | _ => 0

abbrev bufTy : (tb : Table) → Fin (tcTables nBuf tb) → BufTy
  | .hbm, ⟨0, _⟩ => ⟨S32768x4096, .bf16⟩
  | .hbm, ⟨1, _⟩ => ⟨S4096x2048, .f32⟩
  | .hbm, ⟨2, _⟩ => ⟨S32768x2048, .f32⟩
  | .hbm, ⟨3, _⟩ => ⟨S4x12288, .f32⟩
  | .hbm, ⟨4, _⟩ => ⟨S2048, .f32⟩
  | .hbm, ⟨5, _⟩ => ⟨S2048, .f32⟩
  | .hbm, ⟨6, _⟩ => ⟨S4096x2048, .bf16⟩
  | .hbm, ⟨7, _⟩ => ⟨S4x6x2048, .f32⟩
  | .hbm, ⟨8, _⟩ => ⟨S1x2048, .f32⟩
  | .hbm, ⟨9, _⟩ => ⟨S1x2048, .f32⟩
  | .hbm, ⟨10, _⟩ => ⟨S32768x2048, .f32⟩
  | .local _ .vmem, ⟨0, _⟩ => ⟨S256x4096, .bf16⟩
  | .local _ .vmem, ⟨1, _⟩ => ⟨S256x4096, .bf16⟩
  | .local _ .vmem, ⟨2, _⟩ => ⟨S4096x2048, .bf16⟩
  | .local _ .vmem, ⟨3, _⟩ => ⟨S256x2048, .f32⟩
  | .local _ .vmem, ⟨4, _⟩ => ⟨S256x2048, .f32⟩
  | .local _ .vmem, ⟨5, _⟩ => ⟨S1x6x2048, .f32⟩
  | .local _ .vmem, ⟨6, _⟩ => ⟨S1x6x2048, .f32⟩
  | .local _ .vmem, ⟨7, _⟩ => ⟨S1x2048, .f32⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | _, _ => ⟨S32768x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![128, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x6x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== SsdOutRefIdeal.lean ====
abbrev S32768x4096 : Shape := ⟨2, ![32768, 4096]⟩
abbrev S4096x2048 : Shape := ⟨2, ![4096, 2048]⟩
abbrev S32768x2048 : Shape := ⟨2, ![32768, 2048]⟩
abbrev S4x12288 : Shape := ⟨2, ![4, 12288]⟩
abbrev S2048 : Shape := ⟨1, ![2048]⟩
abbrev S4x1x12288 : Shape := ⟨3, ![4, 1, 12288]⟩
abbrev S4x1x2048 : Shape := ⟨3, ![4, 1, 2048]⟩
abbrev S4x8192x2048 : Shape := ⟨3, ![4, 8192, 2048]⟩
abbrev S_ : Shape := ⟨0, ![]⟩
abbrev S4x8192 : Shape := ⟨2, ![4, 8192]⟩
abbrev S4x8192x1 : Shape := ⟨3, ![4, 8192, 1]⟩
abbrev S1x1x2048 : Shape := ⟨3, ![1, 1, 2048]⟩

abbrev nBuf : Space → Nat
  | .hbm => 56
  | .vmem => 0
  | .smem => 0
  | _ => 0

abbrev bufTy : (tb : Table) → Fin (tcTables nBuf tb) → BufTy
  | .hbm, ⟨0, _⟩ => ⟨S32768x4096, .bf16⟩
  | .hbm, ⟨1, _⟩ => ⟨S4096x2048, .f32⟩
  | .hbm, ⟨2, _⟩ => ⟨S32768x2048, .f32⟩
  | .hbm, ⟨3, _⟩ => ⟨S4x12288, .f32⟩
  | .hbm, ⟨4, _⟩ => ⟨S2048, .f32⟩
  | .hbm, ⟨5, _⟩ => ⟨S2048, .f32⟩
  | .hbm, ⟨6, _⟩ => ⟨S4x1x12288, .f32⟩
  | .hbm, ⟨7, _⟩ => ⟨S4x1x2048, .f32⟩
  | .hbm, ⟨8, _⟩ => ⟨S4x1x2048, .f32⟩
  | .hbm, ⟨9, _⟩ => ⟨S4x1x2048, .f32⟩
  | .hbm, ⟨10, _⟩ => ⟨S4x1x2048, .f32⟩
  | .hbm, ⟨11, _⟩ => ⟨S4x1x2048, .f32⟩
  | .hbm, ⟨12, _⟩ => ⟨S4x1x2048, .f32⟩
  | .hbm, ⟨13, _⟩ => ⟨S4x8192x2048, .f32⟩
  | .hbm, ⟨14, _⟩ => ⟨S32768x4096, .f32⟩
  | .hbm, ⟨15, _⟩ => ⟨S32768x2048, .f32⟩
  | .hbm, ⟨16, _⟩ => ⟨S4x8192x2048, .f32⟩
  | .hbm, ⟨17, _⟩ => ⟨S_, .f32⟩
  | .hbm, ⟨18, _⟩ => ⟨S4x8192x2048, .f32⟩
  | .hbm, ⟨19, _⟩ => ⟨S4x8192x2048, .f32⟩
  | .hbm, ⟨20, _⟩ => ⟨S_, .f32⟩
  | .hbm, ⟨21, _⟩ => ⟨S4x1x2048, .f32⟩
  | .hbm, ⟨22, _⟩ => ⟨S4x1x2048, .f32⟩
  | .hbm, ⟨23, _⟩ => ⟨S4x8192x2048, .f32⟩
  | .hbm, ⟨24, _⟩ => ⟨S4x8192x2048, .f32⟩
  | .hbm, ⟨25, _⟩ => ⟨S4x8192x2048, .f32⟩
  | .hbm, ⟨26, _⟩ => ⟨S_, .f32⟩
  | .hbm, ⟨27, _⟩ => ⟨S4x8192, .f32⟩
  | .hbm, ⟨28, _⟩ => ⟨S4x8192x1, .f32⟩
  | .hbm, ⟨29, _⟩ => ⟨S_, .f32⟩
  | .hbm, ⟨30, _⟩ => ⟨S4x8192x1, .f32⟩
  | .hbm, ⟨31, _⟩ => ⟨S4x8192x1, .f32⟩
  | .hbm, ⟨32, _⟩ => ⟨S4x8192x2048, .f32⟩
  | .hbm, ⟨33, _⟩ => ⟨S4x8192x2048, .f32⟩
  | .hbm, ⟨34, _⟩ => ⟨S4x8192x2048, .f32⟩
  | .hbm, ⟨35, _⟩ => ⟨S_, .f32⟩
  | .hbm, ⟨36, _⟩ => ⟨S4x8192, .f32⟩
  | .hbm, ⟨37, _⟩ => ⟨S4x8192x1, .f32⟩
  | .hbm, ⟨38, _⟩ => ⟨S_, .f32⟩
  | .hbm, ⟨39, _⟩ => ⟨S4x8192x1, .f32⟩
  | .hbm, ⟨40, _⟩ => ⟨S4x8192x1, .f32⟩
  | .hbm, ⟨41, _⟩ => ⟨S4x8192x2048, .f32⟩
  | .hbm, ⟨42, _⟩ => ⟨S4x8192x2048, .f32⟩
  | .hbm, ⟨43, _⟩ => ⟨S_, .f32⟩
  | .hbm, ⟨44, _⟩ => ⟨S4x8192x1, .f32⟩
  | .hbm, ⟨45, _⟩ => ⟨S4x8192x1, .f32⟩
  | .hbm, ⟨46, _⟩ => ⟨S4x8192x1, .f32⟩
  | .hbm, ⟨47, _⟩ => ⟨S4x8192x2048, .f32⟩
  | .hbm, ⟨48, _⟩ => ⟨S4x8192x2048, .f32⟩
  | .hbm, ⟨49, _⟩ => ⟨S1x1x2048, .f32⟩
  | .hbm, ⟨50, _⟩ => ⟨S4x8192x2048, .f32⟩
  | .hbm, ⟨51, _⟩ => ⟨S4x8192x2048, .f32⟩
  | .hbm, ⟨52, _⟩ => ⟨S1x1x2048, .f32⟩
  | .hbm, ⟨53, _⟩ => ⟨S4x8192x2048, .f32⟩
  | .hbm, ⟨54, _⟩ => ⟨S4x8192x2048, .f32⟩
  | .hbm, ⟨55, _⟩ => ⟨S32768x2048, .f32⟩
  | _, _ => ⟨S32768x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== Conv.lean ====
abbrev S32768x10240 : Shape := ⟨2, ![32768, 10240]⟩
abbrev S4x1x6144 : Shape := ⟨3, ![4, 1, 6144]⟩
abbrev S6144 : Shape := ⟨1, ![6144]⟩
abbrev S4x6144 : Shape := ⟨2, ![4, 6144]⟩
abbrev S1x6144 : Shape := ⟨2, ![1, 6144]⟩
abbrev S32768x6144 : Shape := ⟨2, ![32768, 6144]⟩
abbrev S512x512 : Shape := ⟨2, ![512, 512]⟩
abbrev S16x512 : Shape := ⟨2, ![16, 512]⟩
abbrev S4x512 : Shape := ⟨2, ![4, 512]⟩
abbrev S1x512 : Shape := ⟨2, ![1, 512]⟩
abbrev S528x512 : Shape := ⟨2, ![528, 512]⟩

abbrev nBuf : Space → Nat
  | .hbm => 6
  | .vmem => 10
  | .smem => 0
  | _ => 0

abbrev bufTy : (tb : Table) → Fin (tcTables nBuf tb) → BufTy
  | .hbm, ⟨0, _⟩ => ⟨S32768x10240, .bf16⟩
  | .hbm, ⟨1, _⟩ => ⟨S4x1x6144, .f32⟩
  | .hbm, ⟨2, _⟩ => ⟨S6144, .f32⟩
  | .hbm, ⟨3, _⟩ => ⟨S4x6144, .f32⟩
  | .hbm, ⟨4, _⟩ => ⟨S1x6144, .f32⟩
  | .hbm, ⟨5, _⟩ => ⟨S32768x6144, .bf16⟩
  | .local _ .vmem, ⟨0, _⟩ => ⟨S512x512, .bf16⟩
  | .local _ .vmem, ⟨1, _⟩ => ⟨S512x512, .bf16⟩
  | .local _ .vmem, ⟨2, _⟩ => ⟨S16x512, .bf16⟩
  | .local _ .vmem, ⟨3, _⟩ => ⟨S16x512, .bf16⟩
  | .local _ .vmem, ⟨4, _⟩ => ⟨S4x512, .f32⟩
  | .local _ .vmem, ⟨5, _⟩ => ⟨S4x512, .f32⟩
  | .local _ .vmem, ⟨6, _⟩ => ⟨S1x512, .f32⟩
  | .local _ .vmem, ⟨7, _⟩ => ⟨S1x512, .f32⟩
  | .local _ .vmem, ⟨8, _⟩ => ⟨S512x512, .bf16⟩
  | .local _ .vmem, ⟨9, _⟩ => ⟨S512x512, .bf16⟩
  | _, _ => ⟨S32768x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![64, 12], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c8_i32 : BitVec 32 := 8#32
  let v3 : BitVec 32 := Scalar.addi c8_i32 arg1
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ConvRefIdeal.lean ====
abbrev S32768x10240 : Shape := ⟨2, ![32768, 10240]⟩
abbrev S4x1x6144 : Shape := ⟨3, ![4, 1, 6144]⟩
abbrev S6144 : Shape := ⟨1, ![6144]⟩
abbrev S4x8192x10240 : Shape := ⟨3, ![4, 8192, 10240]⟩
abbrev S4x8192x6144 : Shape := ⟨3, ![4, 8192, 6144]⟩
abbrev S_ : Shape := ⟨0, ![]⟩
abbrev S4x3x6144 : Shape := ⟨3, ![4, 3, 6144]⟩
abbrev S4x8195x6144 : Shape := ⟨3, ![4, 8195, 6144]⟩
abbrev S1x1x6144 : Shape := ⟨3, ![1, 1, 6144]⟩
abbrev S32768x6144 : Shape := ⟨2, ![32768, 6144]⟩

abbrev nBuf : Space → Nat
  | .hbm => 50
  | .vmem => 0
  | .smem => 0
  | _ => 0

abbrev bufTy : (tb : Table) → Fin (tcTables nBuf tb) → BufTy
  | .hbm, ⟨0, _⟩ => ⟨S32768x10240, .bf16⟩
  | .hbm, ⟨1, _⟩ => ⟨S4x1x6144, .f32⟩
  | .hbm, ⟨2, _⟩ => ⟨S6144, .f32⟩
  | .hbm, ⟨3, _⟩ => ⟨S4x8192x10240, .bf16⟩
  | .hbm, ⟨4, _⟩ => ⟨S4x8192x6144, .bf16⟩
  | .hbm, ⟨5, _⟩ => ⟨S4x8192x6144, .f32⟩
  | .hbm, ⟨6, _⟩ => ⟨S_, .f32⟩
  | .hbm, ⟨7, _⟩ => ⟨S4x3x6144, .f32⟩
  | .hbm, ⟨8, _⟩ => ⟨S4x8195x6144, .f32⟩
  | .hbm, ⟨9, _⟩ => ⟨S4x8192x6144, .f32⟩
  | .hbm, ⟨10, _⟩ => ⟨S1x1x6144, .f32⟩
  | .hbm, ⟨11, _⟩ => ⟨S6144, .f32⟩
  | .hbm, ⟨12, _⟩ => ⟨S1x1x6144, .f32⟩
  | .hbm, ⟨13, _⟩ => ⟨S4x8192x6144, .f32⟩
  | .hbm, ⟨14, _⟩ => ⟨S4x8192x6144, .f32⟩
  | .hbm, ⟨15, _⟩ => ⟨S4x8192x6144, .f32⟩
  | .hbm, ⟨16, _⟩ => ⟨S1x1x6144, .f32⟩
  | .hbm, ⟨17, _⟩ => ⟨S6144, .f32⟩
  | .hbm, ⟨18, _⟩ => ⟨S1x1x6144, .f32⟩
  | .hbm, ⟨19, _⟩ => ⟨S4x8192x6144, .f32⟩
  | .hbm, ⟨20, _⟩ => ⟨S4x8192x6144, .f32⟩
  | .hbm, ⟨21, _⟩ => ⟨S4x8192x6144, .f32⟩
  | .hbm, ⟨22, _⟩ => ⟨S4x8192x6144, .f32⟩
  | .hbm, ⟨23, _⟩ => ⟨S1x1x6144, .f32⟩
  | .hbm, ⟨24, _⟩ => ⟨S6144, .f32⟩
  | .hbm, ⟨25, _⟩ => ⟨S1x1x6144, .f32⟩
  | .hbm, ⟨26, _⟩ => ⟨S4x8192x6144, .f32⟩
  | .hbm, ⟨27, _⟩ => ⟨S4x8192x6144, .f32⟩
  | .hbm, ⟨28, _⟩ => ⟨S4x8192x6144, .f32⟩
  | .hbm, ⟨29, _⟩ => ⟨S4x8192x6144, .f32⟩
  | .hbm, ⟨30, _⟩ => ⟨S1x1x6144, .f32⟩
  | .hbm, ⟨31, _⟩ => ⟨S6144, .f32⟩
  | .hbm, ⟨32, _⟩ => ⟨S1x1x6144, .f32⟩
  | .hbm, ⟨33, _⟩ => ⟨S4x8192x6144, .f32⟩
  | .hbm, ⟨34, _⟩ => ⟨S4x8192x6144, .f32⟩
  | .hbm, ⟨35, _⟩ => ⟨S4x8192x6144, .f32⟩
  | .hbm, ⟨36, _⟩ => ⟨S1x1x6144, .f32⟩
  | .hbm, ⟨37, _⟩ => ⟨S4x8192x6144, .f32⟩
  | .hbm, ⟨38, _⟩ => ⟨S4x8192x6144, .f32⟩
  | .hbm, ⟨39, _⟩ => ⟨S4x8192x6144, .f32⟩
  | .hbm, ⟨40, _⟩ => ⟨S4x8192x6144, .f32⟩
  | .hbm, ⟨41, _⟩ => ⟨S_, .f32⟩
  | .hbm, ⟨42, _⟩ => ⟨S4x8192x6144, .f32⟩
  | .hbm, ⟨43, _⟩ => ⟨S4x8192x6144, .f32⟩
  | .hbm, ⟨44, _⟩ => ⟨S_, .f32⟩
  | .hbm, ⟨45, _⟩ => ⟨S4x8192x6144, .f32⟩
  | .hbm, ⟨46, _⟩ => ⟨S4x8192x6144, .f32⟩
  | .hbm, ⟨47, _⟩ => ⟨S4x8192x6144, .f32⟩
  | .hbm, ⟨48, _⟩ => ⟨S32768x6144, .f32⟩
  | .hbm, ⟨49, _⟩ => ⟨S32768x6144, .bf16⟩
  | _, _ => ⟨S32768x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== MlstmGates.lean ====
abbrev S32768x2048 : Shape := ⟨2, ![32768, 2048]⟩
abbrev S4x12288 : Shape := ⟨2, ![4, 12288]⟩
abbrev S2048x6152 : Shape := ⟨2, ![2048, 6152]⟩
abbrev S_ : Shape := ⟨0, ![]⟩
abbrev S2048x128 : Shape := ⟨2, ![2048, 128]⟩
abbrev S2048x8 : Shape := ⟨2, ![2048, 8]⟩
abbrev S1 : Shape := ⟨1, ![1]⟩
abbrev S4x6x2048 : Shape := ⟨3, ![4, 6, 2048]⟩
abbrev S32768x128 : Shape := ⟨2, ![32768, 128]⟩
abbrev S1024x2048 : Shape := ⟨2, ![1024, 2048]⟩
abbrev S1x6x2048 : Shape := ⟨3, ![1, 6, 2048]⟩
abbrev S1024x128 : Shape := ⟨2, ![1024, 128]⟩
abbrev S6x2048 : Shape := ⟨2, ![6, 2048]⟩
abbrev S1x2048 : Shape := ⟨2, ![1, 2048]⟩

abbrev nBuf : Space → Nat
  | .hbm => 12
  | .vmem => 8
  | .smem => 0
  | _ => 0

abbrev bufTy : (tb : Table) → Fin (tcTables nBuf tb) → BufTy
  | .hbm, ⟨0, _⟩ => ⟨S32768x2048, .f32⟩
  | .hbm, ⟨1, _⟩ => ⟨S4x12288, .f32⟩
  | .hbm, ⟨2, _⟩ => ⟨S2048x6152, .f32⟩
  | .hbm, ⟨3, _⟩ => ⟨S_, .bf16⟩
  | .hbm, ⟨4, _⟩ => ⟨S2048x128, .bf16⟩
  | .hbm, ⟨5, _⟩ => ⟨S2048x8, .f32⟩
  | .hbm, ⟨6, _⟩ => ⟨S2048x8, .bf16⟩
  | .hbm, ⟨7, _⟩ => ⟨S_, .i32⟩
  | .hbm, ⟨8, _⟩ => ⟨S1, .i32⟩
  | .hbm, ⟨9, _⟩ => ⟨S2048x128, .bf16⟩
  | .hbm, ⟨10, _⟩ => ⟨S4x6x2048, .f32⟩
  | .hbm, ⟨11, _⟩ => ⟨S32768x128, .f32⟩
  | .local _ .vmem, ⟨0, _⟩ => ⟨S1024x2048, .f32⟩
  | .local _ .vmem, ⟨1, _⟩ => ⟨S1024x2048, .f32⟩
  | .local _ .vmem, ⟨2, _⟩ => ⟨S1x6x2048, .f32⟩
  | .local _ .vmem, ⟨3, _⟩ => ⟨S1x6x2048, .f32⟩
  | .local _ .vmem, ⟨4, _⟩ => ⟨S2048x128, .bf16⟩
  | .local _ .vmem, ⟨5, _⟩ => ⟨S1024x128, .f32⟩
  | .local _ .vmem, ⟨6, _⟩ => ⟨S1024x128, .f32⟩
  | .local _ .vmem, ⟨7, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MlstmGatesRefIdeal.lean ====
abbrev S32768x2048 : Shape := ⟨2, ![32768, 2048]⟩
abbrev S4x12288 : Shape := ⟨2, ![4, 12288]⟩
abbrev S2048x6152 : Shape := ⟨2, ![2048, 6152]⟩
abbrev S4x1x12288 : Shape := ⟨3, ![4, 1, 12288]⟩
abbrev S4x1x2048 : Shape := ⟨3, ![4, 1, 2048]⟩
abbrev S4x8192x2048 : Shape := ⟨3, ![4, 8192, 2048]⟩
abbrev S_ : Shape := ⟨0, ![]⟩
abbrev S4x8192x6152 : Shape := ⟨3, ![4, 8192, 6152]⟩
abbrev S4x8192x8 : Shape := ⟨3, ![4, 8192, 8]⟩
abbrev S32768x8 : Shape := ⟨2, ![32768, 8]⟩
abbrev S32768x120 : Shape := ⟨2, ![32768, 120]⟩
abbrev S32768x128 : Shape := ⟨2, ![32768, 128]⟩

abbrev nBuf : Space → Nat
  | .hbm => 24
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S4x12288, .f32⟩
  | .hbm, ⟨2, _⟩ => ⟨S2048x6152, .f32⟩
  | .hbm, ⟨3, _⟩ => ⟨S4x1x12288, .f32⟩
  | .hbm, ⟨4, _⟩ => ⟨S4x1x2048, .f32⟩
  | .hbm, ⟨5, _⟩ => ⟨S4x1x2048, .f32⟩
  | .hbm, ⟨6, _⟩ => ⟨S4x1x2048, .f32⟩
  | .hbm, ⟨7, _⟩ => ⟨S4x1x2048, .f32⟩
  | .hbm, ⟨8, _⟩ => ⟨S4x1x2048, .f32⟩
  | .hbm, ⟨9, _⟩ => ⟨S4x1x2048, .f32⟩
  | .hbm, ⟨10, _⟩ => ⟨S4x8192x2048, .f32⟩
  | .hbm, ⟨11, _⟩ => ⟨S_, .f32⟩
  | .hbm, ⟨12, _⟩ => ⟨S4x1x2048, .f32⟩
  | .hbm, ⟨13, _⟩ => ⟨S4x1x2048, .f32⟩
  | .hbm, ⟨14, _⟩ => ⟨S4x8192x2048, .f32⟩
  | .hbm, ⟨15, _⟩ => ⟨S4x8192x2048, .f32⟩
  | .hbm, ⟨16, _⟩ => ⟨S4x8192x2048, .f32⟩
  | .hbm, ⟨17, _⟩ => ⟨S4x8192x2048, .f32⟩
  | .hbm, ⟨18, _⟩ => ⟨S4x8192x6152, .f32⟩
  | .hbm, ⟨19, _⟩ => ⟨S4x8192x8, .f32⟩
  | .hbm, ⟨20, _⟩ => ⟨S32768x8, .f32⟩
  | .hbm, ⟨21, _⟩ => ⟨S_, .f32⟩
  | .hbm, ⟨22, _⟩ => ⟨S32768x120, .f32⟩
  | .hbm, ⟨23, _⟩ => ⟨S32768x128, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩

abbrev nD : Nat := 1
abbrev τ : Topo := Topo.v7x

variable {F : FTy → Type} [FloatOps F]
-- ==== SsdDt.lean ====
abbrev S32768x2048 : Shape := ⟨2, ![32768, 2048]⟩
abbrev S4x12288 : Shape := ⟨2, ![4, 12288]⟩
abbrev S2048x10304 : Shape := ⟨2, ![2048, 10304]⟩
abbrev S_ : Shape := ⟨0, ![]⟩
abbrev S2048x128 : Shape := ⟨2, ![2048, 128]⟩
abbrev S2048x64 : Shape := ⟨2, ![2048, 64]⟩
abbrev S1 : Shape := ⟨1, ![1]⟩
abbrev S4x6x2048 : Shape := ⟨3, ![4, 6, 2048]⟩
abbrev S32768x128 : Shape := ⟨2, ![32768, 128]⟩
abbrev S1024x2048 : Shape := ⟨2, ![1024, 2048]⟩
abbrev S1x6x2048 : Shape := ⟨3, ![1, 6, 2048]⟩
abbrev S1024x128 : Shape := ⟨2, ![1024, 128]⟩
abbrev S6x2048 : Shape := ⟨2, ![6, 2048]⟩
abbrev S1x2048 : Shape := ⟨2, ![1, 2048]⟩

abbrev nBuf : Space → Nat
  | .hbm => 12
  | .vmem => 8
  | .smem => 0
  | _ => 0

abbrev bufTy : (tb : Table) → Fin (tcTables nBuf tb) → BufTy
  | .hbm, ⟨0, _⟩ => ⟨S32768x2048, .f32⟩
  | .hbm, ⟨1, _⟩ => ⟨S4x12288, .f32⟩
  | .hbm, ⟨2, _⟩ => ⟨S2048x10304, .f32⟩
  | .hbm, ⟨3, _⟩ => ⟨S_, .bf16⟩
  | .hbm, ⟨4, _⟩ => ⟨S2048x128, .bf16⟩
  | .hbm, ⟨5, _⟩ => ⟨S2048x64, .f32⟩
  | .hbm, ⟨6, _⟩ => ⟨S2048x64, .bf16⟩
  | .hbm, ⟨7, _⟩ => ⟨S_, .i32⟩
  | .hbm, ⟨8, _⟩ => ⟨S1, .i32⟩
  | .hbm, ⟨9, _⟩ => ⟨S2048x128, .bf16⟩
  | .hbm, ⟨10, _⟩ => ⟨S4x6x2048, .f32⟩
  | .hbm, ⟨11, _⟩ => ⟨S32768x128, .f32⟩
  | .local _ .vmem, ⟨0, _⟩ => ⟨S1024x2048, .f32⟩
  | .local _ .vmem, ⟨1, _⟩ => ⟨S1024x2048, .f32⟩
  | .local _ .vmem, ⟨2, _⟩ => ⟨S1x6x2048, .f32⟩
  | .local _ .vmem, ⟨3, _⟩ => ⟨S1x6x2048, .f32⟩
  | .local _ .vmem, ⟨4, _⟩ => ⟨S2048x128, .bf16⟩
  | .local _ .vmem, ⟨5, _⟩ => ⟨S1024x128, .f32⟩
  | .local _ .vmem, ⟨6, _⟩ => ⟨S1024x128, .f32⟩
  | .local _ .vmem, ⟨7, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SsdDtRefIdeal.lean ====
abbrev S32768x2048 : Shape := ⟨2, ![32768, 2048]⟩
abbrev S4x12288 : Shape := ⟨2, ![4, 12288]⟩
abbrev S2048x10304 : Shape := ⟨2, ![2048, 10304]⟩
abbrev S4x1x12288 : Shape := ⟨3, ![4, 1, 12288]⟩
abbrev S4x1x2048 : Shape := ⟨3, ![4, 1, 2048]⟩
abbrev S4x8192x2048 : Shape := ⟨3, ![4, 8192, 2048]⟩
abbrev S_ : Shape := ⟨0, ![]⟩
abbrev S4x8192x10304 : Shape := ⟨3, ![4, 8192, 10304]⟩
abbrev S4x8192x64 : Shape := ⟨3, ![4, 8192, 64]⟩
abbrev S32768x64 : Shape := ⟨2, ![32768, 64]⟩
abbrev S32768x128 : Shape := ⟨2, ![32768, 128]⟩

abbrev nBuf : Space → Nat
  | .hbm => 24
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S4x12288, .f32⟩
  | .hbm, ⟨2, _⟩ => ⟨S2048x10304, .f32⟩
  | .hbm, ⟨3, _⟩ => ⟨S4x1x12288, .f32⟩
  | .hbm, ⟨4, _⟩ => ⟨S4x1x2048, .f32⟩
  | .hbm, ⟨5, _⟩ => ⟨S4x1x2048, .f32⟩
  | .hbm, ⟨6, _⟩ => ⟨S4x1x2048, .f32⟩
  | .hbm, ⟨7, _⟩ => ⟨S4x1x2048, .f32⟩
  | .hbm, ⟨8, _⟩ => ⟨S4x1x2048, .f32⟩
  | .hbm, ⟨9, _⟩ => ⟨S4x1x2048, .f32⟩
  | .hbm, ⟨10, _⟩ => ⟨S4x8192x2048, .f32⟩
  | .hbm, ⟨11, _⟩ => ⟨S_, .f32⟩
  | .hbm, ⟨12, _⟩ => ⟨S4x1x2048, .f32⟩
  | .hbm, ⟨13, _⟩ => ⟨S4x1x2048, .f32⟩
  | .hbm, ⟨14, _⟩ => ⟨S4x8192x2048, .f32⟩
  | .hbm, ⟨15, _⟩ => ⟨S4x8192x2048, .f32⟩
  | .hbm, ⟨16, _⟩ => ⟨S4x8192x2048, .f32⟩
  | .hbm, ⟨17, _⟩ => ⟨S4x8192x2048, .f32⟩
  | .hbm, ⟨18, _⟩ => ⟨S4x8192x10304, .f32⟩
  | .hbm, ⟨19, _⟩ => ⟨S4x8192x64, .f32⟩
  | .hbm, ⟨20, _⟩ => ⟨S32768x64, .f32⟩
  | .hbm, ⟨21, _⟩ => ⟨S_, .f32⟩
  | .hbm, ⟨22, _⟩ => ⟨S32768x64, .f32⟩
  | .hbm, ⟨23, _⟩ => ⟨S32768x128, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩

abbrev nD : Nat := 1
abbrev τ : Topo := Topo.v7x

variable {F : FTy → Type} [FloatOps F]
-- ==== Ada.lean ====
abbrev S4x2048 : Shape := ⟨2, ![4, 2048]⟩
abbrev S4x2048x12288 : Shape := ⟨3, ![4, 2048, 12288]⟩
abbrev S4x12288 : Shape := ⟨2, ![4, 12288]⟩
abbrev S_ : Shape := ⟨0, ![]⟩
abbrev S8x2048 : Shape := ⟨2, ![8, 2048]⟩
abbrev S1 : Shape := ⟨1, ![1]⟩
abbrev S4x1x12288 : Shape := ⟨3, ![4, 1, 12288]⟩
abbrev S4x8x12288 : Shape := ⟨3, ![4, 8, 12288]⟩
abbrev S1x2048x1536 : Shape := ⟨3, ![1, 2048, 1536]⟩
abbrev S1x1x1536 : Shape := ⟨3, ![1, 1, 1536]⟩
abbrev S1x8x1536 : Shape := ⟨3, ![1, 8, 1536]⟩
abbrev S2048x1536 : Shape := ⟨2, ![2048, 1536]⟩
abbrev S8x1536 : Shape := ⟨2, ![8, 1536]⟩
abbrev S1x1536 : Shape := ⟨2, ![1, 1536]⟩

abbrev nBuf : Space → Nat
  | .hbm => 10
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S4x2048x12288, .f32⟩
  | .hbm, ⟨2, _⟩ => ⟨S4x12288, .f32⟩
  | .hbm, ⟨3, _⟩ => ⟨S_, .f32⟩
  | .hbm, ⟨4, _⟩ => ⟨S8x2048, .f32⟩
  | .hbm, ⟨5, _⟩ => ⟨S_, .i32⟩
  | .hbm, ⟨6, _⟩ => ⟨S1, .i32⟩
  | .hbm, ⟨7, _⟩ => ⟨S8x2048, .f32⟩
  | .hbm, ⟨8, _⟩ => ⟨S4x1x12288, .f32⟩
  | .hbm, ⟨9, _⟩ => ⟨S4x8x12288, .f32⟩
  | .local _ .vmem, ⟨0, _⟩ => ⟨S8x2048, .f32⟩
  | .local _ .vmem, ⟨1, _⟩ => ⟨S1x2048x1536, .f32⟩
  | .local _ .vmem, ⟨2, _⟩ => ⟨S1x2048x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaRefIdeal.lean ====
abbrev S4x2048 : Shape := ⟨2, ![4, 2048]⟩
abbrev S4x2048x12288 : Shape := ⟨3, ![4, 2048, 12288]⟩
abbrev S4x12288 : Shape := ⟨2, ![4, 12288]⟩
abbrev S_ : Shape := ⟨0, ![]⟩
abbrev S8x2048 : Shape := ⟨2, ![8, 2048]⟩
abbrev S1x2048x12288 : Shape := ⟨3, ![1, 2048, 12288]⟩
abbrev S2048x12288 : Shape := ⟨2, ![2048, 12288]⟩
abbrev S8x12288 : Shape := ⟨2, ![8, 12288]⟩
abbrev S1x12288 : Shape := ⟨2, ![1, 12288]⟩
abbrev S12288 : Shape := ⟨1, ![12288]⟩
abbrev S1x8x12288 : Shape := ⟨3, ![1, 8, 12288]⟩
abbrev S4x8x12288 : Shape := ⟨3, ![4, 8, 12288]⟩

abbrev nBuf : Space → Nat
  | .hbm => 52
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S4x2048x12288, .f32⟩
  | .hbm, ⟨2, _⟩ => ⟨S4x12288, .f32⟩
  | .hbm, ⟨3, _⟩ => ⟨S_, .f32⟩
  | .hbm, ⟨4, _⟩ => ⟨S4x2048, .f32⟩
  | .hbm, ⟨5, _⟩ => ⟨S8x2048, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S_, .f32⟩
  | .hbm, ⟨12, _⟩ => ⟨S8x2048, .f32⟩
  | .hbm, ⟨13, _⟩ => ⟨S8x2048, .f32⟩
  | .hbm, ⟨14, _⟩ => ⟨S8x2048, .f32⟩
  | .hbm, ⟨15, _⟩ => ⟨S1x2048x12288, .f32⟩
  | .hbm, ⟨16, _⟩ => ⟨S2048x12288, .f32⟩
  | .hbm, ⟨17, _⟩ => ⟨S8x12288, .f32⟩
  | .hbm, ⟨18, _⟩ => ⟨S1x12288, .f32⟩
  | .hbm, ⟨19, _⟩ => ⟨S12288, .f32⟩
  | .hbm, ⟨20, _⟩ => ⟨S1x12288, .f32⟩
  | .hbm, ⟨21, _⟩ => ⟨S8x12288, .f32⟩
  | .hbm, ⟨22, _⟩ => ⟨S8x12288, .f32⟩
  | .hbm, ⟨23, _⟩ => ⟨S1x2048x12288, .f32⟩
  | .hbm, ⟨24, _⟩ => ⟨S2048x12288, .f32⟩
  | .hbm, ⟨25, _⟩ => ⟨S8x12288, .f32⟩
  | .hbm, ⟨26, _⟩ => ⟨S1x12288, .f32⟩
  | .hbm, ⟨27, _⟩ => ⟨S12288, .f32⟩
  | .hbm, ⟨28, _⟩ => ⟨S1x12288, .f32⟩
  | .hbm, ⟨29, _⟩ => ⟨S8x12288, .f32⟩
  | .hbm, ⟨30, _⟩ => ⟨S8x12288, .f32⟩
  | .hbm, ⟨31, _⟩ => ⟨S1x2048x12288, .f32⟩
  | .hbm, ⟨32, _⟩ => ⟨S2048x12288, .f32⟩
  | .hbm, ⟨33, _⟩ => ⟨S8x12288, .f32⟩
  | .hbm, ⟨34, _⟩ => ⟨S1x12288, .f32⟩
  | .hbm, ⟨35, _⟩ => ⟨S12288, .f32⟩
  | .hbm, ⟨36, _⟩ => ⟨S1x12288, .f32⟩
  | .hbm, ⟨37, _⟩ => ⟨S8x12288, .f32⟩
  | .hbm, ⟨38, _⟩ => ⟨S8x12288, .f32⟩
  | .hbm, ⟨39, _⟩ => ⟨S1x2048x12288, .f32⟩
  | .hbm, ⟨40, _⟩ => ⟨S2048x12288, .f32⟩
  | .hbm, ⟨41, _⟩ => ⟨S8x12288, .f32⟩
  | .hbm, ⟨42, _⟩ => ⟨S1x12288, .f32⟩
  | .hbm, ⟨43, _⟩ => ⟨S12288, .f32⟩
  | .hbm, ⟨44, _⟩ => ⟨S1x12288, .f32⟩
  | .hbm, ⟨45, _⟩ => ⟨S8x12288, .f32⟩
  | .hbm, ⟨46, _⟩ => ⟨S8x12288, .f32⟩
  | .hbm, ⟨47, _⟩ => ⟨S1x8x12288, .f32⟩
  | .hbm, ⟨48, _⟩ => ⟨S1x8x12288, .f32⟩
  | .hbm, ⟨49, _⟩ => ⟨S1x8x12288, .f32⟩
  | .hbm, ⟨50, _⟩ => ⟨S1x8x12288, .f32⟩
  | .hbm, ⟨51, _⟩ => ⟨S4x8x12288, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩

abbrev nD : Nat := 1
abbrev τ : Topo := Topo.v7x

variable {F : FTy → Type} [FloatOps F]
-- ==== W1Prep.lean ====
abbrev S4x32x2048x1024 : Shape := ⟨4, ![4, 32, 2048, 1024]⟩
abbrev S128x2048x1024 : Shape := ⟨3, ![128, 2048, 1024]⟩
abbrev S1024 : Shape := ⟨1, ![1024]⟩
abbrev S_ : Shape := ⟨0, ![]⟩
abbrev S1024x1 : Shape := ⟨2, ![1024, 1]⟩
abbrev S1x1024 : Shape := ⟨2, ![1, 1024]⟩
abbrev S1024x1024 : Shape := ⟨2, ![1024, 1024]⟩
abbrev S1x512x1024 : Shape := ⟨3, ![1, 512, 1024]⟩
abbrev S512x1024 : Shape := ⟨2, ![512, 1024]⟩

abbrev nBuf : Space → Nat
  | .hbm => 27
  | .vmem => 5
  | .smem => 0
  | _ => 0

abbrev bufTy : (tb : Table) → Fin (tcTables nBuf tb) → BufTy
  | .hbm, ⟨0, _⟩ => ⟨S4x32x2048x1024, .f32⟩
  | .hbm, ⟨1, _⟩ => ⟨S128x2048x1024, .f32⟩
  | .hbm, ⟨2, _⟩ => ⟨S1024, .i32⟩
  | .hbm, ⟨3, _⟩ => ⟨S_, .i32⟩
  | .hbm, ⟨4, _⟩ => ⟨S1024, .i32⟩
  | .hbm, ⟨5, _⟩ => ⟨S1024, .i1⟩
  | .hbm, ⟨6, _⟩ => ⟨S_, .i32⟩
  | .hbm, ⟨7, _⟩ => ⟨S1024, .i32⟩
  | .hbm, ⟨8, _⟩ => ⟨S1024, .i32⟩
  | .hbm, ⟨9, _⟩ => ⟨S_, .i32⟩
  | .hbm, ⟨10, _⟩ => ⟨S1024, .i32⟩
  | .hbm, ⟨11, _⟩ => ⟨S1024, .i32⟩
  | .hbm, ⟨12, _⟩ => ⟨S_, .i32⟩
  | .hbm, ⟨13, _⟩ => ⟨S1024, .i32⟩
  | .hbm, ⟨14, _⟩ => ⟨S1024, .i32⟩
  | .hbm, ⟨15, _⟩ => ⟨S_, .i32⟩
  | .hbm, ⟨16, _⟩ => ⟨S1024, .i32⟩
  | .hbm, ⟨17, _⟩ => ⟨S1024, .i32⟩
  | .hbm, ⟨18, _⟩ => ⟨S1024, .i32⟩
  | .hbm, ⟨19, _⟩ => ⟨S1024, .i32⟩
  | .hbm, ⟨20, _⟩ => ⟨S1024x1, .i32⟩
  | .hbm, ⟨21, _⟩ => ⟨S1x1024, .i32⟩
  | .hbm, ⟨22, _⟩ => ⟨S1024x1024, .i32⟩
  | .hbm, ⟨23, _⟩ => ⟨S1024x1024, .i32⟩
  | .hbm, ⟨24, _⟩ => ⟨S1024x1024, .i1⟩
  | .hbm, ⟨25, _⟩ => ⟨S1024x1024, .bf16⟩
  | .hbm, ⟨26, _⟩ => ⟨S128x2048x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1024x1024, .bf16⟩
  | .local _ .vmem, ⟨3, _⟩ => ⟨S1x512x1024, .bf16⟩
  | .local _ .vmem, ⟨4, _⟩ => ⟨S1x512x1024, .bf16⟩
  | _, _ => ⟨S4x32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_c_0 : Ref sig .tc := ⟨.hbm, 6, rfl⟩
abbrev main_v4 : Ref sig .tc := ⟨.hbm, 7, rfl⟩
abbrev main_v5 : Ref sig .tc := ⟨.hbm, 8, rfl⟩
abbrev main_c_1 : Ref sig .tc := ⟨.hbm, 9, rfl⟩
abbrev main_v6 : Ref sig .tc := ⟨.hbm, 10, rfl⟩
abbrev main_v7 : Ref sig .tc := ⟨.hbm, 11, rfl⟩
abbrev main_c_2 : Ref sig .tc := ⟨.hbm, 12, rfl⟩
abbrev main_v8 : Ref sig .tc := ⟨.hbm, 13, rfl⟩
abbrev main_v9 : Ref sig .tc := ⟨.hbm, 14, rfl⟩
abbrev main_c_3 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![128, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== W1PrepRefIdeal.lean ====
abbrev S4x32x2048x1024 : Shape := ⟨4, ![4, 32, 2048, 1024]⟩
abbrev S4x32x2048x512 : Shape := ⟨4, ![4, 32, 2048, 512]⟩
abbrev S128x2048x1024 : Shape := ⟨3, ![128, 2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4x32x2048x1024, .f32⟩
  | .hbm, ⟨1, _⟩ => ⟨S4x32x2048x512, .f32⟩
  | .hbm, ⟨2, _⟩ => ⟨S4x32x2048x512, .f32⟩
  | .hbm, ⟨3, _⟩ => ⟨S4x32x2048x1024, .f32⟩
  | .hbm, ⟨4, _⟩ => ⟨S128x2048x1024, .f32⟩
  | .hbm, ⟨5, _⟩ => ⟨S128x2048x1024, .bf16⟩
  | _, _ => ⟨S4x32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩

abbrev nD : Nat := 1
abbrev τ : Topo := Topo.v7x

variable {F : FTy → Type} [FloatOps F]
-- ==== Proof.Reals.lean ====
/-
  The mLSTM recurrence over the real numbers, one head at a time and one column of the values at a time, and the
  fact that makes a chunked evaluation right whatever the length of the chunk: a chunk that starts from the weighted
  sums of all positions before it gives the outputs of its own positions and the weighted sums up to its end.
-/
module

public import Mathlib.Analysis.SpecialFunctions.Exp
public import Mathlib.Algebra.BigOperators.Fin
public import Mathlib.Algebra.BigOperators.Intervals

@[expose] public section

noncomputable section

namespace Cert.Mlstm

open Finset

variable {K : ℕ}

/-- The sum of the log forget gates before position `T`. -/
def cum (lf : ℕ → ℝ) (T : ℕ) : ℝ := ∑ r ∈ range T, lf r

/-- The weight that position `s` still has just before position `T`. -/
def wt (lf g : ℕ → ℝ) (T s : ℕ) : ℝ := Real.exp (cum lf T - cum lf (s + 1) + g s)

/-- The memory just before position `T`: the weighted sum of the products of values and keys. -/
def mem (lf g : ℕ → ℝ) (k : ℕ → Fin K → ℝ) (v : ℕ → ℝ) (T : ℕ) (d : Fin K) : ℝ :=
  ∑ s ∈ range T, wt lf g T s * (v s * k s d)

/-- The scaled product of the query of position `t` and the key of position `s`. -/
def score (q k : ℕ → Fin K → ℝ) (t s : ℕ) : ℝ := (∑ d, q t d * k s d) * (1 / 16)

/-- The weighted sum that position `t` reads: over itself and all positions before it. -/
def reading (lf g : ℕ → ℝ) (q k : ℕ → Fin K → ℝ) (v : ℕ → ℝ) (t : ℕ) : ℝ :=
  ∑ s ∈ range (t + 1), wt lf g (t + 1) s * score q k t s * v s

/-- The output of position `t`: its reading of the values over the greater of one and the size of its reading of ones. -/
def output (lf g : ℕ → ℝ) (q k : ℕ → Fin K → ℝ) (v : ℕ → ℝ) (t : ℕ) : ℝ :=
  reading lf g q k v t * (1 / max |reading lf g q k (fun _ => 1) t| 1)

theorem wt_add (lf g : ℕ → ℝ) (T j s : ℕ) :
    wt lf g (T + j) s = Real.exp (cum lf (T + j) - cum lf T) * wt lf g T s := by
  unfold wt
  rw [← Real.exp_add]
  congr 1
  ring

/-- A sum over the positions of a chunk up to `j`, as a sum over the whole chunk with the later ones left out. -/
theorem sum_upto {L : ℕ} (j : Fin L) (f : ℕ → ℝ) :
    ∑ s : Fin L, (if s ≤ j then f s else 0) = ∑ s ∈ range (j.val + 1), f s := by
  rw [Finset.sum_fin_eq_sum_range, ← Finset.sum_subset (Finset.range_mono (Nat.succ_le_of_lt j.isLt))]
  · refine Finset.sum_congr rfl fun s hs => ?_
    have hs' : s < j.val + 1 := Finset.mem_range.mp hs
    have hL : s < L := by omega
    rw [dif_pos hL, if_pos (Fin.le_def.mpr (by show s ≤ j.val; omega))]
  · intro s hs hn
    have hL : s < L := Finset.mem_range.mp hs
    rw [dif_pos hL, if_neg]
    intro h
    exact hn (Finset.mem_range.mpr (Nat.lt_succ_of_le h))

/-- The reading of position `j` of the chunk that starts at `T`, from the memory at the chunk's start kept up to the
    factor `exp (-m)`: whatever the stabilizer `mt`, it is the reading up to the factor `exp (-mt)`. -/
theorem chunk_reading {L : ℕ} (lf g : ℕ → ℝ) (q k : ℕ → Fin K → ℝ) (v : ℕ → ℝ) (T : ℕ) (m : ℝ) (C : Fin K → ℝ)
    (hC : ∀ d, C d = Real.exp (-m) * mem lf g k v T d) (j : Fin L) (mt : ℝ) (b : Fin L → ℝ)
    (hb : ∀ s, b s = cum lf (T + s.val + 1) - cum lf T) :
    ∑ s : Fin L, (score q k (T + j) (T + s) * (if s ≤ j then Real.exp (b j - b s + g (T + s) - mt) else 0)) * v (T + s)
        + Real.exp (b j + m - mt) * ((∑ d, q (T + j) d * C d) * (1 / 16))
      = Real.exp (-mt) * reading lf g q k v (T + j) := by
  have h1 : ∑ s : Fin L, (score q k (T + j) (T + s) * (if s ≤ j then Real.exp (b j - b s + g (T + s) - mt) else 0)) * v (T + s)
      = Real.exp (-mt) * ∑ s ∈ range (j.val + 1), wt lf g (T + j + 1) (T + s) * score q k (T + j) (T + s) * v (T + s) := by
    rw [← sum_upto j (fun s => wt lf g (T + j + 1) (T + s) * score q k (T + j) (T + s) * v (T + s)), Finset.mul_sum]
    refine Finset.sum_congr rfl fun s _ => ?_
    by_cases h : s ≤ j
    · rw [if_pos h, if_pos h]
      have : Real.exp (b j - b s + g (T + s) - mt) = Real.exp (-mt) * wt lf g (T + j + 1) (T + s) := by
        unfold wt
        rw [← Real.exp_add, hb, hb]
        congr 1
        ring
      rw [this]; ring
    · rw [if_neg h, if_neg h]; ring
  have h2 : Real.exp (b j + m - mt) * ((∑ d, q (T + j) d * C d) * (1 / 16))
      = Real.exp (-mt) * ∑ s ∈ range T, wt lf g (T + j + 1) s * score q k (T + j) s * v s := by
    have e : Real.exp (b j + m - mt) = Real.exp (-mt) * Real.exp (b j) * Real.exp m := by
      rw [← Real.exp_add, ← Real.exp_add]; congr 1; ring
    have em : Real.exp m * Real.exp (-m) = 1 := by rw [← Real.exp_add]; simp
    have s1 : ∑ d, q (T + j) d * C d = Real.exp (-m) * ∑ s ∈ range T, wt lf g T s * v s * ∑ d, q (T + j) d * k s d := by
      simp only [hC, mem, Finset.mul_sum]
      rw [Finset.sum_comm]
      refine Finset.sum_congr rfl fun s _ => Finset.sum_congr rfl fun d _ => ?_
      ring
    rw [e, s1]
    have : ∀ s, wt lf g (T + j + 1) s * score q k (T + j) s * v s
        = Real.exp (b j) * (1 / 16) * (wt lf g T s * v s * ∑ d, q (T + j) d * k s d) := by
      intro s
      rw [add_assoc, wt_add, hb, score, add_assoc]; ring
    simp only [this, ← Finset.mul_sum]
    linear_combination (Real.exp (-mt) * Real.exp (b j) * (1 / 16) *
      ∑ s ∈ range T, wt lf g T s * v s * ∑ d, q (T + j) d * k s d) * em
  rw [h1, h2, reading, add_assoc T j.val 1, Finset.sum_range_add (f := _) (n := T) (m := j.val + 1)]
  ring

/-- The memory at the end of the chunk, from the memory at its start: whatever the new stabilizer `m'`, up to the
    factor `exp (-m')`. -/
theorem chunk_mem {L : ℕ} (lf g : ℕ → ℝ) (k : ℕ → Fin K → ℝ) (v : ℕ → ℝ) (T : ℕ) (m m' : ℝ) (C : Fin K → ℝ)
    (hC : ∀ d, C d = Real.exp (-m) * mem lf g k v T d) (b : Fin L → ℝ)
    (hb : ∀ s, b s = cum lf (T + s.val + 1) - cum lf T) (bl : ℝ) (hbl : bl = cum lf (T + L) - cum lf T) (d : Fin K) :
    Real.exp (bl + m - m') * C d + ∑ s : Fin L, v (T + s) * Real.exp (bl - b s + g (T + s) - m') * k (T + s) d
      = Real.exp (-m') * mem lf g k v (T + L) d := by
  have em : Real.exp m * Real.exp (-m) = 1 := by rw [← Real.exp_add]; simp
  have e : Real.exp (bl + m - m') = Real.exp (-m') * Real.exp bl * Real.exp m := by
    rw [← Real.exp_add, ← Real.exp_add]; congr 1; ring
  have h1 : ∑ s : Fin L, v (T + s) * Real.exp (bl - b s + g (T + s) - m') * k (T + s) d
      = Real.exp (-m') * ∑ s ∈ range L, wt lf g (T + L) (T + s) * (v (T + s) * k (T + s) d) := by
    rw [Finset.mul_sum, Finset.sum_range (fun s => Real.exp (-m') * (wt lf g (T + L) (T + s) * (v (T + s) * k (T + s) d)))]
    refine Finset.sum_congr rfl fun s _ => ?_
    have : Real.exp (bl - b s + g (T + s) - m') = Real.exp (-m') * wt lf g (T + L) (T + s) := by
      unfold wt
      rw [← Real.exp_add, hb, hbl]
      congr 1
      ring
    rw [this]; ring
  rw [h1, hC, e, mem, mem, Finset.sum_range_add]
  simp only [wt_add lf g T L, ← hbl, mul_assoc, ← Finset.mul_sum]
  linear_combination (Real.exp (-m') * Real.exp bl * ∑ s ∈ range T, wt lf g T s * (v s * k s d)) * em

/-- The memory before the first position is zero. -/
theorem mem_zero (lf g : ℕ → ℝ) (k : ℕ → Fin K → ℝ) (v : ℕ → ℝ) (d : Fin K) : mem lf g k v 0 d = 0 := by
  simp [mem]

/-- The output from two readings known up to one common factor `exp (-mt)`: the floor of the divisor carries it too. -/
theorem output_of_scaled (lf g : ℕ → ℝ) (q k : ℕ → Fin K → ℝ) (v : ℕ → ℝ) (t : ℕ) (mt num den : ℝ)
    (hn : num = Real.exp (-mt) * reading lf g q k v t) (hd : den = Real.exp (-mt) * reading lf g q k (fun _ => 1) t) :
    num * (1 / max |den| (Real.exp (-mt))) = output lf g q k v t := by
  have hp := Real.exp_pos (-mt)
  have : max |den| (Real.exp (-mt)) = Real.exp (-mt) * max |reading lf g q k (fun _ => 1) t| 1 := by
    rw [hd, abs_mul, abs_of_pos hp, mul_max_of_nonneg _ _ hp.le, mul_one]
  rw [this, hn, output]
  have hm : max |reading lf g q k (fun _ => 1) t| 1 ≠ 0 := (lt_of_lt_of_le one_pos (le_max_right _ _)).ne'
  field_simp

end Cert.Mlstm

end
-- ==== Proof.Step.lean ====
/-
  One chunk of the mLSTM recurrence as the two programs compute it, over the extended reals: on real inputs every
  quantity of the chunk is the real number that Reals.lean speaks of. The stabilizers enter only as some real number.
-/
module

public import proofs.«01_k».proof.Proof.Reals
public import Idealize.ShloMosaic.Lib.Pipeline.ValueKit

@[expose] public section

noncomputable section

namespace Cert.Mlstm

open Idealize.ShloMosaic

/-! ## Real numbers among the extended reals -/

/-- The value the pattern of minus infinity denotes. -/
abbrev ninf : EReal := Ideal.ofBits .f32 4286578688#32

theorem ninf_eq : ninf = ⊥ := by simp [ninf, Ideal.ofBits, Ideal.ieee]

/-- The pattern the programs scale by denotes one sixteenth. -/
theorem sixteenth : Ideal.ofBits .f32 1031798784#32 = ((1 / 16 : ℝ) : EReal) := by
  simp only [Ideal.ofBits, Ideal.ieee]
  simp
  norm_cast
  norm_num

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (x y : ℝ) : ((max x y : ℝ) : EReal) = max (x : EReal) y :=
  Monotone.map_max (f := fun r : ℝ => (r : EReal)) fun _ _ h => EReal.coe_le_coe_iff.mpr h

theorem coe_min (x y : ℝ) : ((min x y : ℝ) : EReal) = min (x : EReal) y :=
  Monotone.map_min (f := fun r : ℝ => (r : EReal)) fun _ _ h => EReal.coe_le_coe_iff.mpr h

theorem absf_coe (x : ℝ) : (FloatOps.absf (F := Ideal) (φ := .f32) (x : EReal) : EReal) = ((|x| : ℝ) : EReal) := by
  rw [Ideal.absf_def, abs, ← EReal.coe_neg, ← coe_max]

theorem real_of_ne {x : EReal} (hb : x ≠ ⊥) (ht : x ≠ ⊤) : ∃ r : ℝ, x = r :=
  ⟨x.toReal, (EReal.coe_toReal ht hb).symm⟩

/-- The greatest of finitely many values, none of them plus infinity, is not plus infinity. -/
theorem fold_max_ne_top {ι : Type} (s : Finset ι) (f : ι → EReal) (hf : ∀ i, f i ≠ ⊤) : s.fold max ninf f ≠ ⊤ := by
  classical
  induction s using Finset.induction_on with
  | empty => rw [Finset.fold_empty, ninf_eq]; exact bot_ne_top
  | insert a s ha ih =>
    rw [Finset.fold_insert ha]
    rcases max_choice (f a) (s.fold max ninf f) with h | h
    · rw [h]; exact hf a
    · rw [h]; exact ih

theorem max_real {x : EReal} (hx : x ≠ ⊤) (r : ℝ) : ∃ z : ℝ, max x (r : EReal) = z := by
  refine real_of_ne (fun h => ?_) fun h => ?_
  · exact EReal.coe_ne_bot r (le_bot_iff.mp (h ▸ le_max_right x (r : EReal)))
  · rcases max_choice x (r : EReal) with e | e
    · exact hx (e ▸ h)
    · exact EReal.coe_ne_top r (e ▸ h)

theorem div_real (x : EReal) (y : ℝ) (h : y ≠ 0) : Ideal.div x (y : EReal) = x * ((1 / y : ℝ) : EReal) :=
  Ideal.div_coe h x

/-! ## The gates -/

/-- The hyperbolic tangent of any extended real is a real number. -/
theorem tanh_real (x : EReal) : ∃ r : ℝ, Ideal.tanh x = r := by
  cases x with
  | bot => exact ⟨-1, by simp⟩
  | top => exact ⟨1, by simp⟩
  | coe r => exact ⟨Real.tanh r, by simp⟩

/-- The logarithm of the sigmoid, as both programs spell it up to a sign. -/
def logsig (x : ℝ) : ℝ := min x 0 - Real.log (1 + Real.exp (-|x|))

theorem log1p_exp (y : ℝ) : Ideal.log1p (Ideal.exp (y : EReal)) = ((Real.log (1 + Real.exp y) : ℝ) : EReal) := by
  rw [Ideal.exp_coe, Ideal.log1p, ← EReal.coe_one, ← EReal.coe_add, Ideal.log_coe, if_neg]
  have := Real.exp_pos y
  linarith

/-! ## The chunk -/

section Chunk

variable {L : ℕ}

/-- The weight of position `s` for position `j` before stabilizing, on the logarithmic scale: minus infinity where
    the mask `p` hides `s`. -/
def logD (p : Fin L → Fin L → BitVec 1) (b g : Fin L → EReal) (j s : Fin L) : EReal :=
  Scalar.select (p j s) (b j - b s + g s) ninf

/-- The stabilizer of position `j`. -/
def stab (p : Fin L → Fin L → BitVec 1) (b g : Fin L → EReal) (m : EReal) (j : Fin L) : EReal :=
  max (Finset.fold max ninf (fun s => logD p b g j s) Finset.univ) (b j + m)

/-- The stabilizer of the memory the chunk leaves; `bl` is the chunk's sum of log forget gates. -/
def newStab (b g : Fin L → EReal) (m bl : EReal) : EReal :=
  max (bl + m) (Finset.fold max ninf (fun x => bl - b x + g x) Finset.univ)

/-- The mask of the positions up to one's own. -/
def Causal (p : Fin L → Fin L → BitVec 1) : Prop := ∀ j s, p j s = if s ≤ j then 1#1 else 0#1

variable {p : Fin L → Fin L → BitVec 1} (hp : Causal p) (b g : Fin L → ℝ) (m bl : ℝ)

include hp in
theorem logD_coe (j s : Fin L) : logD p (fun s => (b s : EReal)) (fun s => (g s : EReal)) j s
    = if s ≤ j then ((b j - b s + g s : ℝ) : EReal) else ⊥ := by
  unfold logD
  rw [hp j s, ninf_eq]
  by_cases h : s ≤ j
  · rw [if_pos h, if_pos h]
    simp [Scalar.select]
  · rw [if_neg h, if_neg h]
    simp [Scalar.select]

include hp in
theorem stab_real (j : Fin L) : ∃ z : ℝ, stab p (fun s => (b s : EReal)) (fun s => (g s : EReal)) (m : EReal) j = z := by
  unfold stab
  rw [← EReal.coe_add]
  refine max_real (fold_max_ne_top _ _ fun s => ?_) _
  rw [logD_coe hp]
  split
  · exact EReal.coe_ne_top _
  · exact bot_ne_top

theorem newStab_real : ∃ z : ℝ, newStab (fun s => (b s : EReal)) (fun s => (g s : EReal)) (m : EReal) (bl : EReal) = z := by
  unfold newStab
  rw [← EReal.coe_add, max_comm]
  refine max_real (fold_max_ne_top _ _ fun s => ?_) _
  rw [← EReal.coe_sub, ← EReal.coe_add]
  exact EReal.coe_ne_top _

include hp in
theorem exp_logD (j s : Fin L) (mt : ℝ) :
    Ideal.exp (logD p (fun s => (b s : EReal)) (fun s => (g s : EReal)) j s - (mt : EReal))
      = ((if s ≤ j then Real.exp (b j - b s + g s - mt) else 0 : ℝ) : EReal) := by
  rw [logD_coe hp]
  split
  · rw [← EReal.coe_sub, Ideal.exp_coe]
  · rw [EReal.bot_sub, Ideal.exp_bot, EReal.coe_zero]

end Chunk

section Lift

variable {L K : ℕ} {p : Fin L → Fin L → BitVec 1} (hp : Causal p) (lf g : ℕ → ℝ) (q k : ℕ → Fin K → ℝ) (v : ℕ → ℝ) (T : ℕ) (m : ℝ)
  (C : Fin K → ℝ) (hC : ∀ d, C d = Real.exp (-m) * mem lf g k v T d) (b : Fin L → ℝ)
  (hb : ∀ s, b s = cum lf (T + s.val + 1) - cum lf T)

include hp hC hb in
/-- What position `j` of the chunk reads, as the programs compute it: the scores `S`, the values `X` and the product
    `I` of the query with the memory being real. -/
theorem reading_lift (j : Fin L) (mt : ℝ) (S X : Fin L → EReal) (I : EReal)
    (hS : ∀ s, S s = ((score q k (T + j) (T + s) : ℝ) : EReal)) (hX : ∀ s, X s = (v (T + s) : EReal))
    (hI : I = (((∑ d, q (T + j) d * C d) * (1 / 16) : ℝ) : EReal)) :
    ∑ s, S s * Ideal.exp (logD p (fun s => (b s : EReal)) (fun s => (g (T + s) : EReal)) j s - (mt : EReal)) * X s
        + Ideal.exp ((b j : EReal) + (m : EReal) - (mt : EReal)) * I
      = ((Real.exp (-mt) * reading lf g q k v (T + j) : ℝ) : EReal) := by
  rw [← chunk_reading lf g q k v T m C hC j mt b hb, EReal.coe_add, coe_sum, EReal.coe_mul, ← hI, ← EReal.coe_add,
    ← EReal.coe_sub, Ideal.exp_coe]
  congr 1
  refine Finset.sum_congr rfl fun s _ => ?_
  rw [hS, hX, exp_logD hp b (fun s => g (T + s)), EReal.coe_mul, EReal.coe_mul]

include hp hb in
/-- The same for the normalizer, which reads ones. -/
theorem normalizer_lift (N : Fin K → ℝ) (hN : ∀ d, N d = Real.exp (-m) * mem lf g k (fun _ => 1) T d) (j : Fin L) (mt : ℝ)
    (S : Fin L → EReal) (I : EReal) (hS : ∀ s, S s = ((score q k (T + j) (T + s) : ℝ) : EReal))
    (hI : I = (((∑ d, q (T + j) d * N d) * (1 / 16) : ℝ) : EReal)) :
    ∑ s, S s * Ideal.exp (logD p (fun s => (b s : EReal)) (fun s => (g (T + s) : EReal)) j s - (mt : EReal))
        + Ideal.exp ((b j : EReal) + (m : EReal) - (mt : EReal)) * I
      = ((Real.exp (-mt) * reading lf g q k (fun _ => 1) (T + j) : ℝ) : EReal) := by
  rw [← reading_lift hp lf g q k (fun _ => 1) T m N hN b hb j mt S (fun _ => 1) I hS (fun _ => by simp) hI]
  simp only [mul_one]

include hC hb in
/-- What the chunk leaves in the memory. -/
theorem mem_lift (m' bl : ℝ) (hbl : bl = cum lf (T + L) - cum lf T) (d : Fin K) (X : Fin L → EReal) (Y : Fin L → EReal) (Z : EReal)
    (hX : ∀ s, X s = (v (T + s) : EReal)) (hY : ∀ s, Y s = (k (T + s) d : EReal)) (hZ : Z = (C d : EReal)) :
    Ideal.exp ((bl : EReal) + (m : EReal) - (m' : EReal)) * Z
        + ∑ s, X s * Ideal.exp ((bl : EReal) - (b s : EReal) + (g (T + s) : EReal) - (m' : EReal)) * Y s
      = ((Real.exp (-m') * mem lf g k v (T + L) d : ℝ) : EReal) := by
  rw [← chunk_mem lf g k v T m m' C hC b hb bl hbl d, EReal.coe_add, coe_sum, EReal.coe_mul, ← EReal.coe_add,
    ← EReal.coe_sub, Ideal.exp_coe, hZ]
  congr 1
  refine Finset.sum_congr rfl fun s _ => ?_
  rw [hX, hY, ← EReal.coe_sub, ← EReal.coe_add, ← EReal.coe_sub, Ideal.exp_coe, EReal.coe_mul, EReal.coe_mul]

/-- The output, as a product with a reciprocal. -/
theorem output_mul (t : ℕ) (mt : ℝ) :
    (((Real.exp (-mt) * reading lf g q k v t : ℝ) : EReal)) * Ideal.div 1
        (max (FloatOps.absf (F := Ideal) (φ := .f32) (((Real.exp (-mt) * reading lf g q k (fun _ => 1) t : ℝ) : EReal)))
          (Ideal.exp (-(mt : EReal))))
      = ((output lf g q k v t : ℝ) : EReal) := by
  have hp := Real.exp_pos (-mt)
  have hne : max |Real.exp (-mt) * reading lf g q k (fun _ => 1) t| (Real.exp (-mt)) ≠ 0 :=
    (lt_of_lt_of_le hp (le_max_right _ _)).ne'
  rw [absf_coe, ← EReal.coe_neg, Ideal.exp_coe, ← coe_max, div_real _ _ hne, one_mul, ← EReal.coe_mul,
    output_of_scaled lf g q k v t mt _ _ rfl rfl]

/-- The output, as a quotient. -/
theorem output_div (t : ℕ) (mt : ℝ) :
    Ideal.div (((Real.exp (-mt) * reading lf g q k v t : ℝ) : EReal))
        (max (FloatOps.absf (F := Ideal) (φ := .f32) (((Real.exp (-mt) * reading lf g q k (fun _ => 1) t : ℝ) : EReal)))
          (Ideal.exp (-(mt : EReal))))
      = ((output lf g q k v t : ℝ) : EReal) := by
  have hp := Real.exp_pos (-mt)
  have hne : max |Real.exp (-mt) * reading lf g q k (fun _ => 1) t| (Real.exp (-mt)) ≠ 0 :=
    (lt_of_lt_of_le hp (le_max_right _ _)).ne'
  rw [absf_coe, ← EReal.coe_neg, Ideal.exp_coe, ← coe_max, div_real _ _ hne, ← EReal.coe_mul,
    output_of_scaled lf g q k v t mt _ _ rfl rfl]

end Lift

/-- The sequences of a whole batch: per sequence and head the log forget gates, the input gates, the queries, the keys
    and, per channel, the values. -/
structure Data where
  lf : Fin 4 → Fin 4 → ℕ → ℝ
  g : Fin 4 → Fin 4 → ℕ → ℝ
  q : Fin 4 → Fin 4 → ℕ → Fin 256 → ℝ
  k : Fin 4 → Fin 4 → ℕ → Fin 256 → ℝ
  v : Fin 4 → Fin 4 → Fin 512 → ℕ → ℝ

/-- The output of head `h` of sequence `b` at position `t` and channel `a`. -/
def Data.out (D : Data) (b h : Fin 4) (t : ℕ) (a : Fin 512) : ℝ := output (D.lf b h) (D.g b h) (D.q b h) (D.k b h) (D.v b h a) t

end Cert.Mlstm

end
-- ==== Proof.Sequences.lean ====
/-
  The sequences of the recurrence as the call's arguments hold them: where a head's queries, keys and values lie among
  the columns, and the gates as real numbers.
-/
module

public import proofs.«01_k».proof.Proof.Step

@[expose] public section

noncomputable section

namespace Cert.Mlstm

open Idealize.ShloMosaic

/-- The row of position `t` of sequence `b`. -/
def row (b : Fin 4) (t : ℕ) : Fin 32768 := ⟨(b.val * 8192 + t) % 32768, Nat.mod_lt _ (by omega)⟩

theorem row_val {b : Fin 4} {t : ℕ} (h : t < 8192) : (row b t).val = b.val * 8192 + t := Nat.mod_eq_of_lt (by omega)

theorem eq_row {b : Fin 4} {t : ℕ} (h : t < 8192) (r : Fin 32768) (hr : r.val = b.val * 8192 + t) : r = row b t :=
  Fin.ext (hr.trans (row_val h).symm)

/-- The columns of a head's queries, keys and values. -/
def qcol (h : Fin 4) (d : Fin 256) : Fin 6144 := ⟨h.val * 256 + d.val, by omega⟩
def kcol (h : Fin 4) (d : Fin 256) : Fin 6144 := ⟨1024 + (h.val * 256 + d.val), by omega⟩
def vcol (h : Fin 4) (a : Fin 512) : Fin 6144 := ⟨2048 + (h.val * 512 + a.val), by omega⟩

/-- The lanes of a head's input and forget gate. -/
def ilane (h : Fin 4) : Fin 8 := ⟨h.val, by omega⟩
def flane (h : Fin 4) : Fin 8 := ⟨4 + h.val, by omega⟩

abbrev fifteen : EReal := Ideal.ofBits .f32 1097859072#32

theorem fifteen_eq : fifteen = ((15 : ℝ) : EReal) := by
  simp only [fifteen, Ideal.ofBits, Ideal.ieee]
  simp
  norm_cast
  norm_num

/-- A gate before its sigmoid: the soft-capped sum of the projection and the bias. -/
def capped (x y : EReal) : EReal := fifteen * Ideal.tanh (Ideal.div (x + y) fifteen)

theorem capped_real (x y : EReal) : ∃ r : ℝ, capped x y = r := by
  obtain ⟨r, hr⟩ := tanh_real (Ideal.div (x + y) fifteen)
  exact ⟨15 * r, by rw [capped, hr, fifteen_eq, ← EReal.coe_mul]⟩

theorem capped_coe (x y : EReal) : capped x y = ((capped x y).toReal : EReal) := by
  obtain ⟨r, hr⟩ := capped_real x y
  rw [hr, EReal.toReal_coe]

/-- The gate of row `r` and lane `l`. -/
def gate (aux : FVec Ideal ⟨2, ![32768, 128]⟩ .f32) (bias : FVec Ideal ⟨1, ![8]⟩ .f32) (r : Fin 32768) (l : Fin 8) : ℝ :=
  (capped (aux (ix2 r ⟨l.val, by omega⟩)) (bias (ix1 l))).toReal

/-- The sequences the arguments hold. -/
def seqs (x : FVec Ideal ⟨2, ![32768, 6144]⟩ .bf16) (aux : FVec Ideal ⟨2, ![32768, 128]⟩ .f32) (bias : FVec Ideal ⟨1, ![8]⟩ .f32) : Data where
  lf b h t := logsig (gate aux bias (row b t) (flane h))
  g b h t := gate aux bias (row b t) (ilane h)
  q b h t d := (x (ix2 (row b t) (qcol h d))).toReal
  k b h t d := (x (ix2 (row b t) (kcol h d))).toReal
  v b h a t := (x (ix2 (row b t) (vcol h a))).toReal

/-- The queries, keys and values are real numbers. -/
def Finite (x : FVec Ideal ⟨2, ![32768, 6144]⟩ .bf16) : Prop :=
  ∀ (r : Fin 32768) (c : Fin 6144), c.val < 4096 → x (ix2 r c) ≠ ⊥ ∧ x (ix2 r c) ≠ ⊤

theorem Finite.coe {x : FVec Ideal ⟨2, ![32768, 6144]⟩ .bf16} (hx : Finite x) (r : Fin 32768) (c : Fin 6144) (hc : c.val < 4096) :
    x (ix2 r c) = ((x (ix2 r c)).toReal : EReal) := (EReal.coe_toReal (hx r c hc).2 (hx r c hc).1).symm

/-- What both programs make of an output: the root mean square norm over the head's channels, the weight and the
    sigmoid of the gate column. -/
def normed (y : Fin 512 → EReal) (a : Fin 512) (w o : EReal) : EReal :=
  y a * Ideal.rsqrt (Ideal.div (∑ e, y e * y e) (Ideal.ofBits .f32 1140850688#32) + Ideal.ofBits .f32 897988541#32) * w
    * Ideal.div 1 (1 + Ideal.exp (-o))

/-- The recurrence's result at a row and a column, of the call's arguments. -/
def result (x : FVec Ideal ⟨2, ![32768, 6144]⟩ .bf16) (aux : FVec Ideal ⟨2, ![32768, 128]⟩ .f32) (bias : FVec Ideal ⟨1, ![8]⟩ .f32)
    (norm : FVec Ideal ⟨1, ![2048]⟩ .f32) (r : Fin 32768) (l : Fin 2048) : EReal :=
  normed (fun a => ((seqs x aux bias).out ⟨r.val / 8192, by omega⟩ ⟨l.val / 512, by omega⟩ (r.val % 8192) a : EReal))
    ⟨l.val % 512, by omega⟩ (norm (ix1 l)) (x (ix2 r ⟨4096 + l.val, by omega⟩))

end Cert.Mlstm

end
-- ==== Proof.KernelHeads.lean ====
/-
  One chunk of one head, as the kernel computes it: the stabilizer, the memory, the normalizer and the output after a
  chunk, written over the chunk's columns, and for each of the four heads the kernel's lines read at an index.
-/
module

public import proofs.«01_k».proof.Proof.Gen.KernelIdeal.Value
public import proofs.«01_k».proof.Proof.Sequences
public import Idealize.ShloMosaic.Lib.Pipeline.ValueKit
import Idealize.ShloMosaic.Lib.Pipeline.ReadBack

@[expose] public section

set_option maxRecDepth 16384

noncomputable section

namespace Cert.Mlstm.Ker

open Idealize.ShloMosaic Idealize.ShloMosaic.TcCoe Idealize.ShloMosaic.Tactic
open Cert.KernelIdeal Cert.KernelIdeal.Gen

/-! ## One chunk of one head -/

section Chunk

/-- Row `r` of the chunk reads the rows up to itself. -/
def mask (r x : Fin 128) : BitVec 1 := IntOp.cmpi .sge (BitVec.ofNat 32 r.val) (BitVec.ofNat 32 x.val)

theorem mask_causal : Causal mask := by
  intro r x
  revert r x
  decide +kernel

variable (b g : Fin 128 → EReal) (mm : EReal)

/-- The next chunk's stabilizer. -/
def mNew : EReal := newStab b g mm (b 127)

/-- One entry of the memory after the chunk. -/
def cNew (K V : Fin 128 → EReal) (C : EReal) : EReal :=
  Ideal.exp (b 127 + mm - mNew b g mm) * C + ∑ x, V x * Ideal.exp (b 127 - b x + g x - mNew b g mm) * K x

/-- One entry of the normalizer after the chunk. -/
def nNew (K : Fin 128 → EReal) (N : EReal) : EReal :=
  Ideal.exp (b 127 + mm - mNew b g mm) * N + ∑ x, K x * Ideal.exp (b 127 - b x + g x - mNew b g mm)

variable (Q K : Fin 128 → Fin 256 → EReal) (r : Fin 128)

/-- The scaled score of row `r` and row `x`. -/
def sc (x : Fin 128) : EReal := (∑ d, Q r d * K x d) * Ideal.ofBits .f32 1031798784#32

/-- The numerator of the chunk's output. -/
def num (V : Fin 128 → EReal) (C : Fin 256 → EReal) : EReal :=
  (∑ x, sc Q K r x * Ideal.exp (logD mask b g r x - stab mask b g mm r) * V x)
    + Ideal.exp (b r + mm - stab mask b g mm r) * ((∑ d, Q r d * C d) * Ideal.ofBits .f32 1031798784#32)

/-- The denominator of the chunk's output. -/
def den (N : Fin 256 → EReal) : EReal :=
  (∑ x, sc Q K r x * Ideal.exp (logD mask b g r x - stab mask b g mm r))
    + Ideal.exp (b r + mm - stab mask b g mm r) * ((∑ d, Q r d * N d) * Ideal.ofBits .f32 1031798784#32)

/-- The chunk's output. -/
def hOut (V : Fin 128 → EReal) (C N : Fin 256 → EReal) : EReal :=
  num b g mm Q K r V C * Ideal.div 1 (max (FloatOps.absf (F := Ideal) (φ := .f32) (den b g mm Q K r N)) (Ideal.exp (-stab mask b g mm r)))

end Chunk

/-! ## What the kernel's lines compute for each head -/

variable (x4 : FVec Ideal S128x128 .f32) (x5 : FVec Ideal S1x128 .f32)
  (Q K : FVec Ideal S128x256 .bf16) (V O : FVec Ideal S128x512 .bf16) (W : FVec Ideal S1x512 .f32)
  (M : FVec Ideal S1x8x128 .f32) (C : FVec Ideal S1x512x256 .f32) (N : FVec Ideal S1x8x256 .f32)

/-- A column of a chunk's gates. -/
abbrev col (B : FVec Ideal S128x128 .f32) (l : Fin 128) (x : Fin 128) : EReal := B (ix2 x l)

/-- Head 0: the stabilizer. -/
theorem m0 (u : Fin 1) (r : Fin 8) (l : Fin 128) : (k0_pay34 (F := Ideal) (k0_pay27 (k0_pay10 x4 x5) (k0_pay12 x4 x5) (k0_pay14 M)) : FVec Ideal S1x8x128 .f32) (ix3 u r l)
    = mNew (col (k0_pay7 (F := Ideal) x4 x5) 4) (col (k0_pay5 (F := Ideal) x4 x5) 0) (M (ix3 0 0 0)) := by
  try simp only [k0_pay8, k0_pay9, k0_pay10, k0_pay11, k0_pay12, k0_pay13]
  generalize k0_pay5 (F := Ideal) x4 x5 = G
  generalize k0_pay7 (F := Ideal) x4 x5 = B
  unfold_payloads
  pointwise
  try simp only [zero_sub]
  rfl

/-- Head 0: the memory. -/
theorem c0 (u : Fin 1) (r : Fin 512) (l : Fin 256) : (k0_pay30 (F := Ideal) (k0_pay10 x4 x5) (k0_pay12 x4 x5) (k0_pay14 M) K V (k0_pay20 C) : FVec Ideal S1x512x256 .f32) (ix3 u r l)
    = cNew (col (k0_pay7 (F := Ideal) x4 x5) 4) (col (k0_pay5 (F := Ideal) x4 x5) 0) (M (ix3 0 0 0)) (fun x => K (ix2 x l)) (fun x => V (ix2 x r)) (C (ix3 0 r l)) := by
  try simp only [k0_pay8, k0_pay9, k0_pay10, k0_pay11, k0_pay12, k0_pay13]
  generalize k0_pay5 (F := Ideal) x4 x5 = G
  generalize k0_pay7 (F := Ideal) x4 x5 = B
  unfold_payloads
  pointwise
  try simp only [zero_sub]
  rfl

/-- Head 0: the normalizer. -/
theorem n0 (u : Fin 1) (r : Fin 8) (l : Fin 256) : (k0_pay33 (F := Ideal) (k0_pay28 (k0_pay10 x4 x5) (k0_pay12 x4 x5) (k0_pay14 M)) (k0_pay31 (k0_pay10 x4 x5) (k0_pay12 x4 x5) (k0_pay14 M) (k0_pay21 N)) (k0_pay32 K) : FVec Ideal S1x8x256 .f32) (ix3 u r l)
    = nNew (col (k0_pay7 (F := Ideal) x4 x5) 4) (col (k0_pay5 (F := Ideal) x4 x5) 0) (M (ix3 0 0 0)) (fun x => K (ix2 x l)) (N (ix3 0 0 l)) := by
  try simp only [k0_pay8, k0_pay9, k0_pay10, k0_pay11, k0_pay12, k0_pay13]
  generalize k0_pay5 (F := Ideal) x4 x5 = G
  generalize k0_pay7 (F := Ideal) x4 x5 = B
  unfold_payloads
  pointwise
  try simp only [zero_sub]
  rfl

/-- Head 1: the stabilizer. -/
theorem m1 (u : Fin 1) (r : Fin 8) (l : Fin 128) : (k0_pay56 (F := Ideal) (k0_pay50 (k0_pay36 (k0_pay5 x4 x5)) (k0_pay37 (k0_pay7 x4 x5)) (k0_pay38 M)) : FVec Ideal S1x8x128 .f32) (ix3 u r l)
    = mNew (col (k0_pay7 (F := Ideal) x4 x5) 5) (col (k0_pay5 (F := Ideal) x4 x5) 1) (M (ix3 0 0 0)) := by
  try simp only [k0_pay8, k0_pay9, k0_pay10, k0_pay11, k0_pay12, k0_pay13]
  generalize k0_pay5 (F := Ideal) x4 x5 = G
  generalize k0_pay7 (F := Ideal) x4 x5 = B
  unfold_payloads
  pointwise
  try simp only [zero_sub]
  rfl

/-- Head 1: the memory. -/
theorem c1 (u : Fin 1) (r : Fin 512) (l : Fin 256) : (k0_pay54 (F := Ideal) (k0_pay53 (k0_pay36 (k0_pay5 x4 x5)) (k0_pay37 (k0_pay7 x4 x5)) (k0_pay38 M) K V (k0_pay44 C)) : FVec Ideal S1x512x256 .f32) (ix3 u r l)
    = cNew (col (k0_pay7 (F := Ideal) x4 x5) 5) (col (k0_pay5 (F := Ideal) x4 x5) 1) (M (ix3 0 0 0)) (fun x => K (ix2 x l)) (fun x => V (ix2 x r)) (C (ix3 0 r l)) := by
  try simp only [k0_pay8, k0_pay9, k0_pay10, k0_pay11, k0_pay12, k0_pay13]
  generalize k0_pay5 (F := Ideal) x4 x5 = G
  generalize k0_pay7 (F := Ideal) x4 x5 = B
  unfold_payloads
  pointwise
  try simp only [zero_sub]
  rfl

/-- Head 1: the normalizer. -/
theorem n1 (u : Fin 1) (r : Fin 8) (l : Fin 256) : (k0_pay55 (F := Ideal) K (k0_pay45 N) (k0_pay51 (k0_pay36 (k0_pay5 x4 x5)) (k0_pay37 (k0_pay7 x4 x5)) (k0_pay38 M)) (k0_pay52 (k0_pay36 (k0_pay5 x4 x5)) (k0_pay37 (k0_pay7 x4 x5)) (k0_pay38 M)) : FVec Ideal S1x8x256 .f32) (ix3 u r l)
    = nNew (col (k0_pay7 (F := Ideal) x4 x5) 5) (col (k0_pay5 (F := Ideal) x4 x5) 1) (M (ix3 0 0 0)) (fun x => K (ix2 x l)) (N (ix3 0 0 l)) := by
  try simp only [k0_pay8, k0_pay9, k0_pay10, k0_pay11, k0_pay12, k0_pay13]
  generalize k0_pay5 (F := Ideal) x4 x5 = G
  generalize k0_pay7 (F := Ideal) x4 x5 = B
  unfold_payloads
  pointwise
  try simp only [zero_sub]
  rfl

/-- Head 2: the stabilizer. -/
theorem m2 (u : Fin 1) (r : Fin 8) (l : Fin 128) : (k0_pay79 (F := Ideal) (k0_pay73 (k0_pay60 (k0_pay5 x4 x5)) (k0_pay61 (k0_pay7 x4 x5)) (k0_pay62 M)) : FVec Ideal S1x8x128 .f32) (ix3 u r l)
    = mNew (col (k0_pay7 (F := Ideal) x4 x5) 6) (col (k0_pay5 (F := Ideal) x4 x5) 2) (M (ix3 0 0 0)) := by
  try simp only [k0_pay8, k0_pay9, k0_pay10, k0_pay11, k0_pay12, k0_pay13]
  generalize k0_pay5 (F := Ideal) x4 x5 = G
  generalize k0_pay7 (F := Ideal) x4 x5 = B
  unfold_payloads
  pointwise
  try simp only [zero_sub]
  rfl

/-- Head 2: the memory. -/
theorem c2 (u : Fin 1) (r : Fin 512) (l : Fin 256) : (k0_pay77 (F := Ideal) K (k0_pay68 C) (k0_pay74 (k0_pay60 (k0_pay5 x4 x5)) (k0_pay61 (k0_pay7 x4 x5)) (k0_pay62 M)) (k0_pay75 (k0_pay60 (k0_pay5 x4 x5)) (k0_pay61 (k0_pay7 x4 x5)) (k0_pay62 M)) (k0_pay76 V) : FVec Ideal S1x512x256 .f32) (ix3 u r l)
    = cNew (col (k0_pay7 (F := Ideal) x4 x5) 6) (col (k0_pay5 (F := Ideal) x4 x5) 2) (M (ix3 0 0 0)) (fun x => K (ix2 x l)) (fun x => V (ix2 x r)) (C (ix3 0 r l)) := by
  try simp only [k0_pay8, k0_pay9, k0_pay10, k0_pay11, k0_pay12, k0_pay13]
  generalize k0_pay5 (F := Ideal) x4 x5 = G
  generalize k0_pay7 (F := Ideal) x4 x5 = B
  unfold_payloads
  pointwise
  try simp only [zero_sub]
  rfl

/-- Head 2: the normalizer. -/
theorem n2 (u : Fin 1) (r : Fin 8) (l : Fin 256) : (k0_pay78 (F := Ideal) K (k0_pay69 N) (k0_pay74 (k0_pay60 (k0_pay5 x4 x5)) (k0_pay61 (k0_pay7 x4 x5)) (k0_pay62 M)) (k0_pay75 (k0_pay60 (k0_pay5 x4 x5)) (k0_pay61 (k0_pay7 x4 x5)) (k0_pay62 M)) : FVec Ideal S1x8x256 .f32) (ix3 u r l)
    = nNew (col (k0_pay7 (F := Ideal) x4 x5) 6) (col (k0_pay5 (F := Ideal) x4 x5) 2) (M (ix3 0 0 0)) (fun x => K (ix2 x l)) (N (ix3 0 0 l)) := by
  try simp only [k0_pay8, k0_pay9, k0_pay10, k0_pay11, k0_pay12, k0_pay13]
  generalize k0_pay5 (F := Ideal) x4 x5 = G
  generalize k0_pay7 (F := Ideal) x4 x5 = B
  unfold_payloads
  pointwise
  try simp only [zero_sub]
  rfl

/-- Head 3: the stabilizer. -/
theorem m3 (u : Fin 1) (r : Fin 8) (l : Fin 128) : (k0_pay103 (F := Ideal) (k0_pay96 (k0_pay84 (k0_pay7 x4 x5)) (k0_pay85 M)) (k0_pay97 (k0_pay83 (k0_pay5 x4 x5)) (k0_pay84 (k0_pay7 x4 x5))) : FVec Ideal S1x8x128 .f32) (ix3 u r l)
    = mNew (col (k0_pay7 (F := Ideal) x4 x5) 7) (col (k0_pay5 (F := Ideal) x4 x5) 3) (M (ix3 0 0 0)) := by
  try simp only [k0_pay8, k0_pay9, k0_pay10, k0_pay11, k0_pay12, k0_pay13]
  generalize k0_pay5 (F := Ideal) x4 x5 = G
  generalize k0_pay7 (F := Ideal) x4 x5 = B
  unfold_payloads
  pointwise
  try simp only [zero_sub]
  rfl

/-- Head 3: the memory. -/
theorem c3 (u : Fin 1) (r : Fin 512) (l : Fin 256) : (k0_pay101 (F := Ideal) (k0_pay85 M) K V (k0_pay91 C) (k0_pay94 (k0_pay84 (k0_pay7 x4 x5))) (k0_pay95 (k0_pay83 (k0_pay5 x4 x5)) (k0_pay84 (k0_pay7 x4 x5))) (k0_pay96 (k0_pay84 (k0_pay7 x4 x5)) (k0_pay85 M)) (k0_pay97 (k0_pay83 (k0_pay5 x4 x5)) (k0_pay84 (k0_pay7 x4 x5))) : FVec Ideal S1x512x256 .f32) (ix3 u r l)
    = cNew (col (k0_pay7 (F := Ideal) x4 x5) 7) (col (k0_pay5 (F := Ideal) x4 x5) 3) (M (ix3 0 0 0)) (fun x => K (ix2 x l)) (fun x => V (ix2 x r)) (C (ix3 0 r l)) := by
  try simp only [k0_pay8, k0_pay9, k0_pay10, k0_pay11, k0_pay12, k0_pay13]
  generalize k0_pay5 (F := Ideal) x4 x5 = G
  generalize k0_pay7 (F := Ideal) x4 x5 = B
  unfold_payloads
  pointwise
  try simp only [zero_sub]
  rfl

/-- Head 3: the normalizer. -/
theorem n3 (u : Fin 1) (r : Fin 8) (l : Fin 256) : (k0_pay102 (F := Ideal) (k0_pay85 M) K (k0_pay92 N) (k0_pay94 (k0_pay84 (k0_pay7 x4 x5))) (k0_pay95 (k0_pay83 (k0_pay5 x4 x5)) (k0_pay84 (k0_pay7 x4 x5))) (k0_pay96 (k0_pay84 (k0_pay7 x4 x5)) (k0_pay85 M)) (k0_pay97 (k0_pay83 (k0_pay5 x4 x5)) (k0_pay84 (k0_pay7 x4 x5))) : FVec Ideal S1x8x256 .f32) (ix3 u r l)
    = nNew (col (k0_pay7 (F := Ideal) x4 x5) 7) (col (k0_pay5 (F := Ideal) x4 x5) 3) (M (ix3 0 0 0)) (fun x => K (ix2 x l)) (N (ix3 0 0 l)) := by
  try simp only [k0_pay8, k0_pay9, k0_pay10, k0_pay11, k0_pay12, k0_pay13]
  generalize k0_pay5 (F := Ideal) x4 x5 = G
  generalize k0_pay7 (F := Ideal) x4 x5 = B
  unfold_payloads
  pointwise
  try simp only [zero_sub]
  rfl

/-- Head 0: the output before the norm. -/
theorem h0 (r : Fin 128) (a : Fin 512) : (k0_pay24 (F := Ideal) (k0_pay17 k0_pay6 (k0_pay11 x4 x5) (k0_pay12 x4 x5) (k0_pay13 x4 x5) M) Q (k0_pay18 k0_pay6 (k0_pay11 x4 x5) (k0_pay12 x4 x5) (k0_pay13 x4 x5) M Q K) (k0_pay19 k0_pay6 (k0_pay11 x4 x5) (k0_pay12 x4 x5) (k0_pay13 x4 x5) M) (k0_pay21 N) (k0_pay22 k0_pay6 (k0_pay11 x4 x5) (k0_pay12 x4 x5) (k0_pay13 x4 x5) M Q K V) (k0_pay23 k0_pay6 (k0_pay11 x4 x5) (k0_pay12 x4 x5) (k0_pay13 x4 x5) M Q C) : FVec Ideal S128x512 .f32) (ix2 r a)
    = hOut (col (k0_pay7 (F := Ideal) x4 x5) 4) (col (k0_pay5 (F := Ideal) x4 x5) 0) (M (ix3 0 0 0)) (fun r d => Q (ix2 r d)) (fun x d => K (ix2 x d)) r (fun x => V (ix2 x a))
        (fun d => C (ix3 0 a d)) (fun d => N (ix3 0 0 d)) := by
  try simp only [k0_pay8, k0_pay9, k0_pay10, k0_pay11, k0_pay12, k0_pay13]
  generalize k0_pay5 (F := Ideal) x4 x5 = G
  generalize k0_pay7 (F := Ideal) x4 x5 = B
  unfold_payloads
  pointwise
  try simp only [zero_sub]
  rfl

/-- Head 0: the normalized output. -/
theorem o0 (H : FVec Ideal S128x512 .f32) (r : Fin 128) (a : Fin 512) : (k0_pay35 (F := Ideal) H W O : FVec Ideal S128x512 .bf16) (ix2 r a)
    = normed (fun a => H (ix2 r a)) a (W (ix2 0 a)) (O (ix2 r a)) := by
  unfold_payloads
  pointwise
  try simp only [zero_sub]
  rfl

/-- Head 1: the output before the norm. -/
theorem h1 (r : Fin 128) (a : Fin 512) : (k0_pay47 (F := Ideal) (k0_pay41 k0_pay6 (k0_pay7 x4 x5) (k0_pay8 x4 x5) (k0_pay9 x4 x5) M) Q V (k0_pay42 k0_pay6 (k0_pay7 x4 x5) (k0_pay8 x4 x5) (k0_pay9 x4 x5) M Q K) (k0_pay43 k0_pay6 (k0_pay7 x4 x5) (k0_pay8 x4 x5) (k0_pay9 x4 x5) M) (k0_pay44 C) (k0_pay45 N) (k0_pay46 k0_pay6 (k0_pay7 x4 x5) (k0_pay8 x4 x5) (k0_pay9 x4 x5) M Q K) (constant S128x512 FTy.f32 0#32) : FVec Ideal S128x512 .f32) (ix2 r a)
    = hOut (col (k0_pay7 (F := Ideal) x4 x5) 5) (col (k0_pay5 (F := Ideal) x4 x5) 1) (M (ix3 0 0 0)) (fun r d => Q (ix2 r d)) (fun x d => K (ix2 x d)) r (fun x => V (ix2 x a))
        (fun d => C (ix3 0 a d)) (fun d => N (ix3 0 0 d)) := by
  try simp only [k0_pay8, k0_pay9, k0_pay10, k0_pay11, k0_pay12, k0_pay13]
  generalize k0_pay5 (F := Ideal) x4 x5 = G
  generalize k0_pay7 (F := Ideal) x4 x5 = B
  unfold_payloads
  pointwise
  try simp only [zero_sub]
  rfl

/-- Head 1: the normalized output. -/
theorem o1 (H : FVec Ideal S128x512 .f32) (r : Fin 128) (a : Fin 512) : (k0_pay59 (F := Ideal) (k0_pay57 H W) (k0_pay58 O) : FVec Ideal S128x512 .bf16) (ix2 r a)
    = normed (fun a => H (ix2 r a)) a (W (ix2 0 a)) (O (ix2 r a)) := by
  unfold_payloads
  pointwise
  try simp only [zero_sub]
  rfl

/-- Head 2: the output before the norm. -/
theorem h2 (r : Fin 128) (a : Fin 512) : (k0_pay70 (F := Ideal) (k0_pay65 k0_pay6 (k0_pay7 x4 x5) (k0_pay8 x4 x5) (k0_pay9 x4 x5) M) Q V (k0_pay66 k0_pay6 (k0_pay7 x4 x5) (k0_pay8 x4 x5) (k0_pay9 x4 x5) M Q K) (k0_pay67 k0_pay6 (k0_pay7 x4 x5) (k0_pay8 x4 x5) (k0_pay9 x4 x5) M) C N : FVec Ideal S128x512 .f32) (ix2 r a)
    = hOut (col (k0_pay7 (F := Ideal) x4 x5) 6) (col (k0_pay5 (F := Ideal) x4 x5) 2) (M (ix3 0 0 0)) (fun r d => Q (ix2 r d)) (fun x d => K (ix2 x d)) r (fun x => V (ix2 x a))
        (fun d => C (ix3 0 a d)) (fun d => N (ix3 0 0 d)) := by
  try simp only [k0_pay8, k0_pay9, k0_pay10, k0_pay11, k0_pay12, k0_pay13]
  generalize k0_pay5 (F := Ideal) x4 x5 = G
  generalize k0_pay7 (F := Ideal) x4 x5 = B
  unfold_payloads
  pointwise
  try simp only [zero_sub]
  rfl

/-- Head 2: the normalized output. -/
theorem o2 (H : FVec Ideal S128x512 .f32) (r : Fin 128) (a : Fin 512) : (k0_pay82 (F := Ideal) (k0_pay80 H) (k0_pay81 W) O : FVec Ideal S128x512 .bf16) (ix2 r a)
    = normed (fun a => H (ix2 r a)) a (W (ix2 0 a)) (O (ix2 r a)) := by
  unfold_payloads
  pointwise
  try simp only [zero_sub]
  rfl

/-- Head 3: the output before the norm. -/
theorem h3 (r : Fin 128) (a : Fin 512) : (k0_pay93 (F := Ideal) (k0_pay87 (k0_pay7 x4 x5) M) (k0_pay88 k0_pay6 (k0_pay7 x4 x5) (k0_pay8 x4 x5) (k0_pay9 x4 x5) M) (k0_pay89 k0_pay6 (k0_pay7 x4 x5) (k0_pay8 x4 x5) (k0_pay9 x4 x5) M) Q V (k0_pay90 Q K) (FloatOps.ofBits FTy.f32 1031798784#32) C N : FVec Ideal S128x512 .f32) (ix2 r a)
    = hOut (col (k0_pay7 (F := Ideal) x4 x5) 7) (col (k0_pay5 (F := Ideal) x4 x5) 3) (M (ix3 0 0 0)) (fun r d => Q (ix2 r d)) (fun x d => K (ix2 x d)) r (fun x => V (ix2 x a))
        (fun d => C (ix3 0 a d)) (fun d => N (ix3 0 0 d)) := by
  try simp only [k0_pay8, k0_pay9, k0_pay10, k0_pay11, k0_pay12, k0_pay13]
  generalize k0_pay5 (F := Ideal) x4 x5 = G
  generalize k0_pay7 (F := Ideal) x4 x5 = B
  unfold_payloads
  pointwise
  try simp only [zero_sub]
  rfl

/-- Head 3: the normalized output. -/
theorem o3 (H : FVec Ideal S128x512 .f32) (r : Fin 128) (a : Fin 512) : (k0_pay1 (F := Ideal) H (k0_pay104 H) k0_pay105 W O : FVec Ideal S128x512 .bf16) (ix2 r a)
    = normed (fun a => H (ix2 r a)) a (W (ix2 0 a)) (O (ix2 r a)) := by
  unfold_payloads
  pointwise
  try simp only [zero_sub]
  rfl

end Cert.Mlstm.Ker

end
-- ==== Proof.KernelChunk.lean ====
/-
  One grid point of the kernel: what it leaves in the carried stabilizers, memories and normalizers and in the output
  window, over what the point before left (zeros at a batch's first point).
-/
module

public import proofs.«01_k».proof.Proof.KernelHeads
public import Idealize.ShloMosaic.Lib.Pipeline.ReadBack

@[expose] public section

set_option maxRecDepth 16384

noncomputable section

namespace Cert.Mlstm.Ker

open Idealize.ShloMosaic Idealize.ShloMosaic.TcCoe Idealize.ShloMosaic.Tactic
open Cert.KernelIdeal Cert.KernelIdeal.Gen

variable (m : (ℓ : Loc nD τ sig) → Buf (Elt Ideal) ℓ) (c : Dev nD) (t : Fin cfg0.N)

/-- The gates of a point's rows, and the running sums of their log-sigmoids. -/
def gates : FVec Ideal S128x128 .f32 := k0_pay5 (F := Ideal) (iblk m c 4 t) (iblk m c 5 t)
def sums : FVec Ideal S128x128 .f32 := k0_pay7 (F := Ideal) (iblk m c 4 t) (iblk m c 5 t)

/-- Head `h`'s columns of them. -/
def gcol (h : Fin 4) (x : Fin 128) : EReal := gates m c t (ix2 x ⟨h.val, by omega⟩)
def bcol (h : Fin 4) (x : Fin 128) : EReal := sums m c t (ix2 x ⟨4 + h.val, by omega⟩)

/-- What the point finds in the carried memories, normalizers and stabilizers. -/
def before : FVec Ideal S4x512x256 .f32 × FVec Ideal S4x8x256 .f32 × FVec Ideal S4x8x128 .f32 :=
  if t.val % 64 = 0 then (k0_pay2, k0_pay3, k0_pay4)
  else (outsAt0 m c (t.val - 1) (Nat.lt_of_le_of_lt (Nat.sub_le _ _) t.isLt)).2

theorem before_A (h0 : t.val % 64 = 0) : before m c t = (k0_pay2, k0_pay3, k0_pay4) := if_pos h0
theorem before_B (h0 : ¬t.val % 64 = 0) :
    before m c t = (outsAt0 m c (t.val - 1) (Nat.lt_of_le_of_lt (Nat.sub_le _ _) t.isLt)).2 := if_neg h0

theorem fin_one (u : Fin 1) : u = 0 := Subsingleton.elim _ _

/-! ### Blocks and slabs at an index -/

section Index

theorem slab_lt {h n a b : ℕ} (inb : ∀ i, (![h, 0, 0] : Fin 3 → ℕ) i + (![1, a, b] : Fin 3 → ℕ) i ≤ (![n, a, b] : Fin 3 → ℕ) i) : h < n := by
  have h0 : h + 1 ≤ n := inb 0
  omega

theorem slab_emb {n a b : ℕ} (h : ℕ) (inb) (r : Fin a) (l : Fin b) :
    (Rect.unit (s := ⟨3, ![n, a, b]⟩) ![h, 0, 0] ![1, a, b] inb).emb (ix3 0 r l) = ix3 ⟨h, slab_lt inb⟩ r l := by
  funext i
  apply Fin.ext
  fin_cases i
  · exact Nat.add_zero _
  · show 0 + 1 * r.val = r.val
    omega
  · show 0 + 1 * l.val = l.val
    omega

theorem slab_mem {n a b : ℕ} (h : ℕ) (inb) (r : Fin a) (l : Fin b) :
    ix3 ⟨h, slab_lt inb⟩ r l ∈ (Rect.unit (s := ⟨3, ![n, a, b]⟩) ![h, 0, 0] ![1, a, b] inb).set := by
  rw [← slab_emb h inb r l, ← Rect.map_emb_univ]
  exact Finset.mem_map_of_mem _ (Finset.mem_univ _)

theorem slab_ld {n a b : ℕ} {Val : EltTy → Type} {e : EltTy} (X : (⟨3, ![n, a, b]⟩ : Shape).Idx → Val e) (h : ℕ) (inb) (r : Fin a) (l : Fin b) :
    View.ld (S := ⟨3, ![n, a, b]⟩) X (Rect.unit ![h, 0, 0] ![1, a, b] inb) (ix3 0 r l) = X (ix3 ⟨h, slab_lt inb⟩ r l) :=
  congrArg X (slab_emb h inb r l)

theorem cols_lt {o n a w : ℕ} (inb : ∀ i, (![0, o] : Fin 2 → ℕ) i + (![a, w] : Fin 2 → ℕ) i ≤ (![a, n] : Fin 2 → ℕ) i) (l : Fin w) : o + l.val < n := by
  have h0 : o + w ≤ n := inb 1
  omega

theorem cols_emb {n a w : ℕ} (o : ℕ) (inb) (r : Fin a) (l : Fin w) :
    (Rect.unit (s := ⟨2, ![a, n]⟩) ![0, o] ![a, w] inb).emb (ix2 r l) = ix2 r ⟨o + l.val, cols_lt inb l⟩ := by
  funext i
  apply Fin.ext
  fin_cases i
  · show 0 + 1 * r.val = r.val
    omega
  · show o + 1 * l.val = o + l.val
    omega

theorem cols_mem {n a w : ℕ} (o : ℕ) (inb) (r : Fin a) (l : Fin w) :
    ix2 r ⟨o + l.val, cols_lt inb l⟩ ∈ (Rect.unit (s := ⟨2, ![a, n]⟩) ![0, o] ![a, w] inb).set := by
  rw [← cols_emb o inb r l, ← Rect.map_emb_univ]
  exact Finset.mem_map_of_mem _ (Finset.mem_univ _)

theorem cols_ld {n a w : ℕ} {Val : EltTy → Type} {e : EltTy} (X : (⟨2, ![a, n]⟩ : Shape).Idx → Val e) (o : ℕ) (inb) (r : Fin a) (l : Fin w) :
    View.ld (S := ⟨2, ![a, n]⟩) X (Rect.unit ![0, o] ![a, w] inb) (ix2 r l) = X (ix2 r ⟨o + l.val, cols_lt inb l⟩) :=
  congrArg X (cols_emb o inb r l)

variable {b g : Fin 128 → EReal} {mm mm' : EReal}

theorem cNew_congr {K K' V V' : Fin 128 → EReal} {C C' : EReal} (h : mm = mm') (hK : K = K') (hV : V = V') (hC : C = C') :
    cNew b g mm K V C = cNew b g mm' K' V' C' := by
  rw [h, hK, hV, hC]

theorem hOut_congr {Q Q' K K' : Fin 128 → Fin 256 → EReal} {r : Fin 128} {V V' : Fin 128 → EReal} {C C' N N' : Fin 256 → EReal} (h : mm = mm')
    (hQ : Q = Q') (hK : K = K') (hV : V = V') (hC : C = C') (hN : N = N') : hOut b g mm Q K r V C N = hOut b g mm' Q' K' r V' C' N' := by
  rw [h, hQ, hK, hV, hC, hN]

theorem normed_congr {y y' : Fin 512 → EReal} {a : Fin 512} {w w' o o' : EReal} (hy : ∀ a, y a = y' a) (hw : w = w') (ho : o = o') :
    normed y a w o = normed y' a w' o' := by
  rw [funext hy, hw, ho]

theorem nNew_congr {K K' : Fin 128 → EReal} {N N' : EReal} (h : mm = mm') (hK : K = K') (hN : N = N') :
    nNew b g mm K N = nNew b g mm' K' N' := by
  rw [h, hK, hN]

end Index

/-! ### The point's inputs, by head -/

def qblk (h : Fin 4) (r : Fin 128) (d : Fin 256) : EReal := (iblk m c 0 t : FVec Ideal S128x1024 .bf16) (ix2 r ⟨256 * h.val + d.val, by omega⟩)
def kblk (h : Fin 4) (r : Fin 128) (d : Fin 256) : EReal := (iblk m c 1 t : FVec Ideal S128x1024 .bf16) (ix2 r ⟨256 * h.val + d.val, by omega⟩)
def vblk (h : Fin 4) (r : Fin 128) (a : Fin 512) : EReal := (iblk m c 2 t : FVec Ideal S128x2048 .bf16) (ix2 r ⟨512 * h.val + a.val, by omega⟩)
def oblk (h : Fin 4) (r : Fin 128) (a : Fin 512) : EReal := (iblk m c 3 t : FVec Ideal S128x2048 .bf16) (ix2 r ⟨512 * h.val + a.val, by omega⟩)
def wblk (h : Fin 4) (a : Fin 512) : EReal := (iblk m c 6 t : FVec Ideal S1x2048 .f32) (ix2 0 ⟨512 * h.val + a.val, by omega⟩)

/-! ### The carried stabilizers -/

/-- Head `h`'s entries after the point, over what it finds. -/
def mAt (M : FVec Ideal S4x8x128 .f32) (h : Fin 4) (r : Fin 8) (l : Fin 128) : EReal :=
  mNew (bcol m c t h) (gcol m c t h) (M (ix3 h 0 0))

def mAll (M : FVec Ideal S4x8x128 .f32) : FVec Ideal S4x8x128 .f32 := fun i => mAt m c t M (i 0) (i 1) (i 2)

set_option maxHeartbeats 1600000 in
/-- The stabilizers after a point. -/
theorem m_at (h : Fin 4) (r : Fin 8) (l : Fin 128) :
    (outsAt0 m c t.val t.isLt).2.2.2 (ix3 h r l) = mAt m c t (before m c t).2.2 h r l := by
  by_cases hz : t.val % 64 = 0
  · rw [outsAt0_A m c t hz, before_A m c t hz]
    dsimp only
    frame_out
    simp (disch := decide) only [↓View.readCov_skip, View.readCov_fill]
    generalize k0_pay2 (F := Ideal) = C
    generalize k0_pay3 (F := Ideal) = N
    generalize k0_pay4 (F := Ideal) = M
    refine View.canon_append_of_piecesOf (Val := Elt Ideal) (e := .f32) (mAll m c t M) [_] [_, _, _, _] ⟨?_, ?_, ?_, ?_, trivial⟩ _ ?_
    · intro x
      idx_vars x
      obtain rfl := fin_one x0
      refine (m3 _ _ _ _ _ _).trans (Eq.trans ?_ (congrArg _ (slab_emb 3 _ x1 x2).symm))
      exact congrArg (mNew _ _) (slab_ld _ _ _ _ _)
    · intro x
      idx_vars x
      obtain rfl := fin_one x0
      refine (m2 _ _ _ _ _ _).trans (Eq.trans ?_ (congrArg _ (slab_emb 2 _ x1 x2).symm))
      exact congrArg (mNew _ _) (slab_ld _ _ _ _ _)
    · intro x
      idx_vars x
      obtain rfl := fin_one x0
      refine (m1 _ _ _ _ _ _).trans (Eq.trans ?_ (congrArg _ (slab_emb 1 _ x1 x2).symm))
      exact congrArg (mNew _ _) (slab_ld _ _ _ _ _)
    · intro x
      idx_vars x
      obtain rfl := fin_one x0
      refine (m0 _ _ _ _ _ _).trans (Eq.trans ?_ (congrArg _ (slab_emb 0 _ x1 x2).symm))
      exact congrArg (mNew _ _) (slab_ld _ _ _ _ _)
    · match h with
      | 0 => exact ⟨_, .tail _ (.tail _ (.tail _ (.head _))), slab_mem 0 inb_S4x8x128_S1x8x128_0_0_0 r l⟩
      | 1 => exact ⟨_, .tail _ (.tail _ (.head _)), slab_mem 1 inb_S4x8x128_S1x8x128_1_0_0 r l⟩
      | 2 => exact ⟨_, .tail _ (.head _), slab_mem 2 inb_S4x8x128_S1x8x128_2_0_0 r l⟩
      | 3 => exact ⟨_, .head _, slab_mem 3 inb_S4x8x128_S1x8x128_3_0_0 r l⟩
  · rw [outsAt0_B m c t hz, before_B m c t hz]
    dsimp only
    frame_out
    simp only [read_unread_whole]
    generalize outsAt0 m c (t.val - 1) _ = P
    refine View.canon_append_of_piecesOf (Val := Elt Ideal) (e := .f32) (mAll m c t P.2.2.2) [] [_, _, _, _] ⟨?_, ?_, ?_, ?_, trivial⟩ _ ?_
    · intro x
      idx_vars x
      obtain rfl := fin_one x0
      refine (m3 _ _ _ _ _ _).trans (Eq.trans ?_ (congrArg _ (slab_emb 3 _ x1 x2).symm))
      exact congrArg (mNew _ _) (slab_ld _ _ _ _ _)
    · intro x
      idx_vars x
      obtain rfl := fin_one x0
      refine (m2 _ _ _ _ _ _).trans (Eq.trans ?_ (congrArg _ (slab_emb 2 _ x1 x2).symm))
      exact congrArg (mNew _ _) (slab_ld _ _ _ _ _)
    · intro x
      idx_vars x
      obtain rfl := fin_one x0
      refine (m1 _ _ _ _ _ _).trans (Eq.trans ?_ (congrArg _ (slab_emb 1 _ x1 x2).symm))
      exact congrArg (mNew _ _) (slab_ld _ _ _ _ _)
    · intro x
      idx_vars x
      obtain rfl := fin_one x0
      refine (m0 _ _ _ _ _ _).trans (Eq.trans ?_ (congrArg _ (slab_emb 0 _ x1 x2).symm))
      exact congrArg (mNew _ _) (slab_ld _ _ _ _ _)
    · match h with
      | 0 => exact ⟨_, .tail _ (.tail _ (.tail _ (.head _))), slab_mem 0 inb_S4x8x128_S1x8x128_0_0_0 r l⟩
      | 1 => exact ⟨_, .tail _ (.tail _ (.head _)), slab_mem 1 inb_S4x8x128_S1x8x128_1_0_0 r l⟩
      | 2 => exact ⟨_, .tail _ (.head _), slab_mem 2 inb_S4x8x128_S1x8x128_2_0_0 r l⟩
      | 3 => exact ⟨_, .head _, slab_mem 3 inb_S4x8x128_S1x8x128_3_0_0 r l⟩

/-! ### The carried memories -/

/-- Head `h`'s entries after the point, over what it finds. -/
def cAt (M : FVec Ideal S4x8x128 .f32) (C : FVec Ideal S4x512x256 .f32) (h : Fin 4) (r : Fin 512) (l : Fin 256) : EReal :=
  cNew (bcol m c t h) (gcol m c t h) (M (ix3 h 0 0)) (fun x => kblk m c t h x l) (fun x => vblk m c t h x r) (C (ix3 h r l))

def cAll (M : FVec Ideal S4x8x128 .f32) (C : FVec Ideal S4x512x256 .f32) : FVec Ideal S4x512x256 .f32 := fun i => cAt m c t M C (i 0) (i 1) (i 2)

set_option maxHeartbeats 1600000 in
/-- The memories after a point. -/
theorem c_at (h : Fin 4) (r : Fin 512) (l : Fin 256) :
    (outsAt0 m c t.val t.isLt).2.1 (ix3 h r l) = cAt m c t (before m c t).2.2 (before m c t).1 h r l := by
  by_cases hz : t.val % 64 = 0
  · rw [outsAt0_A m c t hz, before_A m c t hz]
    dsimp only
    frame_out
    simp (disch := decide) only [↓View.readCov_skip, View.readCov_fill]
    generalize k0_pay2 (F := Ideal) = C
    generalize k0_pay3 (F := Ideal) = N
    generalize k0_pay4 (F := Ideal) = M
    refine View.canon_append_of_piecesOf (Val := Elt Ideal) (e := .f32) (cAll m c t M C) [_] [_, _, _, _] ⟨?_, ?_, ?_, ?_, trivial⟩ _ ?_
    · intro x
      idx_vars x
      obtain rfl := fin_one x0
      refine (c3 _ _ _ _ _ _ _ _ _).trans (Eq.trans ?_ (congrArg _ (slab_emb 3 _ x1 x2).symm))
      exact cNew_congr (slab_ld _ _ _ _ _) (funext fun x => cols_ld _ _ _ _ _) (funext fun x => cols_ld _ _ _ _ _) (slab_ld _ _ _ _ _)
    · intro x
      idx_vars x
      obtain rfl := fin_one x0
      refine (c2 _ _ _ _ _ _ _ _ _).trans (Eq.trans ?_ (congrArg _ (slab_emb 2 _ x1 x2).symm))
      exact cNew_congr (slab_ld _ _ _ _ _) (funext fun x => cols_ld _ _ _ _ _) (funext fun x => cols_ld _ _ _ _ _) (slab_ld _ _ _ _ _)
    · intro x
      idx_vars x
      obtain rfl := fin_one x0
      refine (c1 _ _ _ _ _ _ _ _ _).trans (Eq.trans ?_ (congrArg _ (slab_emb 1 _ x1 x2).symm))
      exact cNew_congr (slab_ld _ _ _ _ _) (funext fun x => cols_ld _ _ _ _ _) (funext fun x => cols_ld _ _ _ _ _) (slab_ld _ _ _ _ _)
    · intro x
      idx_vars x
      obtain rfl := fin_one x0
      refine (c0 _ _ _ _ _ _ _ _ _).trans (Eq.trans ?_ (congrArg _ (slab_emb 0 _ x1 x2).symm))
      exact cNew_congr (slab_ld _ _ _ _ _) (funext fun x => cols_ld _ _ _ _ _) (funext fun x => cols_ld _ _ _ _ _) (slab_ld _ _ _ _ _)
    · match h with
      | 0 => exact ⟨_, .tail _ (.tail _ (.tail _ (.head _))), slab_mem 0 inb_S4x512x256_S1x512x256_0_0_0 r l⟩
      | 1 => exact ⟨_, .tail _ (.tail _ (.head _)), slab_mem 1 inb_S4x512x256_S1x512x256_1_0_0 r l⟩
      | 2 => exact ⟨_, .tail _ (.head _), slab_mem 2 inb_S4x512x256_S1x512x256_2_0_0 r l⟩
      | 3 => exact ⟨_, .head _, slab_mem 3 inb_S4x512x256_S1x512x256_3_0_0 r l⟩
  · rw [outsAt0_B m c t hz, before_B m c t hz]
    dsimp only
    frame_out
    simp only [read_unread_whole]
    generalize outsAt0 m c (t.val - 1) _ = P
    refine View.canon_append_of_piecesOf (Val := Elt Ideal) (e := .f32) (cAll m c t P.2.2.2 P.2.1) [] [_, _, _, _] ⟨?_, ?_, ?_, ?_, trivial⟩ _ ?_
    · intro x
      idx_vars x
      obtain rfl := fin_one x0
      refine (c3 _ _ _ _ _ _ _ _ _).trans (Eq.trans ?_ (congrArg _ (slab_emb 3 _ x1 x2).symm))
      exact cNew_congr (slab_ld _ _ _ _ _) (funext fun x => cols_ld _ _ _ _ _) (funext fun x => cols_ld _ _ _ _ _) (slab_ld _ _ _ _ _)
    · intro x
      idx_vars x
      obtain rfl := fin_one x0
      refine (c2 _ _ _ _ _ _ _ _ _).trans (Eq.trans ?_ (congrArg _ (slab_emb 2 _ x1 x2).symm))
      exact cNew_congr (slab_ld _ _ _ _ _) (funext fun x => cols_ld _ _ _ _ _) (funext fun x => cols_ld _ _ _ _ _) (slab_ld _ _ _ _ _)
    · intro x
      idx_vars x
      obtain rfl := fin_one x0
      refine (c1 _ _ _ _ _ _ _ _ _).trans (Eq.trans ?_ (congrArg _ (slab_emb 1 _ x1 x2).symm))
      exact cNew_congr (slab_ld _ _ _ _ _) (funext fun x => cols_ld _ _ _ _ _) (funext fun x => cols_ld _ _ _ _ _) (slab_ld _ _ _ _ _)
    · intro x
      idx_vars x
      obtain rfl := fin_one x0
      refine (c0 _ _ _ _ _ _ _ _ _).trans (Eq.trans ?_ (congrArg _ (slab_emb 0 _ x1 x2).symm))
      exact cNew_congr (slab_ld _ _ _ _ _) (funext fun x => cols_ld _ _ _ _ _) (funext fun x => cols_ld _ _ _ _ _) (slab_ld _ _ _ _ _)
    · match h with
      | 0 => exact ⟨_, .tail _ (.tail _ (.tail _ (.head _))), slab_mem 0 inb_S4x512x256_S1x512x256_0_0_0 r l⟩
      | 1 => exact ⟨_, .tail _ (.tail _ (.head _)), slab_mem 1 inb_S4x512x256_S1x512x256_1_0_0 r l⟩
      | 2 => exact ⟨_, .tail _ (.head _), slab_mem 2 inb_S4x512x256_S1x512x256_2_0_0 r l⟩
      | 3 => exact ⟨_, .head _, slab_mem 3 inb_S4x512x256_S1x512x256_3_0_0 r l⟩

/-! ### The carried normalizers -/

/-- Head `h`'s entries after the point, over what it finds. -/
def nAt (M : FVec Ideal S4x8x128 .f32) (N : FVec Ideal S4x8x256 .f32) (h : Fin 4) (r : Fin 8) (l : Fin 256) : EReal :=
  nNew (bcol m c t h) (gcol m c t h) (M (ix3 h 0 0)) (fun x => kblk m c t h x l) (N (ix3 h 0 l))

def nAll (M : FVec Ideal S4x8x128 .f32) (N : FVec Ideal S4x8x256 .f32) : FVec Ideal S4x8x256 .f32 := fun i => nAt m c t M N (i 0) (i 1) (i 2)

set_option maxHeartbeats 1600000 in
/-- The normalizers after a point. -/
theorem n_at (h : Fin 4) (r : Fin 8) (l : Fin 256) :
    (outsAt0 m c t.val t.isLt).2.2.1 (ix3 h r l) = nAt m c t (before m c t).2.2 (before m c t).2.1 h r l := by
  by_cases hz : t.val % 64 = 0
  · rw [outsAt0_A m c t hz, before_A m c t hz]
    dsimp only
    frame_out
    simp (disch := decide) only [↓View.readCov_skip, View.readCov_fill]
    generalize k0_pay2 (F := Ideal) = C
    generalize k0_pay3 (F := Ideal) = N
    generalize k0_pay4 (F := Ideal) = M
    refine View.canon_append_of_piecesOf (Val := Elt Ideal) (e := .f32) (nAll m c t M N) [_] [_, _, _, _] ⟨?_, ?_, ?_, ?_, trivial⟩ _ ?_
    · intro x
      idx_vars x
      obtain rfl := fin_one x0
      refine (n3 _ _ _ _ _ _ _ _).trans (Eq.trans ?_ (congrArg _ (slab_emb 3 _ x1 x2).symm))
      exact nNew_congr (slab_ld _ _ _ _ _) (funext fun x => cols_ld _ _ _ _ _) (slab_ld _ _ _ _ _)
    · intro x
      idx_vars x
      obtain rfl := fin_one x0
      refine (n2 _ _ _ _ _ _ _ _).trans (Eq.trans ?_ (congrArg _ (slab_emb 2 _ x1 x2).symm))
      exact nNew_congr (slab_ld _ _ _ _ _) (funext fun x => cols_ld _ _ _ _ _) (slab_ld _ _ _ _ _)
    · intro x
      idx_vars x
      obtain rfl := fin_one x0
      refine (n1 _ _ _ _ _ _ _ _).trans (Eq.trans ?_ (congrArg _ (slab_emb 1 _ x1 x2).symm))
      exact nNew_congr (slab_ld _ _ _ _ _) (funext fun x => cols_ld _ _ _ _ _) (slab_ld _ _ _ _ _)
    · intro x
      idx_vars x
      obtain rfl := fin_one x0
      refine (n0 _ _ _ _ _ _ _ _).trans (Eq.trans ?_ (congrArg _ (slab_emb 0 _ x1 x2).symm))
      exact nNew_congr (slab_ld _ _ _ _ _) (funext fun x => cols_ld _ _ _ _ _) (slab_ld _ _ _ _ _)
    · match h with
      | 0 => exact ⟨_, .tail _ (.tail _ (.tail _ (.head _))), slab_mem 0 inb_S4x8x256_S1x8x256_0_0_0 r l⟩
      | 1 => exact ⟨_, .tail _ (.tail _ (.head _)), slab_mem 1 inb_S4x8x256_S1x8x256_1_0_0 r l⟩
      | 2 => exact ⟨_, .tail _ (.head _), slab_mem 2 inb_S4x8x256_S1x8x256_2_0_0 r l⟩
      | 3 => exact ⟨_, .head _, slab_mem 3 inb_S4x8x256_S1x8x256_3_0_0 r l⟩
  · rw [outsAt0_B m c t hz, before_B m c t hz]
    dsimp only
    frame_out
    simp only [read_unread_whole]
    generalize outsAt0 m c (t.val - 1) _ = P
    refine View.canon_append_of_piecesOf (Val := Elt Ideal) (e := .f32) (nAll m c t P.2.2.2 P.2.2.1) [] [_, _, _, _] ⟨?_, ?_, ?_, ?_, trivial⟩ _ ?_
    · intro x
      idx_vars x
      obtain rfl := fin_one x0
      refine (n3 _ _ _ _ _ _ _ _).trans (Eq.trans ?_ (congrArg _ (slab_emb 3 _ x1 x2).symm))
      exact nNew_congr (slab_ld _ _ _ _ _) (funext fun x => cols_ld _ _ _ _ _) (slab_ld _ _ _ _ _)
    · intro x
      idx_vars x
      obtain rfl := fin_one x0
      refine (n2 _ _ _ _ _ _ _ _).trans (Eq.trans ?_ (congrArg _ (slab_emb 2 _ x1 x2).symm))
      exact nNew_congr (slab_ld _ _ _ _ _) (funext fun x => cols_ld _ _ _ _ _) (slab_ld _ _ _ _ _)
    · intro x
      idx_vars x
      obtain rfl := fin_one x0
      refine (n1 _ _ _ _ _ _ _ _).trans (Eq.trans ?_ (congrArg _ (slab_emb 1 _ x1 x2).symm))
      exact nNew_congr (slab_ld _ _ _ _ _) (funext fun x => cols_ld _ _ _ _ _) (slab_ld _ _ _ _ _)
    · intro x
      idx_vars x
      obtain rfl := fin_one x0
      refine (n0 _ _ _ _ _ _ _ _).trans (Eq.trans ?_ (congrArg _ (slab_emb 0 _ x1 x2).symm))
      exact nNew_congr (slab_ld _ _ _ _ _) (funext fun x => cols_ld _ _ _ _ _) (slab_ld _ _ _ _ _)
    · match h with
      | 0 => exact ⟨_, .tail _ (.tail _ (.tail _ (.head _))), slab_mem 0 inb_S4x8x256_S1x8x256_0_0_0 r l⟩
      | 1 => exact ⟨_, .tail _ (.tail _ (.head _)), slab_mem 1 inb_S4x8x256_S1x8x256_1_0_0 r l⟩
      | 2 => exact ⟨_, .tail _ (.head _), slab_mem 2 inb_S4x8x256_S1x8x256_2_0_0 r l⟩
      | 3 => exact ⟨_, .head _, slab_mem 3 inb_S4x8x256_S1x8x256_3_0_0 r l⟩

/-! ### The output window -/

/-- Head `h`'s output row, after the norm and the output gate, over what the point finds. -/
def oAt (M : FVec Ideal S4x8x128 .f32) (C : FVec Ideal S4x512x256 .f32) (N : FVec Ideal S4x8x256 .f32) (h : Fin 4) (r : Fin 128) (a : Fin 512) : EReal :=
  normed (fun a => hOut (bcol m c t h) (gcol m c t h) (M (ix3 h 0 0)) (qblk m c t h) (kblk m c t h) r (fun x => vblk m c t h x a)
    (fun d => C (ix3 h a d)) (fun d => N (ix3 h 0 d))) a (wblk m c t h a) (oblk m c t h r a)

def oAll (M : FVec Ideal S4x8x128 .f32) (C : FVec Ideal S4x512x256 .f32) (N : FVec Ideal S4x8x256 .f32) : FVec Ideal S128x2048 .bf16 := fun i =>
  oAt m c t M C N ⟨(i 1).val / 512, by have h : (i 1).val < 2048 := (i 1).isLt; omega⟩ (i 0) ⟨(i 1).val % 512, by omega⟩

theorem oAll_at (M : FVec Ideal S4x8x128 .f32) (C : FVec Ideal S4x512x256 .f32) (N : FVec Ideal S4x8x256 .f32) (h : Fin 4) (r : Fin 128) (a : Fin 512)
    (l : Fin 2048) (hl : l.val = 512 * h.val + a.val) : oAll m c t M C N (ix2 r l) = oAt m c t M C N h r a := by
  show oAt m c t M C N ⟨l.val / 512, _⟩ r ⟨l.val % 512, _⟩ = _
  congr 1
  · exact Fin.ext (by show l.val / 512 = h.val; omega)
  · exact Fin.ext (by show l.val % 512 = a.val; omega)

set_option maxHeartbeats 1600000 in
/-- The output window after a point. -/
theorem o_at (h : Fin 4) (r : Fin 128) (a : Fin 512) :
    (outsAt0 m c t.val t.isLt).1 (ix2 r ⟨512 * h.val + a.val, by omega⟩) = oAt m c t (before m c t).2.2 (before m c t).1 (before m c t).2.1 h r a := by
  refine Eq.trans ?_ (oAll_at m c t _ _ _ h r a ⟨512 * h.val + a.val, by omega⟩ rfl)
  by_cases hz : t.val % 64 = 0
  · rw [outsAt0_A m c t hz, before_A m c t hz]
    dsimp only
    frame_out
    simp (disch := decide) only [↓View.readCov_skip, View.readCov_fill]
    generalize k0_pay2 (F := Ideal) = C
    generalize k0_pay3 (F := Ideal) = N
    generalize k0_pay4 (F := Ideal) = M
    refine View.canon_append_of_piecesOf (Val := Elt Ideal) (e := .bf16) (oAll m c t M C N) [] [_, _, _, _] ⟨?_, ?_, ?_, ?_, trivial⟩ _ ?_
    · intro x
      idx_vars x
      refine ((o3 _ _ _ _ _).trans ?_).trans (((congrArg _ (cols_emb 1536 _ x0 x1)).trans (oAll_at m c t _ _ _ 3 x0 x1 ⟨1536 + x1.val, by omega⟩ rfl)).symm)
      exact normed_congr (fun a => (h3 _ _ _ _ _ _ _ _ _ _).trans (hOut_congr (slab_ld _ _ _ _ _) (funext fun r => funext fun d => cols_ld _ _ _ _ _)
        (funext fun r => funext fun d => cols_ld _ _ _ _ _) (funext fun x => cols_ld _ _ _ _ _) (funext fun d => slab_ld _ _ _ _ _)
        (funext fun d => slab_ld _ _ _ _ _))) (cols_ld _ _ _ _ _) (cols_ld _ _ _ _ _)
    · intro x
      idx_vars x
      refine ((o2 _ _ _ _ _).trans ?_).trans (((congrArg _ (cols_emb 1024 _ x0 x1)).trans (oAll_at m c t _ _ _ 2 x0 x1 ⟨1024 + x1.val, by omega⟩ rfl)).symm)
      exact normed_congr (fun a => (h2 _ _ _ _ _ _ _ _ _ _).trans (hOut_congr (slab_ld _ _ _ _ _) (funext fun r => funext fun d => cols_ld _ _ _ _ _)
        (funext fun r => funext fun d => cols_ld _ _ _ _ _) (funext fun x => cols_ld _ _ _ _ _) (funext fun d => slab_ld _ _ _ _ _)
        (funext fun d => slab_ld _ _ _ _ _))) (cols_ld _ _ _ _ _) (cols_ld _ _ _ _ _)
    · intro x
      idx_vars x
      refine ((o1 _ _ _ _ _).trans ?_).trans (((congrArg _ (cols_emb 512 _ x0 x1)).trans (oAll_at m c t _ _ _ 1 x0 x1 ⟨512 + x1.val, by omega⟩ rfl)).symm)
      exact normed_congr (fun a => (h1 _ _ _ _ _ _ _ _ _ _).trans (hOut_congr (slab_ld _ _ _ _ _) (funext fun r => funext fun d => cols_ld _ _ _ _ _)
        (funext fun r => funext fun d => cols_ld _ _ _ _ _) (funext fun x => cols_ld _ _ _ _ _) (funext fun d => slab_ld _ _ _ _ _)
        (funext fun d => slab_ld _ _ _ _ _))) (cols_ld _ _ _ _ _) (cols_ld _ _ _ _ _)
    · intro x
      idx_vars x
      refine ((o0 _ _ _ _ _).trans ?_).trans (((congrArg _ (cols_emb 0 _ x0 x1)).trans (oAll_at m c t _ _ _ 0 x0 x1 ⟨0 + x1.val, by omega⟩ rfl)).symm)
      exact normed_congr (fun a => (h0 _ _ _ _ _ _ _ _ _ _).trans (hOut_congr (slab_ld _ _ _ _ _) (funext fun r => funext fun d => cols_ld _ _ _ _ _)
        (funext fun r => funext fun d => cols_ld _ _ _ _ _) (funext fun x => cols_ld _ _ _ _ _) (funext fun d => slab_ld _ _ _ _ _)
        (funext fun d => slab_ld _ _ _ _ _))) (cols_ld _ _ _ _ _) (cols_ld _ _ _ _ _)
    · match h with
      | 0 => exact ⟨_, .tail _ (.tail _ (.tail _ (.head _))), cols_mem 0 inb_S128x2048_S128x512_0_0 r a⟩
      | 1 => exact ⟨_, .tail _ (.tail _ (.head _)), cols_mem 512 inb_S128x2048_S128x512_0_512 r a⟩
      | 2 => exact ⟨_, .tail _ (.head _), cols_mem 1024 inb_S128x2048_S128x512_0_1024 r a⟩
      | 3 => exact ⟨_, .head _, cols_mem 1536 inb_S128x2048_S128x512_0_1536 r a⟩
  · rw [outsAt0_B m c t hz, before_B m c t hz]
    dsimp only
    frame_out
    simp only [read_unread_whole]
    generalize outsAt0 m c (t.val - 1) _ = P
    refine View.canon_append_of_piecesOf (Val := Elt Ideal) (e := .bf16) (oAll m c t P.2.2.2 P.2.1 P.2.2.1) [] [_, _, _, _] ⟨?_, ?_, ?_, ?_, trivial⟩ _ ?_
    · intro x
      idx_vars x
      refine ((o3 _ _ _ _ _).trans ?_).trans (((congrArg _ (cols_emb 1536 _ x0 x1)).trans (oAll_at m c t _ _ _ 3 x0 x1 ⟨1536 + x1.val, by omega⟩ rfl)).symm)
      exact normed_congr (fun a => (h3 _ _ _ _ _ _ _ _ _ _).trans (hOut_congr (slab_ld _ _ _ _ _) (funext fun r => funext fun d => cols_ld _ _ _ _ _)
        (funext fun r => funext fun d => cols_ld _ _ _ _ _) (funext fun x => cols_ld _ _ _ _ _) (funext fun d => slab_ld _ _ _ _ _)
        (funext fun d => slab_ld _ _ _ _ _))) (cols_ld _ _ _ _ _) (cols_ld _ _ _ _ _)
    · intro x
      idx_vars x
      refine ((o2 _ _ _ _ _).trans ?_).trans (((congrArg _ (cols_emb 1024 _ x0 x1)).trans (oAll_at m c t _ _ _ 2 x0 x1 ⟨1024 + x1.val, by omega⟩ rfl)).symm)
      exact normed_congr (fun a => (h2 _ _ _ _ _ _ _ _ _ _).trans (hOut_congr (slab_ld _ _ _ _ _) (funext fun r => funext fun d => cols_ld _ _ _ _ _)
        (funext fun r => funext fun d => cols_ld _ _ _ _ _) (funext fun x => cols_ld _ _ _ _ _) (funext fun d => slab_ld _ _ _ _ _)
        (funext fun d => slab_ld _ _ _ _ _))) (cols_ld _ _ _ _ _) (cols_ld _ _ _ _ _)
    · intro x
      idx_vars x
      refine ((o1 _ _ _ _ _).trans ?_).trans (((congrArg _ (cols_emb 512 _ x0 x1)).trans (oAll_at m c t _ _ _ 1 x0 x1 ⟨512 + x1.val, by omega⟩ rfl)).symm)
      exact normed_congr (fun a => (h1 _ _ _ _ _ _ _ _ _ _).trans (hOut_congr (slab_ld _ _ _ _ _) (funext fun r => funext fun d => cols_ld _ _ _ _ _)
        (funext fun r => funext fun d => cols_ld _ _ _ _ _) (funext fun x => cols_ld _ _ _ _ _) (funext fun d => slab_ld _ _ _ _ _)
        (funext fun d => slab_ld _ _ _ _ _))) (cols_ld _ _ _ _ _) (cols_ld _ _ _ _ _)
    · intro x
      idx_vars x
      refine ((o0 _ _ _ _ _).trans ?_).trans (((congrArg _ (cols_emb 0 _ x0 x1)).trans (oAll_at m c t _ _ _ 0 x0 x1 ⟨0 + x1.val, by omega⟩ rfl)).symm)
      exact normed_congr (fun a => (h0 _ _ _ _ _ _ _ _ _ _).trans (hOut_congr (slab_ld _ _ _ _ _) (funext fun r => funext fun d => cols_ld _ _ _ _ _)
        (funext fun r => funext fun d => cols_ld _ _ _ _ _) (funext fun x => cols_ld _ _ _ _ _) (funext fun d => slab_ld _ _ _ _ _)
        (funext fun d => slab_ld _ _ _ _ _))) (cols_ld _ _ _ _ _) (cols_ld _ _ _ _ _)
    · match h with
      | 0 => exact ⟨_, .tail _ (.tail _ (.tail _ (.head _))), cols_mem 0 inb_S128x2048_S128x512_0_0 r a⟩
      | 1 => exact ⟨_, .tail _ (.tail _ (.head _)), cols_mem 512 inb_S128x2048_S128x512_0_512 r a⟩
      | 2 => exact ⟨_, .tail _ (.head _), cols_mem 1024 inb_S128x2048_S128x512_0_1024 r a⟩
      | 3 => exact ⟨_, .head _, cols_mem 1536 inb_S128x2048_S128x512_0_1536 r a⟩

end Cert.Mlstm.Ker

end
-- ==== Proof.KernelInputs.lean ====
/-
  What one grid point of the kernel reads: the queries, keys, values, gates, biases and weights of its rows, in the
  call's arguments, and the gates it computes from them.
-/
module

public import proofs.«01_k».proof.Proof.KernelChunk
public import Idealize.ShloMosaic.Lib.Claim
public import Idealize.ShloMosaic.Lib.Routing.OpsSet
public import Idealize.ShloMosaic.Lib.Tactic.CleanTypes

@[expose] public section

set_option maxRecDepth 16384

noncomputable section

namespace Cert.Mlstm.Ker

open Idealize.ShloMosaic Idealize.ShloMosaic.TcCoe Idealize.ShloMosaic.Tactic
open Cert.KernelIdeal Cert.KernelIdeal.Gen

variable (m : (ℓ : Loc nD τ sig) → Buf (Elt Ideal) ℓ) (c : Dev nD) (t : Fin cfg0.N)

/-- The call's arguments. -/
abbrev argX : FVec Ideal S32768x6144 .bf16 := m ((c : Thread nD τ).loc main_arg0)
abbrev argAux : FVec Ideal S32768x128 .f32 := m ((c : Thread nD τ).loc main_arg1)
abbrev argBias : FVec Ideal S8 .f32 := m ((c : Thread nD τ).loc main_arg2)
abbrev argNorm : FVec Ideal S2048 .f32 := m ((c : Thread nD τ).loc main_arg3)

theorem lt_256 : t.val < 256 := lt_of_lt_of_eq t.isLt (show cfg0.N = 256 from N_0)

/-- The row of the arguments that row `r` of point `t` reads. -/
def trow (r : Fin 128) : Fin 32768 := ⟨128 * t.val + r.val, by have := lt_256 t; omega⟩

/-- Where each window's block lies. -/
theorem idx_in : ∀ t : Fin cfg0.N, win0_0.index t (0 : Fin 2) = t.val ∧ win0_0.index t (1 : Fin 2) = 0
    ∧ win0_1.index t (0 : Fin 2) = t.val ∧ win0_1.index t (1 : Fin 2) = 1
    ∧ win0_2.index t (0 : Fin 2) = t.val ∧ win0_2.index t (1 : Fin 2) = 1
    ∧ win0_3.index t (0 : Fin 2) = t.val ∧ win0_3.index t (1 : Fin 2) = 2
    ∧ win0_4.index t (0 : Fin 2) = t.val ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

theorem q_read (h : Fin 4) (r : Fin 128) (d : Fin 256) : qblk m c t h r d = argX m c (ix2 (trow t r) (qcol h d)) := by
  obtain ⟨i0, i1, -⟩ := idx_in t
  unfold qblk trow qcol
  blk_ext! [iblk, V, i0, i1]

theorem k_read (h : Fin 4) (r : Fin 128) (d : Fin 256) : kblk m c t h r d = argX m c (ix2 (trow t r) (kcol h d)) := by
  obtain ⟨-, -, i0, i1, -⟩ := idx_in t
  unfold kblk trow kcol
  blk_ext! [iblk, V, i0, i1]

theorem v_read (h : Fin 4) (r : Fin 128) (a : Fin 512) : vblk m c t h r a = argX m c (ix2 (trow t r) (vcol h a)) := by
  obtain ⟨-, -, -, -, i0, i1, -⟩ := idx_in t
  unfold vblk trow vcol
  blk_ext! [iblk, V, i0, i1]

theorem o_read (h : Fin 4) (r : Fin 128) (a : Fin 512) :
    oblk m c t h r a = argX m c (ix2 (trow t r) ⟨4096 + (512 * h.val + a.val), by omega⟩) := by
  obtain ⟨-, -, -, -, -, -, i0, i1, -⟩ := idx_in t
  unfold oblk trow
  blk_ext! [iblk, V, i0, i1]

theorem aux_read (r l : Fin 128) : (iblk m c 4 t : FVec Ideal S128x128 .f32) (ix2 r l) = argAux m c (ix2 (trow t r) l) := by
  obtain ⟨-, -, -, -, -, -, -, -, i0, i1, -⟩ := idx_in t
  unfold trow
  blk_ext! [iblk, V, i0, i1]

theorem w_read (h : Fin 4) (a : Fin 512) : wblk m c t h a = argNorm m c (ix1 ⟨512 * h.val + a.val, by omega⟩) := by
  obtain ⟨-, -, -, -, -, -, -, -, -, -, -, -, i0, i1⟩ := idx_in t
  unfold wblk
  blk_ext! [iblk, V, i0, i1]

/-- The biases are written into the first eight lanes of a row of zeros. -/
theorem lane_lands : ∀ k : Fin 8, scatter_S1x128_S2_S8_0_0_01_0.resultIdx? (ix1 k) (fun _ => 0#32) = some (ix2 0 ⟨k.val, by omega⟩) := by
  decide +kernel

theorem start_zero : (concatenate S2 0 [⟨S1, broadcastInDim S1 ![] bcast_S_S1 (constantI S_ 32 0#32)⟩,
    ⟨S1, broadcastInDim S1 ![] bcast_S_S1 (constantI S_ 32 0#32)⟩] concatenates_S1_S1_S2_d0 : IVec S2 32) = fun _ => 0#32 := by
  funext i
  revert i
  decide +kernel

theorem bias_read (l : Fin 8) : (iblk m c 5 t : FVec Ideal S1x128 .f32) (ix2 0 ⟨l.val, by omega⟩) = argBias m c (ix1 l) := by
  obtain ⟨-, -, -, -, -, -, -, -, -, -, i0, i1, -⟩ := idx_in t
  have he : ((View.whole main_v4).slice (win0_5.rect t)).emb (ix2 0 ⟨l.val, by omega⟩) = (ix2 0 ⟨l.val, by omega⟩ : S1x128.Idx) := by
    funext a
    apply Fin.ext
    fin_cases a
    · show win0_5.index t (0 : Fin 2) * 1 + 1 * 0 = 0
      rw [i0]
    · show win0_5.index t (1 : Fin 2) * 128 + 1 * l.val = l.val
      rw [i1]
      omega
  blk_simp [iblk, V, i0, i1]
  entry_read
  rw [he, start_zero]
  refine Routing.scatter_set_hit _ _ _ _ _ _ (fun k hk => ?_) (ix1 l) (lane_lands l)
  idx_vars k
  have h := Option.some.inj ((lane_lands _).symm.trans hk)
  have h1 := congrArg (fun i : S1x128.Idx => (i 1).val) h
  have h2 : k0 = l := Fin.ext h1
  rw [h2]

theorem pay5 (x4 : FVec Ideal S128x128 .f32) (x5 : FVec Ideal S1x128 .f32) (r l : Fin 128) :
    k0_pay5 (F := Ideal) x4 x5 (ix2 r l) = capped (x4 (ix2 r l)) (x5 (ix2 0 l)) := by
  unfold_payloads
  pointwise
  rfl

/-- One at the rows up to `r`, zero after. -/
theorem tri (r x : Fin 128) : (FloatOps.sitofp (F := Ideal) .f32 (BitVec.setWidth 32 (mask r x)) : EReal) = if x ≤ r then 1 else 0 := by
  rw [mask_causal r x]
  split
  · show (((BitVec.setWidth 32 1#1).toInt : ℝ) : EReal) = 1
    norm_num
  · show (((BitVec.setWidth 32 0#1).toInt : ℝ) : EReal) = 0
    norm_num

/-- The log-sigmoid as the kernel writes it. -/
theorem logsig_ker (x : ℝ) : min (x : EReal) 0 - Ideal.log1p (Ideal.exp (0 - FloatOps.absf (F := Ideal) (φ := .f32) (x : EReal)))
    = ((logsig x : ℝ) : EReal) := by
  rw [zero_sub, absf_coe, ← EReal.coe_neg, log1p_exp, ← EReal.coe_zero, ← coe_min, ← EReal.coe_sub, logsig]

theorem lane_in (h : Fin 4) : IntOp.andi (IntOp.cmpi .sge (BitVec.ofNat 32 (4 + h.val)) 4#32) (IntOp.cmpi .slt (BitVec.ofNat 32 (4 + h.val)) 8#32) = 1#1 := by
  revert h
  decide

theorem pay7 (x4 : FVec Ideal S128x128 .f32) (x5 : FVec Ideal S1x128 .f32) (r : Fin 128) (h : Fin 4) (F : ℕ → ℝ)
    (hF : ∀ x : Fin 128, capped (x4 (ix2 x ⟨4 + h.val, by omega⟩)) (x5 (ix2 0 ⟨4 + h.val, by omega⟩)) = (F x.val : EReal)) :
    k0_pay7 (F := Ideal) x4 x5 (ix2 r ⟨4 + h.val, by omega⟩) = ((∑ i ∈ Finset.range (r.val + 1), logsig (F i) : ℝ) : EReal) := by
  unfold_payloads
  pointwise
  rw [← sum_upto r (fun i => logsig (F i)), coe_sum]
  refine Finset.sum_congr rfl fun x _ => ?_
  rw [lane_in]
  have e : ∀ y : EReal, y = capped (x4 (ix2 x ⟨4 + h.val, by omega⟩)) (x5 (ix2 0 ⟨4 + h.val, by omega⟩)) →
      (FloatOps.sitofp (F := Ideal) .f32 (BitVec.setWidth 32 (mask r x)) : EReal)
        * (min y 0 - Ideal.log1p (Ideal.exp (0 - FloatOps.absf (F := Ideal) (φ := .f32) y)))
      = if x ≤ r then ((logsig (F x.val) : ℝ) : EReal) else 0 := by
    intro y hy
    rw [hy, hF, logsig_ker, tri]
    split
    · rw [one_mul]
    · rw [zero_mul]
  refine (e _ rfl).trans ?_
  split <;> rfl

/-! ## The gates of a point, as the sequences' -/

/-- The batch of a point and the time of its first row. -/
def tb : Fin 4 := ⟨t.val / 64, by have := lt_256 t; omega⟩
def tT : ℕ := 128 * (t.val % 64)

/-- The sequences the arguments hold. -/
abbrev D : Data := seqs (argX m c) (argAux m c) (argBias m c)

theorem trow_eq (r : Fin 128) : trow t r = row (tb t) (tT t + r.val) :=
  eq_row (by unfold tT; omega) _ (by show 128 * t.val + r.val = t.val / 64 * 8192 + (tT t + r.val); unfold tT; omega)

theorem gate_at (x : Fin 128) (l : Fin 8) :
    capped ((iblk m c 4 t : FVec Ideal S128x128 .f32) (ix2 x ⟨l.val, by omega⟩)) ((iblk m c 5 t : FVec Ideal S1x128 .f32) (ix2 0 ⟨l.val, by omega⟩))
      = ((gate (argAux m c) (argBias m c) (row (tb t) (tT t + x.val)) l : ℝ) : EReal) := by
  rw [aux_read, bias_read, capped_coe, trow_eq]
  rfl

theorem gcol_at (h : Fin 4) (x : Fin 128) : gcol m c t h x = (((D m c).g (tb t) h (tT t + x.val) : ℝ) : EReal) :=
  (pay5 _ _ _ _).trans (gate_at m c t x (ilane h))

/-- The running sums of the log-sigmoids within the chunk. -/
def bs (h : Fin 4) (x : Fin 128) : ℝ := cum ((D m c).lf (tb t) h) (tT t + x.val + 1) - cum ((D m c).lf (tb t) h) (tT t)

theorem bcol_at (h : Fin 4) (x : Fin 128) : bcol m c t h x = (bs m c t h x : EReal) := by
  refine (pay7 _ _ x h (fun i => gate (argAux m c) (argBias m c) (row (tb t) (tT t + i)) (flane h)) (fun y => gate_at m c t y (flane h))).trans ?_
  congr 1
  have e := Finset.sum_range_add ((D m c).lf (tb t) h) (tT t) (x.val + 1)
  rw [bs, cum, cum, add_assoc, e, add_sub_cancel_left]
  rfl

end Cert.Mlstm.Ker

end
-- ==== Proof.Kernel.lean ====
/-
  The kernel computes the recurrence: after every grid point the carried memories are the sequences' memories kept up to a
  common factor, and the rows the point writes are the recurrence's result.
-/
module

public import proofs.«01_k».proof.Proof.KernelInputs
public import proofs.«01_k».proof.Proof.Gen.KernelIdeal.Value

@[expose] public section

set_option maxRecDepth 16384

noncomputable section

namespace Cert.Mlstm.Ker

open Idealize.ShloMosaic Idealize.ShloMosaic.TcCoe Idealize.ShloMosaic.Tactic
open Cert.KernelIdeal Cert.KernelIdeal.Gen

/-- What one head carries at time `T`: a stabilizer, and the memory and the normalizer kept up to its exponential. -/
def Carried (D : Data) (b h : Fin 4) (T : ℕ) (C : FVec Ideal S4x512x256 .f32) (N : FVec Ideal S4x8x256 .f32)
    (M : FVec Ideal S4x8x128 .f32) : Prop :=
  ∃ z : ℝ, M (ix3 h 0 0) = (z : EReal)
    ∧ (∀ d, N (ix3 h 0 d) = ((Real.exp (-z) * mem (D.lf b h) (D.g b h) (D.k b h) (fun _ => 1) T d : ℝ) : EReal))
    ∧ ∀ a d, C (ix3 h a d) = ((Real.exp (-z) * mem (D.lf b h) (D.g b h) (D.k b h) (D.v b h a) T d : ℝ) : EReal)

theorem sixteenth_word : Ideal.ofBits .f32 1031798784#32 = (((1 / 16 : ℝ)) : EReal) := sixteenth

variable (m : (ℓ : Loc nD τ sig) → Buf (Elt Ideal) ℓ) (c : Dev nD) (t : Fin cfg0.N)

section Point

variable (hx : Finite (argX m c))

theorem gcol_eq (h : Fin 4) : gcol m c t h = fun x => (((D m c).g (tb t) h (tT t + x.val) : ℝ) : EReal) := funext (gcol_at m c t h)
theorem bcol_eq (h : Fin 4) : bcol m c t h = fun x => (bs m c t h x : EReal) := funext (bcol_at m c t h)

include hx in
theorem q_at (h : Fin 4) (r : Fin 128) (d : Fin 256) : qblk m c t h r d = (((D m c).q (tb t) h (tT t + r.val) d : ℝ) : EReal) := by
  rw [q_read, trow_eq, hx.coe _ _ (by unfold qcol; dsimp only; omega)]
  rfl

include hx in
theorem k_at (h : Fin 4) (r : Fin 128) (d : Fin 256) : kblk m c t h r d = (((D m c).k (tb t) h (tT t + r.val) d : ℝ) : EReal) := by
  rw [k_read, trow_eq, hx.coe _ _ (by unfold kcol; dsimp only; omega)]
  rfl

include hx in
theorem v_at (h : Fin 4) (r : Fin 128) (a : Fin 512) : vblk m c t h r a = (((D m c).v (tb t) h a (tT t + r.val) : ℝ) : EReal) := by
  rw [v_read, trow_eq, hx.coe _ _ (by unfold vcol; dsimp only; omega)]
  rfl

include hx in
/-- A point carries the state over its chunk. -/
theorem carried_after (h : Fin 4) (hb : Carried (D m c) (tb t) h (tT t) (before m c t).1 (before m c t).2.1 (before m c t).2.2) :
    Carried (D m c) (tb t) h (tT t + 128) (outsAt0 m c t.val t.isLt).2.1 (outsAt0 m c t.val t.isLt).2.2.1 (outsAt0 m c t.val t.isLt).2.2.2 := by
  obtain ⟨z, hM, hN, hC⟩ := hb
  obtain ⟨z', hz'⟩ := newStab_real (bs m c t h) (fun x => (D m c).g (tb t) h (tT t + x.val)) z (bs m c t h 127)
  have hnew : mNew (bcol m c t h) (gcol m c t h) ((before m c t).2.2 (ix3 h 0 0)) = (z' : EReal) := by
    rw [mNew, hM, bcol_eq, gcol_eq]
    exact hz'
  have hbl : bs m c t h 127 = cum ((D m c).lf (tb t) h) (tT t + 128) - cum ((D m c).lf (tb t) h) (tT t) := rfl
  refine ⟨z', (m_at m c t h 0 0).trans hnew, fun d => (n_at m c t h 0 d).trans ?_, fun a d => (c_at m c t h a d).trans ?_⟩
  · rw [nAt, nNew, hnew, hN, hM, bcol_eq, gcol_eq]
    simp only [k_at m c t hx]
    rw [← mem_lift ((D m c).lf (tb t) h) ((D m c).g (tb t) h) ((D m c).k (tb t) h) (fun _ => 1) (tT t) z _ (fun _ => rfl) (bs m c t h)
      (fun _ => rfl) z' _ hbl d (fun _ => 1) (fun s : Fin 128 => ((D m c).k (tb t) h (tT t + s.val) d : EReal)) _ (fun _ => by simp)
      (fun _ => rfl) rfl]
    refine congrArg (fun w : EReal => _ + w) (Finset.sum_congr rfl fun s _ => ?_)
    rw [one_mul, mul_comm]
  · rw [cAt, cNew, hnew, hC, hM, bcol_eq, gcol_eq]
    simp only [k_at m c t hx, v_at m c t hx]
    exact mem_lift ((D m c).lf (tb t) h) ((D m c).g (tb t) h) ((D m c).k (tb t) h) ((D m c).v (tb t) h a) (tT t) z _ (fun _ => rfl) (bs m c t h)
      (fun _ => rfl) z' _ hbl d (fun s : Fin 128 => ((D m c).v (tb t) h a (tT t + s.val) : EReal))
      (fun s : Fin 128 => ((D m c).k (tb t) h (tT t + s.val) d : EReal)) _ (fun _ => rfl) (fun _ => rfl) rfl

include hx in
/-- A point writes the recurrence's outputs, before the norm. -/
theorem out_after (h : Fin 4) (hb : Carried (D m c) (tb t) h (tT t) (before m c t).1 (before m c t).2.1 (before m c t).2.2) (r : Fin 128) (a : Fin 512) :
    hOut (bcol m c t h) (gcol m c t h) ((before m c t).2.2 (ix3 h 0 0)) (qblk m c t h) (kblk m c t h) r (fun x => vblk m c t h x a)
        (fun d => (before m c t).1 (ix3 h a d)) (fun d => (before m c t).2.1 (ix3 h 0 d))
      = (((D m c).out (tb t) h (tT t + r.val) a : ℝ) : EReal) := by
  obtain ⟨z, hM, hN, hC⟩ := hb
  obtain ⟨mt, hmt⟩ := stab_real mask_causal (bs m c t h) (fun x => (D m c).g (tb t) h (tT t + x.val)) z r
  rw [hOut, num, den, hM, bcol_eq, gcol_eq, hmt]
  simp only [v_at m c t hx, hC, hN]
  have hsc : ∀ x : Fin 128, sc (qblk m c t h) (kblk m c t h) r x
      = ((score ((D m c).q (tb t) h) ((D m c).k (tb t) h) (tT t + r.val) (tT t + x.val) : ℝ) : EReal) := by
    intro x
    unfold sc
    simp only [q_at m c t hx, k_at m c t hx]
    rw [sixteenth_word]
    simp only [← EReal.coe_mul, ← coe_sum]
    rfl
  have hI : ∀ (N : Fin 256 → ℝ), (∑ x, qblk m c t h r x * (N x : EReal)) * Ideal.ofBits .f32 1031798784#32
      = (((∑ d, (D m c).q (tb t) h (tT t + r.val) d * N d) * (1 / 16) : ℝ) : EReal) := by
    intro N
    simp only [q_at m c t hx]
    rw [sixteenth_word]
    simp only [← EReal.coe_mul, ← coe_sum]
  rw [hI, hI, reading_lift mask_causal ((D m c).lf (tb t) h) ((D m c).g (tb t) h) ((D m c).q (tb t) h) ((D m c).k (tb t) h) ((D m c).v (tb t) h a) (tT t) z
      _ (fun _ => rfl) (bs m c t h) (fun _ => rfl) r mt (sc (qblk m c t h) (kblk m c t h) r)
      (fun s : Fin 128 => ((D m c).v (tb t) h a (tT t + s.val) : EReal)) _ hsc (fun _ => rfl) rfl,
    normalizer_lift mask_causal ((D m c).lf (tb t) h) ((D m c).g (tb t) h) ((D m c).q (tb t) h) ((D m c).k (tb t) h) (tT t) z (bs m c t h)
      (fun _ => rfl) _ (fun _ => rfl) r mt (sc (qblk m c t h) (kblk m c t h) r) _ hsc rfl]
  exact output_mul _ _ _ _ _ _ _

end Point

/-! ## The points in order -/

theorem zeros_C (h : Fin 4) (a : Fin 512) (d : Fin 256) : k0_pay2 (F := Ideal) (ix3 h a d) = 0 := by
  unfold_payloads
  pointwise

theorem zeros_N (h : Fin 4) (d : Fin 256) : k0_pay3 (F := Ideal) (ix3 h 0 d) = 0 := by
  unfold_payloads
  pointwise

theorem zeros_M (h : Fin 4) : k0_pay4 (F := Ideal) (ix3 h 0 0) = 0 := by
  unfold_payloads
  pointwise

theorem carried_zero (D : Data) (b h : Fin 4) : Carried D b h 0 (k0_pay2 (F := Ideal)) (k0_pay3 (F := Ideal)) (k0_pay4 (F := Ideal)) :=
  ⟨0, zeros_M h, fun d => by rw [zeros_N, mem_zero, mul_zero, EReal.coe_zero], fun a d => by rw [zeros_C, mem_zero, mul_zero, EReal.coe_zero]⟩

theorem carried_before (hx : Finite (argX m c)) (h : Fin 4) : ∀ (n : ℕ) (hn : n < cfg0.N),
    Carried (D m c) (tb ⟨n, hn⟩) h (tT ⟨n, hn⟩) (before m c ⟨n, hn⟩).1 (before m c ⟨n, hn⟩).2.1 (before m c ⟨n, hn⟩).2.2 := by
  intro n
  induction n with
  | zero =>
    intro hn
    rw [before_A m c ⟨0, hn⟩ rfl]
    exact carried_zero _ _ _
  | succ n ih =>
    intro hn
    have hT : tT ⟨n + 1, hn⟩ = 128 * ((n + 1) % 64) := rfl
    by_cases hz : (n + 1) % 64 = 0
    · rw [before_A m c ⟨n + 1, hn⟩ hz, hT, hz]
      exact carried_zero _ _ _
    · rw [before_B m c ⟨n + 1, hn⟩ hz]
      have hn' : n < cfg0.N := by omega
      have hb : tb ⟨n + 1, hn⟩ = tb ⟨n, hn'⟩ := Fin.ext (by show (n + 1) / 64 = n / 64; omega)
      have hT' : tT ⟨n + 1, hn⟩ = tT ⟨n, hn'⟩ + 128 := by show 128 * ((n + 1) % 64) = 128 * (n % 64) + 128; omega
      rw [hb, hT']
      exact carried_after m c ⟨n, hn'⟩ hx h (ih hn')

/-- A point's rows hold the recurrence's result. -/
theorem point_at (hx : Finite (argX m c)) (r : Fin 128) (l : Fin 2048) :
    (outsAt0 m c t.val t.isLt).1 (ix2 r l) = result (argX m c) (argAux m c) (argBias m c) (argNorm m c) (trow t r) l := by
  have key : ∀ (h : Fin 4) (a : Fin 512) (hl : 512 * h.val + a.val < 2048),
      (outsAt0 m c t.val t.isLt).1 (ix2 r ⟨512 * h.val + a.val, hl⟩)
        = normed (fun a => (((D m c).out (tb t) h (tT t + r.val) a : ℝ) : EReal)) a (argNorm m c (ix1 ⟨512 * h.val + a.val, hl⟩))
            (argX m c (ix2 (trow t r) ⟨4096 + (512 * h.val + a.val), by omega⟩)) := by
    intro h a hl
    refine (o_at m c t h r a).trans ?_
    unfold oAt
    rw [w_read, o_read]
    simp only [out_after m c t hx h (carried_before m c hx h t.val t.isLt)]
  have hl : l = ⟨512 * (l.val / 512) + l.val % 512, by omega⟩ := Fin.ext (by show l.val = 512 * (l.val / 512) + l.val % 512; omega)
  have hr : (trow t r).val = 128 * t.val + r.val := rfl
  have e := key ⟨l.val / 512, by omega⟩ ⟨l.val % 512, by omega⟩ (by dsimp only; omega)
  have e1 : (⟨512 * (l.val / 512) + l.val % 512, by omega⟩ : Fin 2048) = l := hl.symm
  have e2 : (⟨4096 + (512 * (l.val / 512) + l.val % 512), by omega⟩ : Fin 6144) = ⟨4096 + l.val, by omega⟩ := Fin.ext (by dsimp only; omega)
  have e3 : tb t = ⟨(trow t r).val / 8192, by omega⟩ := Fin.ext (by show t.val / 64 = (128 * t.val + r.val) / 8192; omega)
  have e4 : tT t + r.val = (trow t r).val % 8192 := by show 128 * (t.val % 64) + r.val = (128 * t.val + r.val) % 8192; omega
  dsimp only at e
  rw [e1, e2, e3, e4] at e
  exact e

/-- The kernel's result. -/
theorem result_at (hx : Finite (argX m c)) (r : Fin 32768) (l : Fin 2048) :
    (Value.G7 m c : FVec Ideal S32768x2048 .bf16) (ix2 r l) = result (argX m c) (argAux m c) (argBias m c) (argNorm m c) r l := by
  have hp : Value.pt7Of (ix2 r l) = r.val / 128 := by
    show 1 * (r.val / 128 - 0) + 1 * (l.val / 2048 - 0) = r.val / 128
    omega
  have hlt : r.val / 128 < cfg0.N := by show r.val / 128 < 256; omega
  have hloc : Value.loc7Of (ix2 r l) = ix2 ⟨r.val % 128, by omega⟩ l := by
    funext a
    apply Fin.ext
    fin_cases a
    · rfl
    · show l.val % 2048 = l.val
      omega
  have hrow : trow ⟨r.val / 128, hlt⟩ ⟨r.val % 128, by omega⟩ = r := Fin.ext (by show 128 * (r.val / 128) + r.val % 128 = r.val; omega)
  have key := point_at m c ⟨r.val / 128, hlt⟩ hx ⟨r.val % 128, by omega⟩ l
  rw [hrow] at key
  refine Eq.trans ?_ key
  unfold Value.G7
  have hp' : Value.pt7Of (ix2 r l) < cfg0.N := by rw [hp]; exact hlt
  rw [dif_pos hp', hloc, ← Value.outsAt0_sweep m c _ hp']
  simp only [hp]

end Cert.Mlstm.Ker

end
-- ==== Proof.ReferenceStep.lean ====
/-
  One trip of the reference's loop over the extended reals. If its state holds what the recurrence over the reals has
  after `n` chunks of 64 positions (`Inv`), then after the trip it holds what the recurrence has after `n + 1`.
-/
module

public import proofs.«01_k».proof.Proof.Step
public import proofs.«01_k».proof.Proof.Gen.ReferenceIdeal.Run
public import Idealize.ShloMosaic.Lib.DynamicIndex
public import Idealize.ShloMosaic.Lib.WordCmp
public import Idealize.ShloMosaic.Lib.Claim
public import Idealize.ShloMosaic.Lib.Tactic.CleanTypes

@[expose] public section

set_option maxRecDepth 16384

noncomputable section

namespace Cert.Mlstm.Ref

open Idealize.ShloMosaic Idealize.ShloMosaic.TcCoe Idealize.ShloMosaic.Tactic
open Cert.ReferenceIdeal Cert.ReferenceIdeal.Gen Cert.ReferenceIdeal.Value

/-! ## Slices and running sums at an index -/

theorem upd_at (x : S128x4x64x4x512.Idx → EReal) (u : S1x4x64x4x512.Idx → EReal) (n : ℕ)
    (hk : S128x4x64x4x512.Slices ![n, 0, 0, 0, 0] S1x4x64x4x512) (c : Fin 128) (b : Fin 4) (j : Fin 64) (h : Fin 4) (a : Fin 512) :
    updateSlice x u ![n, 0, 0, 0, 0] hk (ix5 c b j h a) = if c.val = n then u (ix5 0 b j h a) else x (ix5 c b j h a) := by
  unfold updateSlice
  by_cases hc : c.val = n
  · rw [if_pos hc, dif_pos]
    · congr 1
      funext e
      fin_cases e <;> simp [ix5, hc]
    · intro e
      fin_cases e <;> simp [ix5, hc]
  · rw [if_neg hc, dif_neg]
    intro hin
    have h0 := hin 0
    simp [ix5] at h0
    omega

theorem window_sum (F : ℕ → ℝ) (j : ℕ) (hj : j < 64) :
    ∑ n : Fin 64, (if 63 ≤ j + n.val then F (j + n.val - 63) else 0) = ∑ i ∈ Finset.range (j + 1), F i := by
  rw [Fin.sum_univ_eq_sum_range (fun n => if 63 ≤ j + n then F (j + n - 63) else 0) 64,
    show 64 = (63 - j) + (j + 1) by omega, Finset.sum_range_add, Finset.sum_eq_zero, zero_add]
  · refine Finset.sum_congr rfl fun i _ => ?_
    rw [if_pos (by omega)]
    congr 1
    omega
  · intro i hi
    rw [if_neg]
    have := Finset.mem_range.mp hi
    omega

theorem foldl_sum {ι : Type} (l : List ι) (f : ι → EReal) (a : EReal) :
    l.foldl (fun r n => r + f n) a = a + (l.map f).sum := by
  induction l generalizing a with
  | nil => simp
  | cons x l ih => rw [List.foldl_cons, ih, List.map_cons, List.sum_cons, add_assoc]

/-- The windows of the running sum are indexed by their middle coordinate. -/
def windowIdx : (⟨3, ![1, 64, 1]⟩ : Shape).Idx ≃ Fin 64 where
  toFun i := i 1
  invFun n := ix3 0 n 0
  left_inv i := by
    funext e
    fin_cases e
    · exact Subsingleton.elim (0 : Fin 1) (i 0)
    · rfl
    · exact Subsingleton.elim (0 : Fin 1) (i 2)
  right_inv _ := rfl

theorem cumsum_at (x : FVec Ideal S4x64x4 .f32) (init : FVec Ideal S_ .f32) (hi : ∀ i, init i = 0)
    (hw : S4x64x4.ReduceWindows ![1, 64, 1] ![1, 1, 1] ![0, 63, 0] ![0, 0, 0] S4x64x4) (hu : 0 < S_.numel)
    (b : Fin 4) (j : Fin 64) (h : Fin 4) (F : ℕ → ℝ) (hF : ∀ s : Fin 64, x (ix3 b s h) = (F s.val : EReal)) :
    Host.reduceWindowAdd ![1, 64, 1] ![1, 1, 1] ![0, 63, 0] ![0, 0, 0] x init hw hu (ix3 b j h)
      = ((∑ i ∈ Finset.range (j.val + 1), F i : ℝ) : EReal) := by
  rw [← window_sum F j.val j.isLt, coe_sum]
  unfold Host.reduceWindowAdd
  simp only [FloatOps.hostReduceWindowAdd, Ideal.hostReduceWindowAdd, Host.reduceWindow]
  rw [foldl_sum, ← Fin.sum_univ_def, hi, zero_add]
  refine Fintype.sum_equiv ((⟨3, ![1, 64, 1]⟩ : Shape).rowMajor.symm.trans windowIdx) _ _ fun n => ?_
  obtain ⟨w, rfl⟩ := (⟨3, ![1, 64, 1]⟩ : Shape).rowMajor.surjective n
  obtain ⟨t, rfl⟩ := windowIdx.symm.surjective w
  have hs : windowIdx.symm t = ix3 0 t 0 := rfl
  have hs' : windowIdx (ix3 0 t 0) = t := rfl
  simp only [Equiv.symm_apply_apply, Equiv.trans_apply, Equiv.apply_symm_apply, hs, hs']
  by_cases ht : 63 ≤ j.val + t.val
  · rw [if_pos ht, dif_pos]
    · rw [← hF ⟨j.val + t.val - 63, by omega⟩]
      congr 1
      funext e
      fin_cases e <;> simp [ix3]
    · intro e
      fin_cases e <;> simp [ix3] <;> omega
  · rw [if_neg ht, dif_neg]
    · simp
    · intro hin
      have h1 := hin 1
      simp [ix3] at h1
      omega

/-! ## The state -/

/-- The loop's state after `n` chunks. The stabilizer of each head is some real number. -/
structure Inv (D : Data) (n : ℕ) (V0 : Valuation τ sig (Elt Ideal)) : Prop where
  ctr : (V0 (Proc.devRef .tc main_v42_6) : IVec S_ 32) = fun _ => BitVec.ofNat 32 n
  q : ∀ c b j h d, (V0 (Proc.devRef .tc main_v42_0) : FVec Ideal S128x4x64x4x256 .f32) (ix5 c b j h d)
    = ((D.q b h (64 * c.val + j.val) d * (1 / 16) : ℝ) : EReal)
  k : ∀ c b j h d, (V0 (Proc.devRef .tc main_v42_1) : FVec Ideal S128x4x64x4x256 .f32) (ix5 c b j h d)
    = (D.k b h (64 * c.val + j.val) d : EReal)
  v : ∀ c b j h a, (V0 (Proc.devRef .tc main_v42_2) : FVec Ideal S128x4x64x4x512 .f32) (ix5 c b j h a)
    = (D.v b h a (64 * c.val + j.val) : EReal)
  g : ∀ c b j h, (V0 (Proc.devRef .tc main_v42_3) : FVec Ideal S128x4x64x4 .f32) (ix4 c b j h)
    = (D.g b h (64 * c.val + j.val) : EReal)
  lf : ∀ c b j h, (V0 (Proc.devRef .tc main_v42_4) : FVec Ideal S128x4x64x4 .f32) (ix4 c b j h)
    = (D.lf b h (64 * c.val + j.val) : EReal)
  mask : Causal fun j s : Fin 64 => (V0 (Proc.devRef .tc main_v42_5) : IVec S64x64 1) (ix2 j s)
  state : ∀ b h, ∃ m : ℝ, (V0 (Proc.devRef .tc main_v42_9) : FVec Ideal S4x4 .f32) (ix2 b h) = (m : EReal)
    ∧ (∀ d, (V0 (Proc.devRef .tc main_v42_8) : FVec Ideal S4x4x256 .f32) (ix3 b h d)
      = ((Real.exp (-m) * mem (D.lf b h) (D.g b h) (D.k b h) (fun _ => 1) (64 * n) d : ℝ) : EReal))
    ∧ ∀ a d, (V0 (Proc.devRef .tc main_v42_7) : FVec Ideal S4x4x512x256 .f32) (ix4 b h a d)
      = ((Real.exp (-m) * mem (D.lf b h) (D.g b h) (D.k b h) (D.v b h a) (64 * n) d : ℝ) : EReal)
  out : ∀ c b j h a, c.val < n → (V0 (Proc.devRef .tc main_v42_10) : FVec Ideal S128x4x64x4x512 .f32) (ix5 c b j h a)
    = (D.out b h (64 * c.val + j.val) a : EReal)

section Trip

variable {D : Data} {n : ℕ} {V0 : Valuation τ sig (Elt Ideal)} (hn : n < 128) (I : Inv D n V0)

include hn in
theorem word_toInt : (BitVec.ofNat 32 n).toInt = (n : Int) := by
  rw [BitVec.toInt_ofNat']
  simp [Int.bmod]
  omega

include hn in
theorem slices5 (K : ℕ) : (⟨5, ![128, 4, 64, 4, K]⟩ : Shape).Slices ![n, 0, 0, 0, 0] ⟨5, ![1, 4, 64, 4, K]⟩ := by
  refine ⟨rfl, fun a => ?_⟩
  fin_cases a <;> simp
  omega

include hn in
theorem slices4 : S128x4x64x4.Slices ![n, 0, 0, 0] S1x4x64x4 := by
  refine ⟨rfl, fun a => ?_⟩
  fin_cases a <;> simp
  omega

include hn I in
theorem start5 (a : Fin 5) : ((![V0 (Proc.devRef .tc main_v42_6), constantI S_ 32 0#32, constantI S_ 32 0#32,
      constantI S_ 32 0#32, constantI S_ 32 0#32] : Fin 5 → IVec S_ 32) a (Shape.Idx.first h_S_)).toInt
    = ((![n, 0, 0, 0, 0] : Fin 5 → ℕ) a : Int) := by
  have hc : (V0 (Proc.devRef .tc main_v42_6) : IVec S_ 32) (Shape.Idx.first h_S_) = BitVec.ofNat 32 n := by rw [I.ctr]
  fin_cases a
  · exact (congrArg BitVec.toInt hc).trans (word_toInt hn)
  all_goals rfl

include hn I in
theorem start4 (a : Fin 4) : ((![V0 (Proc.devRef .tc main_v42_6), constantI S_ 32 0#32, constantI S_ 32 0#32,
      constantI S_ 32 0#32] : Fin 4 → IVec S_ 32) a (Shape.Idx.first h_S_)).toInt = ((![n, 0, 0, 0] : Fin 4 → ℕ) a : Int) := by
  have hc : (V0 (Proc.devRef .tc main_v42_6) : IVec S_ 32) (Shape.Idx.first h_S_) = BitVec.ofNat 32 n := by rw [I.ctr]
  fin_cases a
  · exact (congrArg BitVec.toInt hc).trans (word_toInt hn)
  all_goals rfl

/-! ## The chunk's slices -/

include hn I in
theorem v72_at (b j h d) : (res_main_while0b_v72 (F := Ideal) V0 : FVec Ideal S4x64x4x256 .f32) (ix4 b j h d)
    = ((D.q b h (64 * n + j.val) d * (1 / 16) : ℝ) : EReal) := by
  unfold res_main_while0b_v72
  clean_types
  rw [Host.dynamicSlice_eq_extractStridedSlice _ _ _ ![n, 0, 0, 0, 0] _ (slices5 hn 256) (start5 hn I)]
  pointwise
  refine Eq.trans ?_ (I.q ⟨n, hn⟩ b j h d)
  congr 1

include hn I in
theorem v73_at (b j h d) : (res_main_while0b_v73 (F := Ideal) V0 : FVec Ideal S4x64x4x256 .f32) (ix4 b j h d)
    = (D.k b h (64 * n + j.val) d : EReal) := by
  unfold res_main_while0b_v73
  clean_types
  rw [Host.dynamicSlice_eq_extractStridedSlice _ _ _ ![n, 0, 0, 0, 0] _ (slices5 hn 256) (start5 hn I)]
  pointwise
  refine Eq.trans ?_ (I.k ⟨n, hn⟩ b j h d)
  congr 1

include hn I in
theorem v74_at (b j h a) : (res_main_while0b_v74 (F := Ideal) V0 : FVec Ideal S4x64x4x512 .f32) (ix4 b j h a)
    = (D.v b h a (64 * n + j.val) : EReal) := by
  unfold res_main_while0b_v74
  clean_types
  rw [Host.dynamicSlice_eq_extractStridedSlice _ _ _ ![n, 0, 0, 0, 0] _ (slices5 hn 512) (start5 hn I)]
  pointwise
  refine Eq.trans ?_ (I.v ⟨n, hn⟩ b j h a)
  congr 1

include hn I in
theorem v75_at (b j h) : (res_main_while0b_v75 (F := Ideal) V0 : FVec Ideal S4x64x4 .f32) (ix3 b j h)
    = (D.g b h (64 * n + j.val) : EReal) := by
  unfold res_main_while0b_v75
  clean_types
  rw [Host.dynamicSlice_eq_extractStridedSlice _ _ _ ![n, 0, 0, 0] _ (slices4 hn) (start4 hn I)]
  pointwise
  refine Eq.trans ?_ (I.g ⟨n, hn⟩ b j h)
  congr 1

/-- The running sum of the chunk's log forget gates up to and with position `j`. -/
def bsum (D : Data) (n : ℕ) (b h : Fin 4) (j : Fin 64) : ℝ := cum (D.lf b h) (64 * n + j.val + 1) - cum (D.lf b h) (64 * n)

include hn I in
theorem v77_at (b j h) : (res_main_while0b_v77 (F := Ideal) V0 : FVec Ideal S4x64x4 .f32) (ix3 b j h)
    = (bsum D n b h j : EReal) := by
  have hb : bsum D n b h j = ∑ i ∈ Finset.range (j.val + 1), D.lf b h (64 * n + i) := by
    rw [bsum, cum, cum, add_assoc, Finset.sum_range_add, add_sub_cancel_left]
  rw [hb]
  unfold res_main_while0b_v77
  clean_types
  rw [Host.dynamicSlice_eq_extractStridedSlice _ _ _ ![n, 0, 0, 0] _ (slices4 hn) (start4 hn I)]
  refine cumsum_at _ _ (fun i => ?_) _ _ b j h (fun i => D.lf b h (64 * n + i)) fun s => ?_
  · pointwise
  · pointwise
    refine Eq.trans ?_ (I.lf ⟨n, hn⟩ b s h)
    congr 1

/-! ## The weights and the stabilizers -/

/-- The mask the loop carries. -/
abbrev maskOf (V0 : Valuation τ sig (Elt Ideal)) (j s : Fin 64) : BitVec 1 := (V0 (Proc.devRef .tc main_v42_5) : IVec S64x64 1) (ix2 j s)

include hn I in
theorem v87_at (b j s h) : (res_main_while0b_v87 (F := Ideal) V0 : FVec Ideal S4x64x64x4 .f32) (ix4 b j s h)
    = logD (maskOf V0) (fun s => (bsum D n b h s : EReal)) (fun s => (D.g b h (64 * n + s.val) : EReal)) j s := by
  unfold res_main_while0b_v87
  clean_types
  pointwise
  rw [v77_at hn I, v77_at hn I, v75_at hn I]
  rfl

include hn I in
theorem v90_at (b j h) (m : ℝ) (hm : (V0 (Proc.devRef .tc main_v42_9) : FVec Ideal S4x4 .f32) (ix2 b h) = (m : EReal)) :
    (res_main_while0b_v90 (F := Ideal) V0 : FVec Ideal S4x64x4 .f32) (ix3 b j h) = (bsum D n b h j : EReal) + (m : EReal) := by
  unfold res_main_while0b_v90
  clean_types
  pointwise
  rw [v77_at hn I, hm]

include hn I in
theorem v92_at (b j h) (m : ℝ) (hm : (V0 (Proc.devRef .tc main_v42_9) : FVec Ideal S4x4 .f32) (ix2 b h) = (m : EReal)) :
    (res_main_while0b_v92 (F := Ideal) V0 : FVec Ideal S4x64x4 .f32) (ix3 b j h)
      = stab (maskOf V0) (fun s => (bsum D n b h s : EReal)) (fun s => (D.g b h (64 * n + s.val) : EReal)) (m : EReal) j := by
  unfold res_main_while0b_v92
  clean_types
  pointwise
  simp only [v87_at hn I, v90_at hn I b j h m hm]
  rfl

include hn I in
theorem v123_at (b h) : (res_main_while0b_v123 (F := Ideal) V0 : FVec Ideal S4x4 .f32) (ix2 b h) = (bsum D n b h 63 : EReal) := by
  unfold res_main_while0b_v123
  clean_types
  pointwise
  rw [v77_at hn I]

include hn I in
theorem v127_at (b j h) : (res_main_while0b_v127 (F := Ideal) V0 : FVec Ideal S4x64x4 .f32) (ix3 b j h)
    = (bsum D n b h 63 : EReal) - (bsum D n b h j : EReal) + (D.g b h (64 * n + j.val) : EReal) := by
  unfold res_main_while0b_v127
  clean_types
  pointwise
  rw [v77_at hn I, v123_at hn I, v75_at hn I]

include hn I in
theorem v130_at (b h) (m : ℝ) (hm : (V0 (Proc.devRef .tc main_v42_9) : FVec Ideal S4x4 .f32) (ix2 b h) = (m : EReal)) :
    (res_main_while0b_v130 (F := Ideal) V0 : FVec Ideal S4x4 .f32) (ix2 b h)
      = newStab (fun s => (bsum D n b h s : EReal)) (fun s => (D.g b h (64 * n + s.val) : EReal)) (m : EReal) (bsum D n b h 63 : EReal) := by
  unfold res_main_while0b_v130
  clean_types
  pointwise
  simp only [v123_at hn I, v127_at hn I, hm]
  rfl

include hn I in
theorem v99_at (b j s h) (mt : ℝ) (ht : (res_main_while0b_v92 (F := Ideal) V0 : FVec Ideal S4x64x4 .f32) (ix3 b j h) = (mt : EReal)) :
    (res_main_while0b_v99 (F := Ideal) V0 : FVec Ideal S4x64x64x4 .f32) (ix4 b j s h)
      = ((score (D.q b h) (D.k b h) (64 * n + j.val) (64 * n + s.val) : ℝ) : EReal)
        * Ideal.exp (logD (maskOf V0) (fun s => (bsum D n b h s : EReal)) (fun s => (D.g b h (64 * n + s.val) : EReal)) j s - (mt : EReal)) := by
  unfold res_main_while0b_v99
  clean_types
  pointwise
  simp only [v73_at hn I, v72_at hn I, v87_at hn I, ht, ← EReal.coe_mul, ← coe_sum]
  refine congrArg (fun r : ℝ => (r : EReal) * _) ?_
  rw [score, Finset.sum_mul]
  exact Finset.sum_congr rfl fun d _ => by ring

/-! ## The trip -/

include hn I in
theorem next_state (b h) : ∃ m : ℝ, (step_main_v42_9 (F := Ideal) V0 : FVec Ideal S4x4 .f32) (ix2 b h) = (m : EReal)
    ∧ (∀ d, (step_main_v42_8 (F := Ideal) V0 : FVec Ideal S4x4x256 .f32) (ix3 b h d)
      = ((Real.exp (-m) * mem (D.lf b h) (D.g b h) (D.k b h) (fun _ => 1) (64 * n + 64) d : ℝ) : EReal))
    ∧ ∀ a d, (step_main_v42_7 (F := Ideal) V0 : FVec Ideal S4x4x512x256 .f32) (ix4 b h a d)
      = ((Real.exp (-m) * mem (D.lf b h) (D.g b h) (D.k b h) (D.v b h a) (64 * n + 64) d : ℝ) : EReal) := by
  obtain ⟨m, hm, hN, hC⟩ := I.state b h
  obtain ⟨m', hm'⟩ := newStab_real (bsum D n b h) (fun s => D.g b h (64 * n + s.val)) m (bsum D n b h 63)
  have h9 := (v130_at hn I b h m hm).trans hm'
  have h137 : (res_main_while0b_v137 (F := Ideal) V0 : FVec Ideal S4x4 .f32) (ix2 b h)
      = Ideal.exp ((bsum D n b h 63 : EReal) + (m : EReal) - (m' : EReal)) := by
    unfold res_main_while0b_v137
    clean_types
    pointwise
    rw [v123_at hn I, h9, hm]
  have h134 : ∀ s, (res_main_while0b_v134 (F := Ideal) V0 : FVec Ideal S4x64x4 .f32) (ix3 b s h)
      = Ideal.exp ((bsum D n b h 63 : EReal) - (bsum D n b h s : EReal) + (D.g b h (64 * n + s.val) : EReal) - (m' : EReal)) := by
    intro s
    unfold res_main_while0b_v134
    clean_types
    pointwise
    rw [v127_at hn I, h9]
  have hbl : bsum D n b h 63 = cum (D.lf b h) (64 * n + 64) - cum (D.lf b h) (64 * n) := rfl
  refine ⟨m', ?_, fun d => ?_, fun a d => ?_⟩
  · unfold step_main_v42_9
    exact h9
  · unfold step_main_v42_8
    dsimp only [id]
    clean_types
    pointwise
    simp only [h137, h134, v73_at hn I, hN]
    rw [← mem_lift (D.lf b h) (D.g b h) (D.k b h) (fun _ => 1) (64 * n) m _ (fun _ => rfl) (bsum D n b h) (fun _ => rfl)
      m' _ hbl d (fun _ => 1) (fun s : Fin 64 => (D.k b h (64 * n + s.val) d : EReal)) _ (fun _ => by simp) (fun _ => rfl) rfl]
    simp only [one_mul]
  · unfold step_main_v42_7
    dsimp only [id]
    clean_types
    pointwise
    simp only [h137, h134, v73_at hn I, v74_at hn I, hC]
    rw [← mem_lift (D.lf b h) (D.g b h) (D.k b h) (D.v b h a) (64 * n) m _ (fun _ => rfl) (bsum D n b h) (fun _ => rfl)
      m' _ hbl d (fun s : Fin 64 => (D.v b h a (64 * n + s.val) : EReal)) (fun s : Fin 64 => (D.k b h (64 * n + s.val) d : EReal)) _
      (fun _ => rfl) (fun _ => rfl) rfl]

include hn I in
theorem next_out (c b j h a) (hc : c.val < n + 1) :
    (step_main_v42_10 (F := Ideal) V0 : FVec Ideal S128x4x64x4x512 .f32) (ix5 c b j h a) = (D.out b h (64 * c.val + j.val) a : EReal) := by
  unfold step_main_v42_10
  dsimp only [id]
  clean_types
  rw [WordCmp.dynamicUpdateSlice_eq_update _ _ _ _ ![n, 0, 0, 0, 0] (slices5 hn 512) (start5 hn I)]
  refine (upd_at _ _ n _ c b j h a).trans ?_
  split
  · rename_i hcn
    obtain ⟨m, hm, hN, hC⟩ := I.state b h
    obtain ⟨mt, hmt⟩ := stab_real I.mask (bsum D n b h) (fun s => D.g b h (64 * n + s.val)) m j
    have h92 := (v92_at hn I b j h m hm).trans hmt
    have h101 : (res_main_while0b_v101 (F := Ideal) V0 : FVec Ideal S4x64x4 .f32) (ix3 b j h)
        = Ideal.exp ((bsum D n b h j : EReal) + (m : EReal) - (mt : EReal)) := by
      unfold res_main_while0b_v101
      clean_types
      pointwise
      rw [v90_at hn I b j h m hm, h92]
    pointwise
    simp only [fun s => v99_at hn I b j s h mt h92, h101, h92, v74_at hn I, v72_at hn I, hN, hC]
    rw [hcn, Data.out, ← output_div (D.lf b h) (D.g b h) (D.q b h) (D.k b h) (D.v b h a) (64 * n + j.val) mt]
    have hI : ∀ (N : Fin 256 → ℝ), ∑ x, (N x : EReal) * ((D.q b h (64 * n + j.val) x * (1 / 16) : ℝ) : EReal)
        = (((∑ d, D.q b h (64 * n + j.val) d * N d) * (1 / 16) : ℝ) : EReal) := by
      intro N
      simp only [← EReal.coe_mul, ← coe_sum]
      refine congrArg (fun r : ℝ => (r : EReal)) ?_
      rw [Finset.sum_mul]
      exact Finset.sum_congr rfl fun d _ => by ring
    rw [hI, hI]
    refine congrArg₂ Ideal.div ?_ (congrArg (fun z => max (FloatOps.absf (F := Ideal) (φ := .f32) z) _) ?_)
    · rw [← reading_lift I.mask (D.lf b h) (D.g b h) (D.q b h) (D.k b h) (D.v b h a) (64 * n) m _ (fun _ => rfl) (bsum D n b h)
        (fun _ => rfl) j mt (fun s : Fin 64 => ((score (D.q b h) (D.k b h) (64 * n + j.val) (64 * n + s.val) : ℝ) : EReal))
        (fun s : Fin 64 => (D.v b h a (64 * n + s.val) : EReal)) _ (fun _ => rfl) (fun _ => rfl) rfl]
      exact congrArg (fun z : EReal => z + _) (Finset.sum_congr rfl fun s _ => mul_comm _ _)
    · rw [← normalizer_lift I.mask (D.lf b h) (D.g b h) (D.q b h) (D.k b h) (64 * n) m (bsum D n b h)
        (fun _ => rfl) _ (fun _ => rfl) j mt (fun s : Fin 64 => ((score (D.q b h) (D.k b h) (64 * n + j.val) (64 * n + s.val) : ℝ) : EReal))
        _ (fun _ => rfl) rfl]
  · exact I.out c b j h a (by omega)

include hn I in
/-- One trip takes the state after `n` chunks to the state after `n + 1`. -/
theorem Inv.step : Inv D (n + 1) (STEP V0) where
  ctr := by
    rw [STEP_main_v42_6]
    unfold step_main_v42_6
    have h := I.ctr
    funext i
    show IntOp.addi _ _ = _
    rw [congrFun h i]
    show BitVec.ofNat 32 n + 1#32 = _
    rw [← BitVec.ofNat_add]
  q := by rw [STEP_main_v42_0]; exact I.q
  k := by rw [STEP_main_v42_1]; exact I.k
  v := by rw [STEP_main_v42_2]; exact I.v
  g := by rw [STEP_main_v42_3]; exact I.g
  lf := by rw [STEP_main_v42_4]; exact I.lf
  mask := by rw [STEP_main_v42_5]; exact I.mask
  state := by
    rw [STEP_main_v42_7, STEP_main_v42_8, STEP_main_v42_9]
    exact next_state hn I
  out := by rw [STEP_main_v42_10]; exact next_out hn I

end Trip

end Cert.Mlstm.Ref
end
-- ==== Proof.Reference.lean ====
/-
  The reference's result: what the loop starts from, what it holds after all its chunks, and what the lines after the
  loop make of it.
-/
module

public import proofs.«01_k».proof.Proof.ReferenceStep
public import proofs.«01_k».proof.Proof.Sequences

@[expose] public section

set_option maxRecDepth 16384

noncomputable section

namespace Cert.Mlstm.Ref

open Idealize.ShloMosaic Idealize.ShloMosaic.TcCoe Idealize.ShloMosaic.Tactic
open Idealize.ShloMosaic.StableHlo
open Cert.ReferenceIdeal Cert.ReferenceIdeal.Gen Cert.ReferenceIdeal.Value

variable (m : (ℓ : Loc nD τ sig) → Buf (Elt Ideal) ℓ) (c0 : Dev nD)

/-- Position `j` of chunk `c`. -/
def pos (c : Fin 128) (j : Fin 64) : Fin 8192 := ⟨c.val * 64 + j.val, by omega⟩

theorem chunks256 (x : FVec Ideal S4x8192x4x256 .f32) (c : Fin 128) (b : Fin 4) (j : Fin 64) (h : Fin 4) (d : Fin 256) :
    transpose S128x4x64x4x256 [1, 0, 2, 3, 4] (shapeCast S4x128x64x4x256 x shapeCasts_S4x8192x4x256_S4x128x64x4x256)
      transposes_S4x128x64x4x256_S128x4x64x4x256_1_0_2_3_4 (ix5 c b j h d) = x (ix4 b (pos c j) h d) := by
  pointwise
  rfl

theorem chunks512 (x : FVec Ideal S4x8192x4x512 .f32) (c : Fin 128) (b : Fin 4) (j : Fin 64) (h : Fin 4) (d : Fin 512) :
    transpose S128x4x64x4x512 [1, 0, 2, 3, 4] (shapeCast S4x128x64x4x512 x shapeCasts_S4x8192x4x512_S4x128x64x4x512)
      transposes_S4x128x64x4x512_S128x4x64x4x512_1_0_2_3_4 (ix5 c b j h d) = x (ix4 b (pos c j) h d) := by
  pointwise
  rfl

theorem chunks4 (x : FVec Ideal S4x8192x4 .f32) (c : Fin 128) (b : Fin 4) (j : Fin 64) (h : Fin 4) :
    transpose S128x4x64x4 [1, 0, 2, 3] (shapeCast S4x128x64x4 x shapeCasts_S4x8192x4_S4x128x64x4)
      transposes_S4x128x64x4_S128x4x64x4_1_0_2_3 (ix4 c b j h) = x (ix3 b (pos c j) h) := by
  pointwise
  rfl

/-- The columns from `off` on, of the queries, keys and values alike. -/
theorem cols (A : FVec Ideal S32768x6144 .bf16) (b : Fin 4) (t : Fin 8192) (e : Fin 4096) :
    extractStridedSlice (s := S4x8192x6144) S4x8192x4096 ![0, 0, 0] (shapeCast S4x8192x6144 A shapeCasts_S32768x6144_S4x8192x6144)
      slices_S4x8192x6144_S4x8192x4096_0_0_0 (ix3 b t e) = A (ix2 (row b t.val) ⟨e.val, by omega⟩) := by
  pointwise
  exact congrArg (fun r => A (ix2 r _)) (eq_row t.isLt _ rfl)

theorem heads_q (x : FVec Ideal S4x8192x4096 .bf16) (b : Fin 4) (t : Fin 8192) (h : Fin 4) (d : Fin 256) :
    (mulf (extf .f32 (shapeCast S4x8192x4x256 (extractStridedSlice (s := S4x8192x4096) S4x8192x1024 ![0, 0, 0] x
      slices_S4x8192x4096_S4x8192x1024_0_0_0) shapeCasts_S4x8192x1024_S4x8192x4x256) bitsLt_bf16_f32)
      (broadcastInDim S4x8192x4x256 ![] bcast_S_S4x8192x4x256 (constant S_ .f32 0x3D800000#32)) : FVec Ideal S4x8192x4x256 .f32) (ix4 b t h d)
      = x (ix3 b t ⟨h.val * 256 + d.val, by omega⟩) * Ideal.ofBits .f32 1031798784#32 := by
  pointwise

theorem heads_k (x : FVec Ideal S4x8192x4096 .bf16) (b : Fin 4) (t : Fin 8192) (h : Fin 4) (d : Fin 256) :
    (extf .f32 (shapeCast S4x8192x4x256 (extractStridedSlice (s := S4x8192x4096) S4x8192x1024 ![0, 0, 1024] x
      slices_S4x8192x4096_S4x8192x1024_0_0_1024) shapeCasts_S4x8192x1024_S4x8192x4x256) bitsLt_bf16_f32 : FVec Ideal S4x8192x4x256 .f32) (ix4 b t h d)
      = x (ix3 b t ⟨1024 + (h.val * 256 + d.val), by omega⟩) := by
  pointwise

theorem heads_v (x : FVec Ideal S4x8192x4096 .bf16) (b : Fin 4) (t : Fin 8192) (h : Fin 4) (d : Fin 512) :
    (extf .f32 (shapeCast S4x8192x4x512 (extractStridedSlice (s := S4x8192x4096) S4x8192x2048 ![0, 0, 2048] x
      slices_S4x8192x4096_S4x8192x2048_0_0_2048) shapeCasts_S4x8192x2048_S4x8192x4x512) bitsLt_bf16_f32 : FVec Ideal S4x8192x4x512 .f32) (ix4 b t h d)
      = x (ix3 b t ⟨2048 + (h.val * 512 + d.val), by omega⟩) := by
  pointwise

theorem gates_at (A : FVec Ideal S32768x128 .f32) (y : FVec Ideal S8 .f32) (b : Fin 4) (t : Fin 8192) (l : Fin 8) :
    (mulf (broadcastInDim S4x8192x8 ![] bcast_S_S4x8192x8 (constant S_ FTy.f32 1097859072#32))
        (Host.tanh (Host.divf (addf (extractStridedSlice (s := S4x8192x128) S4x8192x8 ![0, 0, 0]
                  (shapeCast S4x8192x128 A shapeCasts_S32768x128_S4x8192x128) slices_S4x8192x128_S4x8192x8_0_0_0)
              (broadcastInDim S4x8192x8 ![0, 1, 2] bcast_S1x1x8_S4x8192x8_0_1_2 (broadcastInDim S1x1x8 ![2] bcast_S8_S1x1x8_2 y)))
            (broadcastInDim S4x8192x8 ![] bcast_S_S4x8192x8 (constant S_ FTy.f32 1097859072#32)))) : FVec Ideal S4x8192x8 .f32) (ix3 b t l)
      = (gate A y (row b t.val) l : EReal) := by
  rw [gate, ← capped_coe]
  pointwise
  rw [capped, eq_row t.isLt ⟨b.val * 8192 + t.val, _⟩ rfl]

theorem igate_at (G : FVec Ideal S4x8192x8 .f32) (b : Fin 4) (t : Fin 8192) (h : Fin 4) :
    extractStridedSlice (s := S4x8192x8) S4x8192x4 ![0, 0, 0] G slices_S4x8192x8_S4x8192x4_0_0_0 (ix3 b t h) = G (ix3 b t (ilane h)) := by
  pointwise
  rfl

theorem fgate_at (G : FVec Ideal S4x8192x8 .f32) (b : Fin 4) (t : Fin 8192) (h : Fin 4) :
    extractStridedSlice (s := S4x8192x8) S4x8192x4 ![0, 0, 4] G slices_S4x8192x8_S4x8192x4_0_0_4 (ix3 b t h) = G (ix3 b t (flane h)) := by
  pointwise
  rfl

theorem logsig_host (x : ℝ) : -(max (-(x : EReal)) 0 + Ideal.log1p (Ideal.exp (-(FloatOps.absf (F := Ideal) (φ := .f32) (-(x : EReal)) : EReal))))
    = ((logsig x : ℝ) : EReal) := by
  rw [← EReal.coe_neg, absf_coe, ← EReal.coe_neg, log1p_exp, ← EReal.coe_zero, ← coe_max, ← EReal.coe_add, ← EReal.coe_neg, logsig, abs_neg]
  congr 1
  have hm : min x 0 = -max (-x) 0 := by rcases le_total x 0 with h | h <;> simp [h]
  rw [hm]
  ring

/-- What an array's negated entries are shifted by: zeros. -/
abbrev zeros4 : FVec Ideal S4x8192x4 .f32 := broadcastInDim S4x8192x4 ![] bcast_S_S4x8192x4 (constant S_ FTy.f32 0#32)

theorem lsig_at (x : FVec Ideal S4x8192x4 .f32) (b : Fin 4) (t : Fin 8192) (h : Fin 4) (r : ℝ) (hr : x (ix3 b t h) = (r : EReal)) :
    (Host.negf (select (cmpf .une (subf (Host.negf x) zeros4) (subf (Host.negf x) zeros4)) (addf (Host.negf x) zeros4)
      (addf (maximumf (Host.negf x) zeros4) (Host.log1p (Host.exp (Host.negf (Host.absf (subf (Host.negf x) zeros4))))))) : FVec Ideal S4x8192x4 .f32)
      (ix3 b t h) = ((logsig r : ℝ) : EReal) := by
  rw [← logsig_host, ← hr]
  pointwise
  rw [if_neg (not_not.mpr rfl)]

section Entry

variable (m : (ℓ : Loc nD τ sig) → Buf (Elt Ideal) ℓ) (c0 : Dev nD)

/-- The call's arguments. -/
abbrev argX : FVec Ideal S32768x6144 .bf16 := m ((c0.tc : Thread nD τ).loc main_arg0)
abbrev argAux : FVec Ideal S32768x128 .f32 := m ((c0.tc : Thread nD τ).loc main_arg1)
abbrev argBias : FVec Ideal S8 .f32 := m ((c0.tc : Thread nD τ).loc main_arg2)
abbrev argNorm : FVec Ideal S2048 .f32 := m ((c0.tc : Thread nD τ).loc main_arg3)

theorem e0 (c b j h d) : (entryContents preI m c0 (Proc.devRef .tc main_v42_0) : FVec Ideal S128x4x64x4x256 .f32) (ix5 c b j h d)
    = argX m c0 (ix2 (row b (pos c j).val) (qcol h d)) * Ideal.ofBits .f32 1031798784#32 := by
  simp only [entryContents, afterL_cons, afterL_nil]
  after_reads_simp
  clean_types
  exact (chunks256 _ c b j h d).trans ((heads_q _ b _ h d).trans (congrArg (· * _) (cols _ b _ _)))

theorem e1 (c b j h d) : (entryContents preI m c0 (Proc.devRef .tc main_v42_1) : FVec Ideal S128x4x64x4x256 .f32) (ix5 c b j h d)
    = argX m c0 (ix2 (row b (pos c j).val) (kcol h d)) := by
  simp only [entryContents, afterL_cons, afterL_nil]
  after_reads_simp
  clean_types
  exact (chunks256 _ c b j h d).trans ((heads_k _ b _ h d).trans (cols _ b _ _))

theorem e2 (c b j h d) : (entryContents preI m c0 (Proc.devRef .tc main_v42_2) : FVec Ideal S128x4x64x4x512 .f32) (ix5 c b j h d)
    = argX m c0 (ix2 (row b (pos c j).val) (vcol h d)) := by
  simp only [entryContents, afterL_cons, afterL_nil]
  after_reads_simp
  clean_types
  exact (chunks512 _ c b j h d).trans ((heads_v _ b _ h d).trans (cols _ b _ _))

theorem e3 (c b j h) : (entryContents preI m c0 (Proc.devRef .tc main_v42_3) : FVec Ideal S128x4x64x4 .f32) (ix4 c b j h)
    = (gate (argAux m c0) (argBias m c0) (row b (pos c j).val) (ilane h) : EReal) := by
  simp only [entryContents, afterL_cons, afterL_nil]
  after_reads_simp
  clean_types
  exact (chunks4 _ c b j h).trans ((igate_at _ b _ h).trans (gates_at _ _ b _ _))

theorem e4 (c b j h) : (entryContents preI m c0 (Proc.devRef .tc main_v42_4) : FVec Ideal S128x4x64x4 .f32) (ix4 c b j h)
    = ((logsig (gate (argAux m c0) (argBias m c0) (row b (pos c j).val) (flane h)) : ℝ) : EReal) := by
  simp only [entryContents, afterL_cons, afterL_nil]
  after_reads_simp
  simp only [TRef.ofBuf_toBuf]
  simp only [TRef.ofBuf, TRef.toBuf, TRef.of, cast_eq]
  clean_types
  dsimp only [id]
  exact (chunks4 _ c b j h).trans (lsig_at _ b _ h _ ((fgate_at _ b _ h).trans (gates_at _ _ b _ _)))

/-- The time of position `j` of chunk `c`. -/
theorem pos_val (c : Fin 128) (j : Fin 64) : (pos c j).val = 64 * c.val + j.val := by
  rw [pos]
  ring

/-- Before the first trip the state is that of no chunk. -/
theorem inv_zero (hx : Finite (argX m c0)) : Inv (seqs (argX m c0) (argAux m c0) (argBias m c0)) 0 (entryContents preI m c0) where
  ctr := ctr_entry m c0
  q c b j h d := by
    rw [e0, hx.coe _ _ (by simp only [qcol]; omega), sixteenth, ← EReal.coe_mul, pos_val]
    rfl
  k c b j h d := by
    rw [e1, hx.coe _ _ (by simp only [kcol]; omega), pos_val]
    rfl
  v c b j h a := by
    rw [e2, hx.coe _ _ (by simp only [vcol]; omega), pos_val]
    rfl
  g c b j h := by
    rw [e3, pos_val]
    rfl
  lf c b j h := by
    rw [e4, pos_val]
    rfl
  mask j s := by
    simp only [entryContents, afterL_cons, afterL_nil]
    after_reads_simp
    simp only [TRef.ofBuf_toBuf]
    simp only [TRef.ofBuf, TRef.toBuf, TRef.of, cast_eq]
    clean_types
    dsimp only [id]
    pointwise
    revert j s
    decide +kernel
  state b h := by
    refine ⟨0, ?_, fun d => ?_, fun a d => ?_⟩
    · simp only [entryContents, afterL_cons, afterL_nil]
      after_reads_simp
      clean_types
      dsimp only [id]
      pointwise
      simp
    · rw [mem_zero]
      simp only [entryContents, afterL_cons, afterL_nil]
      after_reads_simp
      clean_types
      dsimp only [id]
      pointwise
      simp
    · rw [mem_zero]
      simp only [entryContents, afterL_cons, afterL_nil]
      after_reads_simp
      clean_types
      dsimp only [id]
      pointwise
      simp
  out c b j h a hc := absurd hc (Nat.not_lt_zero _)

theorem inv_iter (hx : Finite (argX m c0)) : ∀ n, n ≤ 128 →
    Inv (seqs (argX m c0) (argAux m c0) (argBias m c0)) n (STEP^[n] (entryContents preI m c0))
  | 0, _ => inv_zero m c0 hx
  | n + 1, h => by
    rw [Function.iterate_succ_apply']
    exact (inv_iter hx n (by omega)).step (by omega)

theorem unchunk (x : FVec Ideal S128x4x64x4x512 .f32) (b : Fin 4) (t : Fin 8192) (h : Fin 4) (a : Fin 512) :
    shapeCast S4x8192x4x512 (transpose S4x128x64x4x512 [1, 0, 2, 3, 4] x transposes_S128x4x64x4x512_S4x128x64x4x512_1_0_2_3_4)
      shapeCasts_S4x128x64x4x512_S4x8192x4x512 (ix4 b t h a)
      = x (ix5 ⟨t.val / 64, by omega⟩ b ⟨t.val % 64, by omega⟩ h a) := by
  pointwise

set_option maxHeartbeats 1600000 in
/-- The closing normalization and output gate, over the readings of all heads. -/
theorem out_normed (V0 : Valuation τ sig (Elt Ideal)) (r : Fin 32768) (l : Fin 2048) :
    (out_main_v71 (F := Ideal) V0 : FVec Ideal S32768x2048 .bf16) (ix2 r l)
      = normed (fun a => shapeCast S4x8192x4x512 (transpose S4x128x64x4x512 [1, 0, 2, 3, 4] (V0 (Proc.devRef .tc main_v42_10) : FVec Ideal S128x4x64x4x512 .f32)
        transposes_S128x4x64x4x512_S4x128x64x4x512_1_0_2_3_4) shapeCasts_S4x128x64x4x512_S4x8192x4x512
          (ix4 ⟨r.val / 8192, by have := r.isLt; omega⟩ ⟨r.val % 8192, by omega⟩ ⟨l.val / 512, by have := l.isLt; omega⟩ a))
        ⟨l.val % 512, by omega⟩ ((V0 (Proc.devRef .tc main_arg3) : FVec Ideal S2048 .f32) (ix1 l))
        ((V0 (Proc.devRef .tc main_arg0) : FVec Ideal S32768x6144 .bf16) (ix2 r ⟨4096 + l.val, by have := l.isLt; omega⟩)) := by
  unfold out_main_v71
  clean_types
  generalize shapeCast (s := S4x128x64x4x512) S4x8192x4x512 _ shapeCasts_S4x128x64x4x512_S4x8192x4x512 = Y
  pointwise
  unfold normed
  rfl

/-- The reference's result, once the state after all chunks is known. -/
theorem out_of (V0 : Valuation τ sig (Elt Ideal)) (x : FVec Ideal S32768x6144 .bf16) (aux : FVec Ideal S32768x128 .f32)
    (bias : FVec Ideal S8 .f32) (norm : FVec Ideal S2048 .f32) (I : Inv (seqs x aux bias) 128 V0)
    (h0 : (V0 (Proc.devRef .tc main_arg0) : FVec Ideal S32768x6144 .bf16) = x)
    (h3 : (V0 (Proc.devRef .tc main_arg3) : FVec Ideal S2048 .f32) = norm) (r : Fin 32768) (l : Fin 2048) :
    (out_main_v71 (F := Ideal) V0 : FVec Ideal S32768x2048 .bf16) (ix2 r l) = result x aux bias norm r l := by
  have hY : ∀ (b : Fin 4) (t : Fin 8192) (h : Fin 4) (a : Fin 512),
      shapeCast S4x8192x4x512 (transpose S4x128x64x4x512 [1, 0, 2, 3, 4] (V0 (Proc.devRef .tc main_v42_10) : FVec Ideal S128x4x64x4x512 .f32)
        transposes_S128x4x64x4x512_S4x128x64x4x512_1_0_2_3_4) shapeCasts_S4x128x64x4x512_S4x8192x4x512 (ix4 b t h a)
        = (((seqs x aux bias).out b h t.val a : ℝ) : EReal) := by
    intro b t h a
    refine (unchunk _ b t h a).trans ((I.out _ b _ h a (by have := t.isLt; show t.val / 64 < 128; omega)).trans ?_)
    rw [Nat.div_add_mod]
  rw [out_normed, h3, h0]
  unfold result
  simp only [hY]

/-- The reference's result at a row and a column. -/
theorem out_at (hx : Finite (argX m c0)) (r : Fin 32768) (l : Fin 2048) :
    (out_main_v71 (F := Ideal) (STEP^[128] (entryContents preI m c0)) : FVec Ideal S32768x2048 .bf16) (ix2 r l)
      = result (argX m c0) (argAux m c0) (argBias m c0) (argNorm m c0) r l :=
  out_of _ _ _ _ _ (inv_iter m c0 hx 128 le_rfl) (iter_main_arg0 m c0 128) (iter_main_arg3 m c0 128) r l

end Entry
end Cert.Mlstm.Ref
end
-- ==== Proof.Projection.lean ====
/-
  What a block's input projection computes, in plain sums: a row of the stream modulated by its sequence's scale and shift,
  times a column of the weights.
-/
module

public import Idealize.ShloMosaic.Lib.Claim
public import Idealize.ShloMosaic.Lib.Pipeline.ValueKit

@[expose] public section

noncomputable section

namespace Cert.Layer

open Idealize.ShloMosaic

/-- The sequence that row `r` belongs to. -/
def seqOf (r : Fin 32768) : Fin 4 := ⟨r.val / 8192, by omega⟩

/-- Channel `d` of a row under its scale and shift. -/
def scaled (x a b : EReal) : EReal := x * (1 + a) + b

/-- Channel `d` of row `r` of the stream `X`, modulated by the rows of `M` that hold the shifts and the scales. -/
def hidden (X : Fin 32768 → Fin 2048 → EReal) (M : Fin 4 → Fin 12288 → EReal) (r : Fin 32768) (d : Fin 2048) : EReal :=
  scaled (X r d) (M (seqOf r) ⟨2048 + d.val, by omega⟩) (M (seqOf r) ⟨d.val, by omega⟩)

/-- Row `r` of the modulated stream times a column of the weights. -/
def projected (X : Fin 32768 → Fin 2048 → EReal) (M : Fin 4 → Fin 12288 → EReal) (w : Fin 2048 → EReal) (r : Fin 32768) : EReal :=
  ∑ d, hidden X M r d * w d

/-- A scratch that the first point of each run of `n` points fills, and the run's other points keep, holds after every
    point what the run's first point put there. -/
theorem kept_over_run {α : Type} {N n : ℕ} (S : (t : ℕ) → t < N → α) (f : ℕ → α)
    (fill : ∀ t ht, t % n = 0 → S t ht = f (t / n))
    (keep : ∀ t ht, ¬(t + 1) % n = 0 → S (t + 1) ht = S t (Nat.lt_of_succ_lt ht)) (t : ℕ) (ht : t < N) : S t ht = f (t / n) := by
  induction t with
  | zero => exact fill 0 ht (Nat.zero_mod n)
  | succ t ih =>
    by_cases hz : (t + 1) % n = 0
    · exact fill _ ht hz
    · rw [keep t ht hz, ih, Nat.succ_div_of_not_dvd fun hd => hz (Nat.mod_eq_zero_of_dvd hd)]

/-- Row `r` of the `i`-th block of 1024 rows. -/
def rowOf (i : ℕ) (hi : i < 32) (r : Fin 1024) : Fin 32768 := ⟨1024 * i + r.val, by omega⟩

theorem seqOf_rowOf (i : ℕ) (hi : i < 32) (r : Fin 1024) : seqOf (rowOf i hi r) = ⟨i / 8, by omega⟩ :=
  Fin.ext (by show (1024 * i + r.val) / 8192 = i / 8; omega)

theorem rowOf_div (r : Fin 32768) (h : r.val / 1024 < 32) : rowOf (r.val / 1024) h ⟨r.val % 1024, by omega⟩ = r :=
  Fin.ext (Nat.div_add_mod r.val 1024)

/-- The modulated rows of the `i`-th block. -/
def hiddenBlock (X : Fin 32768 → Fin 2048 → EReal) (M : Fin 4 → Fin 12288 → EReal) (i : ℕ) (r : Fin 1024) (d : Fin 2048) : EReal :=
  if hi : i < 32 then hidden X M (rowOf i hi r) d else 0

/-! ## The layer norm after an output projection -/

/-- The mean of 2048 channels. -/
def mean (z : Fin 2048 → EReal) : EReal := Ideal.div (∑ d, z d) (Ideal.ofBits .f32 0x45000000#32)

/-- Channel `l` of the layer norm of `z`, with the weight `g` and the bias `b` of that channel. -/
def normed (z : Fin 2048 → EReal) (g b : EReal) (l : Fin 2048) : EReal :=
  (z l - mean z) * Ideal.rsqrt (mean (fun d => (z d - mean z) * (z d - mean z)) + Ideal.ofBits .f32 0x3727C5AC#32) * g + b

/-- The residual of a channel: the scaled stream plus the gated product `p`. -/
def residual (x a p : EReal) : EReal := Ideal.ofBits .f32 0x3FD744FD#32 * x + (1 + a) * p

/-- Row `r`, channel `l` of the stream after a block: the layer norm of the residual of the rows `Y` times the weights `W`. -/
def afterBlock {n : ℕ} (Y : Fin 32768 → Fin n → EReal) (W : Fin n → Fin 2048 → EReal) (X : Fin 32768 → Fin 2048 → EReal)
    (M : Fin 4 → Fin 12288 → EReal) (g b : Fin 2048 → EReal) (r : Fin 32768) (l : Fin 2048) : EReal :=
  normed (fun d => residual (X r d) (M (seqOf r) ⟨4096 + d.val, by omega⟩) (∑ k, Y r k * W k d)) (g l) (b l) l

end Cert.Layer

end
-- ==== Proof.MlstmProjection.lean ====
/-
  The mLSTM block's input projection: the tiled kernel and the reference compute the same sums.
-/
module

public import proofs.«01_k».proof.Proof.Projection
public import proofs.«01_k».proof.Proof.Gen.MlstmInIdeal.Value
public import proofs.«01_k».proof.Proof.Gen.MlstmInRefIdeal.Run
public import Idealize.ShloMosaic.Lib.Pipeline.ReadBack
public import Idealize.ShloMosaic.Lib.Tactic.CleanTypes

@[expose] public section

set_option maxRecDepth 16384

noncomputable section

namespace Cert.Layer

open Idealize.ShloMosaic Idealize.ShloMosaic.TcCoe Idealize.ShloMosaic.Tactic

section Reference

open Cert.MlstmInRefIdeal Cert.MlstmInRefIdeal.Gen

/-- The reference's modulated stream. -/
def refHidden (x : FVec Ideal S32768x2048 .f32) (s : FVec Ideal S4x12288 .f32) : FVec Ideal S4x8192x2048 .f32 :=
  addf (mulf (shapeCast _ x shapeCasts_S32768x2048_S4x8192x2048) (broadcastInDim S4x8192x2048 ![0, 1, 2] bcast_S4x1x2048_S4x8192x2048_0_1_2 (addf (broadcastInDim S4x1x2048 ![] bcast_S_S4x1x2048 (constant S_ .f32 0x3F800000#32)) (extractStridedSlice S4x1x2048 ![0, 0, 2048] (broadcastInDim S4x1x12288 ![0, 2] bcast_S4x12288_S4x1x12288_0_2 s) slices_S4x1x12288_S4x1x2048_0_0_2048)))) (broadcastInDim S4x8192x2048 ![0, 1, 2] bcast_S4x1x2048_S4x8192x2048_0_1_2 (extractStridedSlice S4x1x2048 ![0, 0, 0] (broadcastInDim S4x1x12288 ![0, 2] bcast_S4x12288_S4x1x12288_0_2 s) slices_S4x1x12288_S4x1x2048_0_0_0))

theorem refHidden_at (x : FVec Ideal S32768x2048 .f32) (s : FVec Ideal S4x12288 .f32) (r : Fin 32768) (d : Fin 2048) :
    refHidden x s (ix3 (seqOf r) ⟨r.val % 8192, by omega⟩ d) = hidden (fun r d => x (ix2 r d)) (fun b j => s (ix2 b j)) r d := by
  unfold refHidden hidden scaled seqOf
  clean_types
  pointwise
  done

/-- The reference's result. -/
def MlstmIn.ref (x : FVec Ideal S32768x2048 .f32) (s : FVec Ideal S4x12288 .f32) (w : FVec Ideal S2048x6152 .f32) : FVec Ideal S32768x6144 .bf16 :=
  truncf .bf16 (shapeCast _ (extractStridedSlice S4x8192x6144 ![0, 0, 0] (Host.dotGeneral dot_S4x8192x2048_S2048x6152_S4x8192x6152_2_0_01_1_n_n none (refHidden x s) w) slices_S4x8192x6152_S4x8192x6144_0_0_0) shapeCasts_S4x8192x6144_S32768x6144) bitsLt_bf16_f32

theorem MlstmIn.ref_at (x : FVec Ideal S32768x2048 .f32) (s : FVec Ideal S4x12288 .f32) (w : FVec Ideal S2048x6152 .f32) (r : Fin 32768) (l : Fin 6144) :
    MlstmIn.ref x s w (ix2 r l) = projected (fun r d => x (ix2 r d)) (fun b j => s (ix2 b j)) (fun d => w (ix2 d ⟨l.val, by omega⟩)) r := by
  unfold MlstmIn.ref projected
  simp only [← refHidden_at]
  generalize refHidden x s = H
  unfold seqOf
  clean_types
  pointwise
  done

end Reference

open Cert.MlstmInIdeal Cert.MlstmInIdeal.Gen

/-! ## What the kernel's lines compute -/

/-- The modulated block. -/
theorem hidden_pay (B : FVec Ideal S1x6x2048 .f32) (x : FVec Ideal S1024x2048 .f32) (r : Fin 1024) (d : Fin 2048) :
    (k0_pay1 (F := Ideal) B x : FVec Ideal S1024x2048 .bf16) (ix2 r d) = scaled (x (ix2 r d)) (B (ix3 0 1 d)) (B (ix3 0 0 d)) := by
  unfold_payloads
  pointwise
  rfl

/-- The modulated block times a block of the weights. -/
theorem product_pay (h : FVec Ideal S1024x2048 .bf16) (w : FVec Ideal S2048x1024 .bf16) (r l : Fin 1024) :
    (k0_pay2 (F := Ideal) h w : FVec Ideal S1024x1024 .bf16) (ix2 r l) = ∑ d : Fin 2048, h (ix2 r d) * w (ix2 d l) := by
  unfold_payloads
  pointwise

namespace MlstmIn

variable (m : (ℓ : Loc nD τ sig) → Buf (Elt Ideal) ℓ) (c : Dev nD)

/-- The call's arguments. -/
abbrev argX : FVec Ideal S32768x2048 .f32 := m ((c : Thread nD τ).loc main_arg0)
abbrev argM : FVec Ideal S4x12288 .f32 := m ((c : Thread nD τ).loc main_arg1)
abbrev argW : FVec Ideal S2048x6152 .f32 := m ((c : Thread nD τ).loc main_arg2)

theorem lt_N (t : Fin cfg0.N) : t.val < 192 := lt_of_lt_of_eq t.isLt (show cfg0.N = 192 from N_0)

section Point

variable (t : Fin cfg0.N)

/-- The row of the stream that row `r` of point `t` reads. -/
def trow (r : Fin 1024) : Fin 32768 := rowOf (t.val / 6) (by have := lt_N t; omega) r

/-- Where each window's block lies. -/
theorem idx_in : ∀ t : Fin cfg0.N, win0_0.index t (0 : Fin 2) = t.val / 6 ∧ win0_0.index t (1 : Fin 2) = 0
    ∧ win0_1.index t (0 : Fin 3) = t.val / 6 / 8 ∧ win0_1.index t (1 : Fin 3) = 0 ∧ win0_1.index t (2 : Fin 3) = 0
    ∧ win0_2.index t (0 : Fin 2) = 0 ∧ win0_2.index t (1 : Fin 2) = t.val % 6 :=
  (by decide +kernel : ∀ t : Fin grid0.N, _)

theorem x_read (r : Fin 1024) (d : Fin 2048) : (iblk m c 0 t : FVec Ideal S1024x2048 .f32) (ix2 r d) = argX m c (ix2 (trow t r) d) := by
  obtain ⟨i0, i1, -⟩ := idx_in t
  unfold trow rowOf
  blk_ext! [iblk, V, i0, i1]

theorem shift_read (d : Fin 2048) : (iblk m c 1 t : FVec Ideal S1x6x2048 .f32) (ix3 0 0 d)
    = argM m c (ix2 ⟨t.val / 6 / 8, by have := lt_N t; omega⟩ ⟨d.val, by omega⟩) := by
  obtain ⟨-, -, i0, i1, i2, -⟩ := idx_in t
  blk_ext! [iblk, V, i0, i1, i2]

theorem scale_read (d : Fin 2048) : (iblk m c 1 t : FVec Ideal S1x6x2048 .f32) (ix3 0 1 d)
    = argM m c (ix2 ⟨t.val / 6 / 8, by have := lt_N t; omega⟩ ⟨2048 + d.val, by omega⟩) := by
  obtain ⟨-, -, i0, i1, i2, -⟩ := idx_in t
  blk_ext! [iblk, V, i0, i1, i2]

theorem w_read (d : Fin 2048) (l : Fin 1024) : (iblk m c 2 t : FVec Ideal S2048x1024 .bf16) (ix2 d l)
    = argW m c (ix2 d ⟨1024 * (t.val % 6) + l.val, by omega⟩) := by
  obtain ⟨-, -, -, -, -, i0, i1⟩ := idx_in t
  blk_ext! [iblk, V, i0, i1]

/-- The modulated block a point computes when it is its rows' first. -/
theorem block_at (r : Fin 1024) (d : Fin 2048) :
    (k0_pay1 (F := Ideal) (iblk m c 1 t) (iblk m c 0 t) : FVec Ideal S1024x2048 .bf16) (ix2 r d)
      = hiddenBlock (fun r d => argX m c (ix2 r d)) (fun b j => argM m c (ix2 b j)) (t.val / 6) r d := by
  refine (hidden_pay _ _ r d).trans ?_
  rw [x_read, shift_read, scale_read]
  unfold hiddenBlock hidden
  rw [dif_pos (by have := lt_N t; omega), seqOf_rowOf]
  rfl

end Point

/-- After every point the scratch holds the modulated block of the point's rows. -/
theorem scratch_at (n : ℕ) (hn : n < cfg0.N) : (fun r d => (outsAt0 m c n hn).2 (ix2 r d))
    = hiddenBlock (fun r d => argX m c (ix2 r d)) (fun b j => argM m c (ix2 b j)) (n / 6) := by
  refine kept_over_run (fun n hn r d => (outsAt0 m c n hn).2 (ix2 r d)) _ (fun t ht hz => ?_) (fun t ht hz => ?_) n hn
  · funext r d
    rw [outsAt0_A m c ⟨t, ht⟩ hz]
    dsimp only
    frame_out
    exact block_at m c ⟨t, ht⟩ r d
  · funext r d
    rw [outsAt0_B m c ⟨t + 1, ht⟩ hz]
    rfl

/-- A point writes its scratch times its block of the weights. -/
theorem written (t : Fin cfg0.N) : (outsAt0 m c t.val t.isLt).1 = k0_pay2 (F := Ideal) (outsAt0 m c t.val t.isLt).2 (iblk m c 2 t) := by
  by_cases hz : t.val % 6 = 0
  · rw [outsAt0_A m c t hz]
    dsimp only
    frame_out
  · rw [outsAt0_B m c t hz]
    dsimp only
    frame_out
    unfold sout0_B_0
    rw [read_unread_whole]

/-- What a point writes. -/
theorem point_at (t : Fin cfg0.N) (r l : Fin 1024) :
    (outsAt0 m c t.val t.isLt).1 (ix2 r l) = projected (fun r d => argX m c (ix2 r d)) (fun b j => argM m c (ix2 b j))
      (fun d => argW m c (ix2 d ⟨1024 * (t.val % 6) + l.val, by omega⟩)) (trow t r) := by
  rw [written]
  refine (product_pay _ _ r l).trans (Finset.sum_congr rfl fun d _ => ?_)
  rw [w_read, congrFun (congrFun (scratch_at m c t.val t.isLt) r) d, hiddenBlock, dif_pos]
  rfl

/-- The kernel's result is the plain sum. -/
theorem kernel_at (r : Fin 32768) (l : Fin 6144) : (Value.G3 m c : FVec Ideal S32768x6144 .bf16) (ix2 r l)
    = projected (fun r d => argX m c (ix2 r d)) (fun b j => argM m c (ix2 b j)) (fun d => argW m c (ix2 d ⟨l.val, by omega⟩)) r := by
  obtain ⟨p, hp⟩ : ∃ p, p = 6 * (r.val / 1024) + l.val / 1024 := ⟨_, rfl⟩
  have hpt : Value.pt3Of (ix2 r l) = p := by
    show 6 * (r.val / 1024 - 0) + 1 * (l.val / 1024 - 0) = _
    omega
  have hlt : p < cfg0.N := by show p < 192; omega
  have hloc : Value.loc3Of (ix2 r l) = ix2 ⟨r.val % 1024, by omega⟩ ⟨l.val % 1024, by omega⟩ := by
    funext a
    apply Fin.ext
    fin_cases a <;> rfl
  have hrow : trow ⟨p, hlt⟩ ⟨r.val % 1024, by omega⟩ = r := by
    refine Eq.trans ?_ (rowOf_div r (by omega))
    unfold trow
    congr 1
    show p / 6 = _
    omega
  have hcol : 1024 * (p % 6) + l.val % 1024 = l.val := by omega
  have key := point_at m c ⟨p, hlt⟩ ⟨r.val % 1024, by omega⟩ ⟨l.val % 1024, by omega⟩
  simp only [hrow, hcol] at key
  refine Eq.trans ?_ key
  unfold Value.G3
  rw [dif_pos (by rw [hpt]; exact hlt), hloc, ← Value.outsAt0_sweep m c _ (by rw [hpt]; exact hlt)]
  simp only [hpt]

/-- The kernel's result is the reference's. -/
theorem results_eq (x : FVec Ideal S32768x2048 .f32) (s : FVec Ideal S4x12288 .f32) (w : FVec Ideal S2048x6152 .f32)
    (hx : x = argX m c) (hs : s = argM m c) (hw : w = argW m c) : ref x s w = Value.G3 m c := by
  subst hx hs hw
  funext i
  rw [show i = ix2 (i 0) (i 1) by funext a; fin_cases a <;> rfl]
  exact (ref_at _ _ _ _ _).trans (kernel_at m c _ _).symm

end MlstmIn

end Cert.Layer

end
-- ==== Proof.HgrnProjection.lean ====
/-
  The gated recurrence's input projection, whose columns the kernel takes head by head:
  the tiled kernel and the reference compute the same sums.
-/
module

public import proofs.«01_k».proof.Proof.MlstmProjection
public import proofs.«01_k».proof.Proof.Gen.HgrnInIdeal.Value
public import proofs.«01_k».proof.Proof.Gen.HgrnInRefIdeal.Run

@[expose] public section

set_option maxRecDepth 16384

noncomputable section

namespace Cert.Layer.HgrnIn

open Idealize.ShloMosaic Idealize.ShloMosaic.TcCoe Idealize.ShloMosaic.Tactic

section Reference

open Cert.HgrnInRefIdeal Cert.HgrnInRefIdeal.Gen

/-- The column of the weights that column `l` of the result comes from: the four parts of a head, each of 128 columns,
    lie together in the result. -/
def headCol (l : Fin 8192) : Fin 8192 := ⟨l.val / 128 % 4 * 2048 + l.val / 512 * 128 + l.val % 128, by omega⟩

/-- The reference's result. -/
def ref (x : FVec Ideal S32768x2048 .f32) (s : FVec Ideal S4x12288 .f32) (w : FVec Ideal S2048x8192 .f32) : FVec Ideal S32768x8192 .bf16 :=
  truncf .bf16 (shapeCast _ (transpose S32768x16x4x128 [0, 2, 1, 3] (shapeCast _ (Host.dotGeneral dot_S4x8192x2048_S2048x8192_S4x8192x8192_2_0_01_1_n_n none (refHidden x s) w) shapeCasts_S4x8192x8192_S32768x4x16x128) transposes_S32768x4x16x128_S32768x16x4x128_0_2_1_3) shapeCasts_S32768x16x4x128_S32768x8192) bitsLt_bf16_f32

theorem ref_at (x : FVec Ideal S32768x2048 .f32) (s : FVec Ideal S4x12288 .f32) (w : FVec Ideal S2048x8192 .f32) (r : Fin 32768) (l : Fin 8192) :
    ref x s w (ix2 r l) = projected (fun r d => x (ix2 r d)) (fun b j => s (ix2 b j)) (fun d => w (ix2 d (headCol l))) r := by
  unfold ref projected headCol
  simp only [← refHidden_at]
  generalize refHidden x s = H
  unfold seqOf
  clean_types
  pointwise
  done

end Reference

open Cert.HgrnInIdeal Cert.HgrnInIdeal.Gen

variable (m : (ℓ : Loc nD τ sig) → Buf (Elt Ideal) ℓ) (c : Dev nD)

/-- The call's arguments. -/
abbrev argX : FVec Ideal S32768x2048 .f32 := m ((c : Thread nD τ).loc main_arg0)
abbrev argM : FVec Ideal S4x12288 .f32 := m ((c : Thread nD τ).loc main_arg1)
abbrev argW : FVec Ideal S2048x8192 .f32 := m ((c : Thread nD τ).loc main_arg2)

theorem lt_N (t : Fin cfg0.N) : t.val < 256 := lt_of_lt_of_eq t.isLt (show cfg0.N = 256 from N_0)

section Point

variable (t : Fin cfg0.N)

/-- The row of the stream that row `r` of point `t` reads. -/
def trow (r : Fin 1024) : Fin 32768 := rowOf (t.val / 8) (by have := lt_N t; omega) r

/-- Where each window's block lies. -/
theorem idx_in : ∀ t : Fin cfg0.N, win0_0.index t (0 : Fin 2) = t.val / 8 ∧ win0_0.index t (1 : Fin 2) = 0
    ∧ win0_1.index t (0 : Fin 3) = t.val / 8 / 8 ∧ win0_1.index t (1 : Fin 3) = 0 ∧ win0_1.index t (2 : Fin 3) = 0
    ∧ win0_2.index t (0 : Fin 2) = 0 ∧ win0_2.index t (1 : Fin 2) = t.val % 8 :=
  (by decide +kernel : ∀ t : Fin grid0.N, _)

theorem x_read (r : Fin 1024) (d : Fin 2048) : (iblk m c 0 t : FVec Ideal S1024x2048 .f32) (ix2 r d) = argX m c (ix2 (trow t r) d) := by
  obtain ⟨i0, i1, -⟩ := idx_in t
  unfold trow rowOf
  blk_ext! [iblk, V, i0, i1]

theorem shift_read (d : Fin 2048) : (iblk m c 1 t : FVec Ideal S1x6x2048 .f32) (ix3 0 0 d)
    = argM m c (ix2 ⟨t.val / 8 / 8, by have := lt_N t; omega⟩ ⟨d.val, by omega⟩) := by
  obtain ⟨-, -, i0, i1, i2, -⟩ := idx_in t
  blk_ext! [iblk, V, i0, i1, i2]

theorem scale_read (d : Fin 2048) : (iblk m c 1 t : FVec Ideal S1x6x2048 .f32) (ix3 0 1 d)
    = argM m c (ix2 ⟨t.val / 8 / 8, by have := lt_N t; omega⟩ ⟨2048 + d.val, by omega⟩) := by
  obtain ⟨-, -, i0, i1, i2, -⟩ := idx_in t
  blk_ext! [iblk, V, i0, i1, i2]

theorem w_read (d : Fin 2048) (l : Fin 1024) : (iblk m c 2 t : FVec Ideal S2048x1024 .bf16) (ix2 d l)
    = argW m c (ix2 d (headCol ⟨1024 * (t.val % 8) + l.val, by omega⟩)) := by
  obtain ⟨-, -, -, -, -, i0, i1⟩ := idx_in t
  unfold headCol
  blk_ext! [iblk, V, i0, i1]

/-- The modulated block a point computes when it is its rows' first. -/
theorem block_at (r : Fin 1024) (d : Fin 2048) :
    (k0_pay1 (F := Ideal) (iblk m c 1 t) (iblk m c 0 t) : FVec Ideal S1024x2048 .bf16) (ix2 r d)
      = hiddenBlock (fun r d => argX m c (ix2 r d)) (fun b j => argM m c (ix2 b j)) (t.val / 8) r d := by
  refine (hidden_pay _ _ r d).trans ?_
  rw [x_read, shift_read, scale_read]
  unfold hiddenBlock hidden
  rw [dif_pos (by have := lt_N t; omega), seqOf_rowOf]
  rfl

end Point

/-- After every point the scratch holds the modulated block of the point's rows. -/
theorem scratch_at (n : ℕ) (hn : n < cfg0.N) : (fun r d => (outsAt0 m c n hn).2 (ix2 r d))
    = hiddenBlock (fun r d => argX m c (ix2 r d)) (fun b j => argM m c (ix2 b j)) (n / 8) := by
  refine kept_over_run (fun n hn r d => (outsAt0 m c n hn).2 (ix2 r d)) _ (fun t ht hz => ?_) (fun t ht hz => ?_) n hn
  · funext r d
    rw [outsAt0_A m c ⟨t, ht⟩ hz]
    dsimp only
    frame_out
    exact block_at m c ⟨t, ht⟩ r d
  · funext r d
    rw [outsAt0_B m c ⟨t + 1, ht⟩ hz]
    rfl

/-- A point writes its scratch times its block of the weights. -/
theorem written (t : Fin cfg0.N) : (outsAt0 m c t.val t.isLt).1 = k0_pay2 (F := Ideal) (outsAt0 m c t.val t.isLt).2 (iblk m c 2 t) := by
  by_cases hz : t.val % 8 = 0
  · rw [outsAt0_A m c t hz]
    dsimp only
    frame_out
  · rw [outsAt0_B m c t hz]
    dsimp only
    frame_out
    unfold sout0_B_0
    rw [read_unread_whole]

/-- What a point writes. -/
theorem point_at (t : Fin cfg0.N) (r l : Fin 1024) :
    (outsAt0 m c t.val t.isLt).1 (ix2 r l) = projected (fun r d => argX m c (ix2 r d)) (fun b j => argM m c (ix2 b j))
      (fun d => argW m c (ix2 d (headCol ⟨1024 * (t.val % 8) + l.val, by omega⟩))) (trow t r) := by
  rw [written]
  refine (product_pay _ _ r l).trans (Finset.sum_congr rfl fun d _ => ?_)
  rw [w_read, congrFun (congrFun (scratch_at m c t.val t.isLt) r) d, hiddenBlock, dif_pos]
  rfl

/-- The kernel's result is the plain sum. -/
theorem kernel_at (r : Fin 32768) (l : Fin 8192) : (Value.G3 m c : FVec Ideal S32768x8192 .bf16) (ix2 r l)
    = projected (fun r d => argX m c (ix2 r d)) (fun b j => argM m c (ix2 b j)) (fun d => argW m c (ix2 d (headCol l))) r := by
  obtain ⟨p, hp⟩ : ∃ p, p = 8 * (r.val / 1024) + l.val / 1024 := ⟨_, rfl⟩
  have hpt : Value.pt3Of (ix2 r l) = p := by
    show 8 * (r.val / 1024 - 0) + 1 * (l.val / 1024 - 0) = _
    omega
  have hlt : p < cfg0.N := by show p < 256; omega
  have hloc : Value.loc3Of (ix2 r l) = ix2 ⟨r.val % 1024, by omega⟩ ⟨l.val % 1024, by omega⟩ := by
    funext a
    apply Fin.ext
    fin_cases a <;> rfl
  have hrow : trow ⟨p, hlt⟩ ⟨r.val % 1024, by omega⟩ = r := by
    refine Eq.trans ?_ (rowOf_div r (by omega))
    unfold trow
    congr 1
    show p / 8 = _
    omega
  have hcol : 1024 * (p % 8) + l.val % 1024 = l.val := by omega
  have key := point_at m c ⟨p, hlt⟩ ⟨r.val % 1024, by omega⟩ ⟨l.val % 1024, by omega⟩
  simp only [hrow, hcol] at key
  refine Eq.trans ?_ key
  unfold Value.G3
  rw [dif_pos (by rw [hpt]; exact hlt), hloc, ← Value.outsAt0_sweep m c _ (by rw [hpt]; exact hlt)]
  simp only [hpt]

/-- The kernel's result is the reference's. -/
theorem results_eq (x : FVec Ideal S32768x2048 .f32) (s : FVec Ideal S4x12288 .f32) (w : FVec Ideal S2048x8192 .f32)
    (hx : x = argX m c) (hs : s = argM m c) (hw : w = argW m c) : ref x s w = Value.G3 m c := by
  subst hx hs hw
  funext i
  rw [show i = ix2 (i 0) (i 1) by funext a; fin_cases a <;> rfl]
  exact (ref_at _ _ _ _ _).trans (kernel_at m c _ _).symm

end Cert.Layer.HgrnIn

end
-- ==== Proof.SsdProjection.lean ====
/-
  The state-space block's input projection, by the first 10240 columns of its weights:
  the tiled kernel and the reference compute the same sums.
-/
module

public import proofs.«01_k».proof.Proof.MlstmProjection
public import proofs.«01_k».proof.Proof.Gen.SsdInIdeal.Value
public import proofs.«01_k».proof.Proof.Gen.SsdInRefIdeal.Run

@[expose] public section

set_option maxRecDepth 16384

noncomputable section

namespace Cert.Layer.SsdIn

open Idealize.ShloMosaic Idealize.ShloMosaic.TcCoe Idealize.ShloMosaic.Tactic

section Reference

open Cert.SsdInRefIdeal Cert.SsdInRefIdeal.Gen

/-- The reference's result. -/
def ref (x : FVec Ideal S32768x2048 .f32) (s : FVec Ideal S4x12288 .f32) (w : FVec Ideal S2048x10304 .f32) : FVec Ideal S32768x10240 .bf16 :=
  truncf .bf16 (shapeCast _ (extractStridedSlice S4x8192x10240 ![0, 0, 0] (Host.dotGeneral dot_S4x8192x2048_S2048x10304_S4x8192x10304_2_0_01_1_n_n none (refHidden x s) w) slices_S4x8192x10304_S4x8192x10240_0_0_0) shapeCasts_S4x8192x10240_S32768x10240) bitsLt_bf16_f32

theorem ref_at (x : FVec Ideal S32768x2048 .f32) (s : FVec Ideal S4x12288 .f32) (w : FVec Ideal S2048x10304 .f32) (r : Fin 32768) (l : Fin 10240) :
    ref x s w (ix2 r l) = projected (fun r d => x (ix2 r d)) (fun b j => s (ix2 b j)) (fun d => w (ix2 d ⟨l.val, by omega⟩)) r := by
  unfold ref projected
  simp only [← refHidden_at]
  generalize refHidden x s = H
  unfold seqOf
  clean_types
  pointwise
  done

end Reference

open Cert.SsdInIdeal Cert.SsdInIdeal.Gen

variable (m : (ℓ : Loc nD τ sig) → Buf (Elt Ideal) ℓ) (c : Dev nD)

/-- The call's arguments. -/
abbrev argX : FVec Ideal S32768x2048 .f32 := m ((c : Thread nD τ).loc main_arg0)
abbrev argM : FVec Ideal S4x12288 .f32 := m ((c : Thread nD τ).loc main_arg1)
abbrev argW : FVec Ideal S2048x10304 .f32 := m ((c : Thread nD τ).loc main_arg2)

theorem lt_N (t : Fin cfg0.N) : t.val < 320 := lt_of_lt_of_eq t.isLt (show cfg0.N = 320 from N_0)

section Point

variable (t : Fin cfg0.N)

/-- The row of the stream that row `r` of point `t` reads. -/
def trow (r : Fin 1024) : Fin 32768 := rowOf (t.val / 10) (by have := lt_N t; omega) r

/-- Where each window's block lies. -/
theorem idx_in : ∀ t : Fin cfg0.N, win0_0.index t (0 : Fin 2) = t.val / 10 ∧ win0_0.index t (1 : Fin 2) = 0
    ∧ win0_1.index t (0 : Fin 3) = t.val / 10 / 8 ∧ win0_1.index t (1 : Fin 3) = 0 ∧ win0_1.index t (2 : Fin 3) = 0
    ∧ win0_2.index t (0 : Fin 2) = 0 ∧ win0_2.index t (1 : Fin 2) = t.val % 10 :=
  (by decide +kernel : ∀ t : Fin grid0.N, _)

theorem x_read (r : Fin 1024) (d : Fin 2048) : (iblk m c 0 t : FVec Ideal S1024x2048 .f32) (ix2 r d) = argX m c (ix2 (trow t r) d) := by
  obtain ⟨i0, i1, -⟩ := idx_in t
  unfold trow rowOf
  blk_ext! [iblk, V, i0, i1]

theorem shift_read (d : Fin 2048) : (iblk m c 1 t : FVec Ideal S1x6x2048 .f32) (ix3 0 0 d)
    = argM m c (ix2 ⟨t.val / 10 / 8, by have := lt_N t; omega⟩ ⟨d.val, by omega⟩) := by
  obtain ⟨-, -, i0, i1, i2, -⟩ := idx_in t
  blk_ext! [iblk, V, i0, i1, i2]

theorem scale_read (d : Fin 2048) : (iblk m c 1 t : FVec Ideal S1x6x2048 .f32) (ix3 0 1 d)
    = argM m c (ix2 ⟨t.val / 10 / 8, by have := lt_N t; omega⟩ ⟨2048 + d.val, by omega⟩) := by
  obtain ⟨-, -, i0, i1, i2, -⟩ := idx_in t
  blk_ext! [iblk, V, i0, i1, i2]

theorem w_read (d : Fin 2048) (l : Fin 1024) : (iblk m c 2 t : FVec Ideal S2048x1024 .bf16) (ix2 d l)
    = argW m c (ix2 d ⟨1024 * (t.val % 10) + l.val, by omega⟩) := by
  obtain ⟨-, -, -, -, -, i0, i1⟩ := idx_in t
  blk_ext! [iblk, V, i0, i1]

/-- The modulated block a point computes when it is its rows' first. -/
theorem block_at (r : Fin 1024) (d : Fin 2048) :
    (k0_pay1 (F := Ideal) (iblk m c 1 t) (iblk m c 0 t) : FVec Ideal S1024x2048 .bf16) (ix2 r d)
      = hiddenBlock (fun r d => argX m c (ix2 r d)) (fun b j => argM m c (ix2 b j)) (t.val / 10) r d := by
  refine (hidden_pay _ _ r d).trans ?_
  rw [x_read, shift_read, scale_read]
  unfold hiddenBlock hidden
  rw [dif_pos (by have := lt_N t; omega), seqOf_rowOf]
  rfl

end Point

/-- After every point the scratch holds the modulated block of the point's rows. -/
theorem scratch_at (n : ℕ) (hn : n < cfg0.N) : (fun r d => (outsAt0 m c n hn).2 (ix2 r d))
    = hiddenBlock (fun r d => argX m c (ix2 r d)) (fun b j => argM m c (ix2 b j)) (n / 10) := by
  refine kept_over_run (fun n hn r d => (outsAt0 m c n hn).2 (ix2 r d)) _ (fun t ht hz => ?_) (fun t ht hz => ?_) n hn
  · funext r d
    rw [outsAt0_A m c ⟨t, ht⟩ hz]
    dsimp only
    frame_out
    exact block_at m c ⟨t, ht⟩ r d
  · funext r d
    rw [outsAt0_B m c ⟨t + 1, ht⟩ hz]
    rfl

/-- A point writes its scratch times its block of the weights. -/
theorem written (t : Fin cfg0.N) : (outsAt0 m c t.val t.isLt).1 = k0_pay2 (F := Ideal) (outsAt0 m c t.val t.isLt).2 (iblk m c 2 t) := by
  by_cases hz : t.val % 10 = 0
  · rw [outsAt0_A m c t hz]
    dsimp only
    frame_out
  · rw [outsAt0_B m c t hz]
    dsimp only
    frame_out
    unfold sout0_B_0
    rw [read_unread_whole]

/-- What a point writes. -/
theorem point_at (t : Fin cfg0.N) (r l : Fin 1024) :
    (outsAt0 m c t.val t.isLt).1 (ix2 r l) = projected (fun r d => argX m c (ix2 r d)) (fun b j => argM m c (ix2 b j))
      (fun d => argW m c (ix2 d ⟨1024 * (t.val % 10) + l.val, by omega⟩)) (trow t r) := by
  rw [written]
  refine (product_pay _ _ r l).trans (Finset.sum_congr rfl fun d _ => ?_)
  rw [w_read, congrFun (congrFun (scratch_at m c t.val t.isLt) r) d, hiddenBlock, dif_pos]
  rfl

/-- The kernel's result is the plain sum. -/
theorem kernel_at (r : Fin 32768) (l : Fin 10240) : (Value.G3 m c : FVec Ideal S32768x10240 .bf16) (ix2 r l)
    = projected (fun r d => argX m c (ix2 r d)) (fun b j => argM m c (ix2 b j)) (fun d => argW m c (ix2 d ⟨l.val, by omega⟩)) r := by
  obtain ⟨p, hp⟩ : ∃ p, p = 10 * (r.val / 1024) + l.val / 1024 := ⟨_, rfl⟩
  have hpt : Value.pt3Of (ix2 r l) = p := by
    show 10 * (r.val / 1024 - 0) + 1 * (l.val / 1024 - 0) = _
    omega
  have hlt : p < cfg0.N := by show p < 320; omega
  have hloc : Value.loc3Of (ix2 r l) = ix2 ⟨r.val % 1024, by omega⟩ ⟨l.val % 1024, by omega⟩ := by
    funext a
    apply Fin.ext
    fin_cases a <;> rfl
  have hrow : trow ⟨p, hlt⟩ ⟨r.val % 1024, by omega⟩ = r := by
    refine Eq.trans ?_ (rowOf_div r (by omega))
    unfold trow
    congr 1
    show p / 10 = _
    omega
  have hcol : 1024 * (p % 10) + l.val % 1024 = l.val := by omega
  have key := point_at m c ⟨p, hlt⟩ ⟨r.val % 1024, by omega⟩ ⟨l.val % 1024, by omega⟩
  simp only [hrow, hcol] at key
  refine Eq.trans ?_ key
  unfold Value.G3
  rw [dif_pos (by rw [hpt]; exact hlt), hloc, ← Value.outsAt0_sweep m c _ (by rw [hpt]; exact hlt)]
  simp only [hpt]

/-- The kernel's result is the reference's. -/
theorem results_eq (x : FVec Ideal S32768x2048 .f32) (s : FVec Ideal S4x12288 .f32) (w : FVec Ideal S2048x10304 .f32)
    (hx : x = argX m c) (hs : s = argM m c) (hw : w = argW m c) : ref x s w = Value.G3 m c := by
  subst hx hs hw
  funext i
  rw [show i = ix2 (i 0) (i 1) by funext a; fin_cases a <;> rfl]
  exact (ref_at _ _ _ _ _).trans (kernel_at m c _ _).symm

end Cert.Layer.SsdIn

end
-- ==== Proof.OutProjection.lean ====
/-
  The output projection of the mLSTM and of the gated recurrence, with the residual and the layer norm after it: the
  kernel and the reference compute the same sums.
-/
module

public import proofs.«01_k».proof.Proof.Projection
public import proofs.«01_k».proof.Proof.Gen.OutIdeal.Value
public import proofs.«01_k».proof.Proof.Gen.OutRefIdeal.Run
public import Idealize.ShloMosaic.Lib.Pipeline.ReadBack
public import Idealize.ShloMosaic.Lib.Tactic.CleanTypes

@[expose] public section

set_option maxRecDepth 16384

noncomputable section

namespace Cert.Layer.Out

open Idealize.ShloMosaic Idealize.ShloMosaic.TcCoe Idealize.ShloMosaic.Tactic

section Reference

open Cert.OutRefIdeal Cert.OutRefIdeal.Gen

/-- The reference's mean over the channels. -/
def refMean (Z : FVec Ideal S4x8192x2048 .f32) : FVec Ideal S4x8192x1 .f32 :=
  Host.divf (broadcastInDim S4x8192x1 ![0, 1] bcast_S4x8192_S4x8192x1_0_1 (Host.reduceAdd Z (constant S_ .f32 0x00000000#32) reducesTo_S4x8192x2048_S4x8192_d2 h_S_)) (broadcastInDim S4x8192x1 ![] bcast_S_S4x8192x1 (constant S_ .f32 0x45000000#32))

theorem refMean_at (Z : FVec Ideal S4x8192x2048 .f32) (b : Fin 4) (t : Fin 8192) : refMean Z (ix3 b t 0) = mean (fun d => Z (ix3 b t d)) := by
  unfold refMean mean
  pointwise
  done

/-- The reference's stream less its mean. -/
def refCentred (Z : FVec Ideal S4x8192x2048 .f32) : FVec Ideal S4x8192x2048 .f32 :=
  subf Z (broadcastInDim S4x8192x2048 ![0, 1, 2] bcast_S4x8192x1_S4x8192x2048_0_1_2 (refMean Z))

theorem refCentred_at (Z : FVec Ideal S4x8192x2048 .f32) (b : Fin 4) (t : Fin 8192) (d : Fin 2048) :
    refCentred Z (ix3 b t d) = Z (ix3 b t d) - mean (fun d => Z (ix3 b t d)) := by
  rw [← refMean_at]
  unfold refCentred
  generalize refMean Z = U
  pointwise
  done

/-- The reference's layer norm. -/
def refNorm (Z : FVec Ideal S4x8192x2048 .f32) (g b : FVec Ideal S2048 .f32) : FVec Ideal S32768x2048 .f32 :=
  shapeCast _ (addf (mulf (mulf (refCentred Z) (broadcastInDim S4x8192x2048 ![0, 1, 2] bcast_S4x8192x1_S4x8192x2048_0_1_2 (Host.rsqrt (addf (refMean (mulf (refCentred Z) (refCentred Z))) (broadcastInDim S4x8192x1 ![] bcast_S_S4x8192x1 (constant S_ .f32 0x3727C5AC#32)))))) (broadcastInDim S4x8192x2048 ![0, 1, 2] bcast_S1x1x2048_S4x8192x2048_0_1_2 (broadcastInDim S1x1x2048 ![2] bcast_S2048_S1x1x2048_2 g))) (broadcastInDim S4x8192x2048 ![0, 1, 2] bcast_S1x1x2048_S4x8192x2048_0_1_2 (broadcastInDim S1x1x2048 ![2] bcast_S2048_S1x1x2048_2 b))) shapeCasts_S4x8192x2048_S32768x2048

theorem refNorm_at (Z : FVec Ideal S4x8192x2048 .f32) (g b : FVec Ideal S2048 .f32) (r : Fin 32768) (l : Fin 2048) :
    refNorm Z g b (ix2 r l) = normed (fun d => Z (ix3 (seqOf r) ⟨r.val % 8192, by omega⟩ d)) (g (ix1 l)) (b (ix1 l)) l := by
  have hu := refMean_at (mulf (refCentred Z) (refCentred Z)) (seqOf r) ⟨r.val % 8192, by omega⟩
  have hsq : (fun d => (mulf (refCentred Z) (refCentred Z) : FVec Ideal S4x8192x2048 .f32) (ix3 (seqOf r) ⟨r.val % 8192, by omega⟩ d))
      = fun d => refCentred Z (ix3 (seqOf r) ⟨r.val % 8192, by omega⟩ d) * refCentred Z (ix3 (seqOf r) ⟨r.val % 8192, by omega⟩ d) := rfl
  rw [hsq] at hu
  simp only [refCentred_at] at hu
  have hc := refCentred_at Z (seqOf r) ⟨r.val % 8192, by omega⟩ l
  unfold normed
  rw [← hc, ← hu]
  unfold refNorm
  generalize refMean (mulf (refCentred Z) (refCentred Z)) = U
  generalize refCentred Z = D
  unfold seqOf
  clean_types
  pointwise
  done

/-- The reference's residual. -/
def refResidual (x : FVec Ideal S32768x2048 .f32) (s : FVec Ideal S4x12288 .f32) (p : FVec Ideal S32768x2048 .f32) : FVec Ideal S4x8192x2048 .f32 :=
  addf (mulf (broadcastInDim S4x8192x2048 ![] bcast_S_S4x8192x2048 (constant S_ .f32 0x3FD744FD#32)) (shapeCast _ x shapeCasts_S32768x2048_S4x8192x2048)) (mulf (broadcastInDim S4x8192x2048 ![0, 1, 2] bcast_S4x1x2048_S4x8192x2048_0_1_2 (addf (broadcastInDim S4x1x2048 ![] bcast_S_S4x1x2048 (constant S_ .f32 0x3F800000#32)) (extractStridedSlice S4x1x2048 ![0, 0, 4096] (broadcastInDim S4x1x12288 ![0, 2] bcast_S4x12288_S4x1x12288_0_2 s) slices_S4x1x12288_S4x1x2048_0_0_4096))) (shapeCast _ p shapeCasts_S32768x2048_S4x8192x2048))

theorem refResidual_at (x : FVec Ideal S32768x2048 .f32) (s : FVec Ideal S4x12288 .f32) (p : FVec Ideal S32768x2048 .f32) (r : Fin 32768) (d : Fin 2048) :
    refResidual x s p (ix3 (seqOf r) ⟨r.val % 8192, by omega⟩ d)
      = residual (x (ix2 r d)) (s (ix2 (seqOf r) ⟨4096 + d.val, by omega⟩)) (p (ix2 r d)) := by
  unfold refResidual residual seqOf
  clean_types
  pointwise
  done

/-- The reference's product. -/
def refProduct (y : FVec Ideal S32768x2048 .bf16) (w : FVec Ideal S2048x2048 .f32) : FVec Ideal S32768x2048 .f32 :=
  Host.dotGeneral dot_S32768x2048_S2048x2048_S32768x2048_1_0_0_1_n_n none (extf .f32 y bitsLt_bf16_f32) w

theorem refProduct_at (y : FVec Ideal S32768x2048 .bf16) (w : FVec Ideal S2048x2048 .f32) (r : Fin 32768) (d : Fin 2048) :
    refProduct y w (ix2 r d) = ∑ k : Fin 2048, y (ix2 r k) * w (ix2 k d) := by
  unfold refProduct
  pointwise
  done

/-- The reference's result. -/
def ref (y : FVec Ideal S32768x2048 .bf16) (w : FVec Ideal S2048x2048 .f32) (x : FVec Ideal S32768x2048 .f32) (s : FVec Ideal S4x12288 .f32)
    (g b : FVec Ideal S2048 .f32) : FVec Ideal S32768x2048 .f32 :=
  refNorm (refResidual x s (refProduct y w)) g b

theorem ref_at (y : FVec Ideal S32768x2048 .bf16) (w : FVec Ideal S2048x2048 .f32) (x : FVec Ideal S32768x2048 .f32) (s : FVec Ideal S4x12288 .f32)
    (g b : FVec Ideal S2048 .f32) (r : Fin 32768) (l : Fin 2048) :
    ref y w x s g b (ix2 r l) = afterBlock (fun r k => y (ix2 r k)) (fun k d => w (ix2 k d)) (fun r d => x (ix2 r d)) (fun b j => s (ix2 b j))
      (fun d => g (ix1 d)) (fun d => b (ix1 d)) r l := by
  unfold ref afterBlock
  rw [refNorm_at]
  simp only [refResidual_at, refProduct_at]

theorem ref_eq (m : (ℓ : Loc nD τ sig) → Buf (Elt Ideal) ℓ) (c : Dev nD) : Value.res_out0 m c
    = ref (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := rfl

end Reference

open Cert.OutIdeal Cert.OutIdeal.Gen

variable (m : (ℓ : Loc nD τ sig) → Buf (Elt Ideal) ℓ) (c : Dev nD)

/-- What the kernel's lines compute from its blocks. -/
theorem lines_at (y : FVec Ideal S512x2048 .bf16) (w : FVec Ideal S2048x2048 .bf16) (B : FVec Ideal S1x6x2048 .f32)
    (x : FVec Ideal S512x2048 .f32) (g b : FVec Ideal S1x2048 .f32) (r : Fin 512) (l : Fin 2048) :
    (k0_pay1 (F := Ideal) (k0_pay2 b) (k0_pay3 y w B x g) : FVec Ideal S512x2048 .f32) (ix2 r l)
      = normed (fun d => residual (x (ix2 r d)) (B (ix3 0 2 d)) (∑ k : Fin 2048, y (ix2 r k) * w (ix2 k d))) (g (ix2 0 l)) (b (ix2 0 l)) l := by
  unfold_payloads
  pointwise
  rfl

/-- The call's arguments. -/
abbrev argY : FVec Ideal S32768x2048 .bf16 := m ((c : Thread nD τ).loc main_arg0)
abbrev argW : FVec Ideal S2048x2048 .f32 := m ((c : Thread nD τ).loc main_arg1)
abbrev argX : FVec Ideal S32768x2048 .f32 := m ((c : Thread nD τ).loc main_arg2)
abbrev argM : FVec Ideal S4x12288 .f32 := m ((c : Thread nD τ).loc main_arg3)
abbrev argG : FVec Ideal S2048 .f32 := m ((c : Thread nD τ).loc main_arg4)
abbrev argB : FVec Ideal S2048 .f32 := m ((c : Thread nD τ).loc main_arg5)

/-- The call's result at row `r` and channel `l`. -/
def result (r : Fin 32768) (l : Fin 2048) : EReal :=
  afterBlock (fun r k => argY m c (ix2 r k)) (fun k d => argW m c (ix2 k d)) (fun r d => argX m c (ix2 r d)) (fun b j => argM m c (ix2 b j))
    (fun d => argG m c (ix1 d)) (fun d => argB m c (ix1 d)) r l

section Point

variable (t : Fin cfg0.N)

theorem lt_N : t.val < 64 := lt_of_lt_of_eq t.isLt (show cfg0.N = 64 from N_0)

/-- The row that row `r` of point `t` stands for. -/
def trow (r : Fin 512) : Fin 32768 := ⟨512 * t.val + r.val, by have := lt_N t; omega⟩

/-- Where each window's block lies. -/
theorem idx_in : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 3) = t.val / 16 ∧ win0_3.index t (1 : Fin 3) = 0 ∧ win0_3.index t (2 : Fin 3) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem y_read (r : Fin 512) (k : Fin 2048) : (iblk m c 0 t : FVec Ideal S512x2048 .bf16) (ix2 r k) = argY m c (ix2 (trow t r) k) := by
  obtain ⟨i0, i1, -⟩ := idx_in t
  unfold trow
  blk_ext! [iblk, V, i0, i1]

theorem w_read (k d : Fin 2048) : (iblk m c 1 t : FVec Ideal S2048x2048 .bf16) (ix2 k d) = argW m c (ix2 k d) := by
  obtain ⟨-, -, i0, i1, -⟩ := idx_in t
  blk_ext! [iblk, V, i0, i1]

theorem x_read (r : Fin 512) (d : Fin 2048) : (iblk m c 2 t : FVec Ideal S512x2048 .f32) (ix2 r d) = argX m c (ix2 (trow t r) d) := by
  obtain ⟨-, -, -, -, i0, i1, -⟩ := idx_in t
  unfold trow
  blk_ext! [iblk, V, i0, i1]

theorem gate_read (r : Fin 512) (d : Fin 2048) : (iblk m c 3 t : FVec Ideal S1x6x2048 .f32) (ix3 0 2 d)
    = argM m c (ix2 (seqOf (trow t r)) ⟨4096 + d.val, by omega⟩) := by
  obtain ⟨-, -, -, -, -, -, i0, i1, i2, -⟩ := idx_in t
  rw [show seqOf (trow t r) = ⟨t.val / 16, by have := lt_N t; omega⟩ from
    Fin.ext (by show (512 * t.val + r.val) / 8192 = t.val / 16; omega)]
  blk_ext! [iblk, V, i0, i1, i2]

theorem g_read (d : Fin 2048) : (iblk m c 4 t : FVec Ideal S1x2048 .f32) (ix2 0 d) = argG m c (ix1 d) := by
  obtain ⟨-, -, -, -, -, -, -, -, -, i0, i1, -⟩ := idx_in t
  blk_ext! [iblk, V, i0, i1]

theorem b_read (d : Fin 2048) : (iblk m c 5 t : FVec Ideal S1x2048 .f32) (ix2 0 d) = argB m c (ix1 d) := by
  obtain ⟨-, -, -, -, -, -, -, -, -, -, -, i0, i1, -⟩ := idx_in t
  blk_ext! [iblk, V, i0, i1]

/-- What a point writes. -/
theorem point_at (r : Fin 512) (l : Fin 2048) : (outsAt0 m c t) (ix2 r l) = result m c (trow t r) l := by
  have key : outsAt0 m c t = k0_pay1 (F := Ideal) (k0_pay2 (iblk m c 5 t)) (k0_pay3 (iblk m c 0 t) (iblk m c 1 t) (iblk m c 3 t) (iblk m c 2 t) (iblk m c 4 t)) := by
    unfold outsAt0
    frame_out
  rw [key, lines_at, g_read, b_read]
  unfold result afterBlock
  congr 1
  funext d
  rw [x_read, gate_read m c t r]
  congr 1
  exact Finset.sum_congr rfl fun k _ => by rw [y_read, w_read]

end Point

/-- The whole result. -/
def whole : Buf (Elt Ideal) ((c : Thread nD τ).loc main_v4) := fun i : S32768x2048.Idx => result m c (i 0) (i 1)

theorem written (t : Fin cfg0.N) : (dats m 0 c).flushed 6 t = ((cfg0.win 6).blk t).view.read (Elt Ideal) (whole m c) := by
  rw [Value.flushed6]
  obtain ⟨-, -, -, -, -, -, -, -, -, -, -, -, -, i0, i1⟩ := idx_in t
  funext y
  have e0 : (((cfg0.win 6).blk t).view.emb y 0).val = win0_6.index t (0 : Fin 2) * 512 + 1 * (y 0).val := rfl
  have e1 : (((cfg0.win 6).blk t).view.emb y 1).val = win0_6.index t (1 : Fin 2) * 2048 + 1 * (y 1).val := rfl
  show outsAt0 m c t ((cfg0.win 6).xinj (grid0.coords t) y) = result m c (((cfg0.win 6).blk t).view.emb y 0) (((cfg0.win 6).blk t).view.emb y 1)
  refine (congrArg (outsAt0 m c t) (show _ = ix2 (show Fin 512 from y 0) (show Fin 2048 from y 1) from by
    funext a; apply Fin.ext; fin_cases a <;> rfl)).trans ((point_at m c t _ _).trans ?_)
  congr 1
  · exact Fin.ext (by show 512 * t.val + (y 0).val = _; rw [e0, i0]; omega)
  · exact Fin.ext (by show (y 1).val = _; rw [e1, i1]; omega)

theorem covered (i : S32768x2048.Idx) : ∃ t : Fin cfg0.N, (cfg0.win 6).flush t = true ∧ i ∈ ((cfg0.win 6).blk t).view.set := by
  have h0 : (i 0).val < 32768 := (i 0).isLt
  have h1 : (i 1).val < 2048 := (i 1).isLt
  obtain ⟨t, ht⟩ : ∃ t : Fin cfg0.N, t.val = (i 0).val / 512 := ⟨⟨(i 0).val / 512, by show _ < 64; omega⟩, rfl⟩
  obtain ⟨-, -, -, -, -, -, -, -, -, -, -, -, -, i0, i1⟩ := idx_in t
  refine ⟨t, (by decide +kernel : ∀ t : Fin grid0.N, win0_6.flush t = true) t, ?_⟩
  show i ∈ ((View.whole main_v4).slice (win0_6.rect t)).set
  rw [View.set_slice_whole, Rect.mem_set_unit]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 2048 ≤ (i 1).val ∧ (i 1).val < win0_6.index t (1 : Fin 2) * 2048 + 2048; omega

/-- The kernel's result is the plain sums. -/
theorem final : (dats m 0 c).arrAt 6 cfg0.N = whole m c :=
  (dats m 0 c).arrAt_eq_of_cover 6 _ (fun t _ => written m c t) covered

/-- The kernel's result is the reference's. -/
theorem results_eq (y : FVec Ideal S32768x2048 .bf16) (w : FVec Ideal S2048x2048 .f32) (x : FVec Ideal S32768x2048 .f32) (s : FVec Ideal S4x12288 .f32)
    (g b : FVec Ideal S2048 .f32) (hy : y = argY m c) (hw : w = argW m c) (hx : x = argX m c) (hs : s = argM m c) (hg : g = argG m c)
    (hb : b = argB m c) : ref y w x s g b = whole m c := by
  subst hy hw hx hs hg hb
  funext i
  rw [show i = ix2 (i 0) (i 1) by funext a; fin_cases a <;> rfl]
  exact ref_at _ _ _ _ _ _ _ _

end Cert.Layer.Out

end
-- ==== Proof.SsdOutProjection.lean ====
/-
  The state-space block's output projection, of twice the width, with the residual and the layer norm after it: the
  kernel and the reference compute the same sums.
-/
module

public import proofs.«01_k».proof.Proof.OutProjection
public import proofs.«01_k».proof.Proof.Gen.SsdOutIdeal.Value
public import proofs.«01_k».proof.Proof.Gen.SsdOutRefIdeal.Run

@[expose] public section

set_option maxRecDepth 16384

noncomputable section

namespace Cert.Layer.SsdOut

open Idealize.ShloMosaic Idealize.ShloMosaic.TcCoe Idealize.ShloMosaic.Tactic

section Reference

open Cert.SsdOutRefIdeal Cert.SsdOutRefIdeal.Gen

/-- The reference's product. -/
def refProduct (y : FVec Ideal S32768x4096 .bf16) (w : FVec Ideal S4096x2048 .f32) : FVec Ideal S32768x2048 .f32 :=
  Host.dotGeneral dot_S32768x4096_S4096x2048_S32768x2048_1_0_0_1_n_n none (extf .f32 y bitsLt_bf16_f32) w

theorem refProduct_at (y : FVec Ideal S32768x4096 .bf16) (w : FVec Ideal S4096x2048 .f32) (r : Fin 32768) (d : Fin 2048) :
    refProduct y w (ix2 r d) = ∑ k : Fin 4096, y (ix2 r k) * w (ix2 k d) := by
  unfold refProduct
  pointwise
  done

/-- The reference's result. -/
def ref (y : FVec Ideal S32768x4096 .bf16) (w : FVec Ideal S4096x2048 .f32) (x : FVec Ideal S32768x2048 .f32) (s : FVec Ideal S4x12288 .f32)
    (g b : FVec Ideal S2048 .f32) : FVec Ideal S32768x2048 .f32 :=
  Out.refNorm (Out.refResidual x s (refProduct y w)) g b

theorem ref_at (y : FVec Ideal S32768x4096 .bf16) (w : FVec Ideal S4096x2048 .f32) (x : FVec Ideal S32768x2048 .f32) (s : FVec Ideal S4x12288 .f32)
    (g b : FVec Ideal S2048 .f32) (r : Fin 32768) (l : Fin 2048) :
    ref y w x s g b (ix2 r l) = afterBlock (fun r k => y (ix2 r k)) (fun k d => w (ix2 k d)) (fun r d => x (ix2 r d)) (fun b j => s (ix2 b j))
      (fun d => g (ix1 d)) (fun d => b (ix1 d)) r l := by
  unfold ref afterBlock
  rw [Out.refNorm_at]
  simp only [Out.refResidual_at, refProduct_at]

theorem ref_eq (m : (ℓ : Loc nD τ sig) → Buf (Elt Ideal) ℓ) (c : Dev nD) : Value.res_out0 m c
    = ref (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := rfl

end Reference

open Cert.SsdOutIdeal Cert.SsdOutIdeal.Gen

variable (m : (ℓ : Loc nD τ sig) → Buf (Elt Ideal) ℓ) (c : Dev nD)

/-- What the kernel's lines compute from its blocks. -/
theorem lines_at (y : FVec Ideal S256x4096 .bf16) (w : FVec Ideal S4096x2048 .bf16) (B : FVec Ideal S1x6x2048 .f32)
    (x : FVec Ideal S256x2048 .f32) (g b : FVec Ideal S1x2048 .f32) (r : Fin 256) (l : Fin 2048) :
    (k0_pay1 (F := Ideal) (k0_pay2 b) (k0_pay3 y w B x g) : FVec Ideal S256x2048 .f32) (ix2 r l)
      = normed (fun d => residual (x (ix2 r d)) (B (ix3 0 2 d)) (∑ k : Fin 4096, y (ix2 r k) * w (ix2 k d))) (g (ix2 0 l)) (b (ix2 0 l)) l := by
  unfold_payloads
  pointwise
  rfl

/-- The call's arguments. -/
abbrev argY : FVec Ideal S32768x4096 .bf16 := m ((c : Thread nD τ).loc main_arg0)
abbrev argW : FVec Ideal S4096x2048 .f32 := m ((c : Thread nD τ).loc main_arg1)
abbrev argX : FVec Ideal S32768x2048 .f32 := m ((c : Thread nD τ).loc main_arg2)
abbrev argM : FVec Ideal S4x12288 .f32 := m ((c : Thread nD τ).loc main_arg3)
abbrev argG : FVec Ideal S2048 .f32 := m ((c : Thread nD τ).loc main_arg4)
abbrev argB : FVec Ideal S2048 .f32 := m ((c : Thread nD τ).loc main_arg5)

/-- The call's result at row `r` and channel `l`. -/
def result (r : Fin 32768) (l : Fin 2048) : EReal :=
  afterBlock (fun r k => argY m c (ix2 r k)) (fun k d => argW m c (ix2 k d)) (fun r d => argX m c (ix2 r d)) (fun b j => argM m c (ix2 b j))
    (fun d => argG m c (ix1 d)) (fun d => argB m c (ix1 d)) r l

section Point

variable (t : Fin cfg0.N)

theorem lt_N : t.val < 128 := lt_of_lt_of_eq t.isLt (show cfg0.N = 128 from N_0)

/-- The row that row `r` of point `t` stands for. -/
def trow (r : Fin 256) : Fin 32768 := ⟨256 * t.val + r.val, by have := lt_N t; omega⟩

/-- Where each window's block lies. -/
theorem idx_in : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 3) = t.val / 32 ∧ win0_3.index t (1 : Fin 3) = 0 ∧ win0_3.index t (2 : Fin 3) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem y_read (r : Fin 256) (k : Fin 4096) : (iblk m c 0 t : FVec Ideal S256x4096 .bf16) (ix2 r k) = argY m c (ix2 (trow t r) k) := by
  obtain ⟨i0, i1, -⟩ := idx_in t
  unfold trow
  blk_ext! [iblk, V, i0, i1]

theorem w_read (k : Fin 4096) (d : Fin 2048) : (iblk m c 1 t : FVec Ideal S4096x2048 .bf16) (ix2 k d) = argW m c (ix2 k d) := by
  obtain ⟨-, -, i0, i1, -⟩ := idx_in t
  blk_ext! [iblk, V, i0, i1]

theorem x_read (r : Fin 256) (d : Fin 2048) : (iblk m c 2 t : FVec Ideal S256x2048 .f32) (ix2 r d) = argX m c (ix2 (trow t r) d) := by
  obtain ⟨-, -, -, -, i0, i1, -⟩ := idx_in t
  unfold trow
  blk_ext! [iblk, V, i0, i1]

theorem gate_read (r : Fin 256) (d : Fin 2048) : (iblk m c 3 t : FVec Ideal S1x6x2048 .f32) (ix3 0 2 d)
    = argM m c (ix2 (seqOf (trow t r)) ⟨4096 + d.val, by omega⟩) := by
  obtain ⟨-, -, -, -, -, -, i0, i1, i2, -⟩ := idx_in t
  rw [show seqOf (trow t r) = ⟨t.val / 32, by have := lt_N t; omega⟩ from
    Fin.ext (by show (256 * t.val + r.val) / 8192 = t.val / 32; omega)]
  blk_ext! [iblk, V, i0, i1, i2]

theorem g_read (d : Fin 2048) : (iblk m c 4 t : FVec Ideal S1x2048 .f32) (ix2 0 d) = argG m c (ix1 d) := by
  obtain ⟨-, -, -, -, -, -, -, -, -, i0, i1, -⟩ := idx_in t
  blk_ext! [iblk, V, i0, i1]

theorem b_read (d : Fin 2048) : (iblk m c 5 t : FVec Ideal S1x2048 .f32) (ix2 0 d) = argB m c (ix1 d) := by
  obtain ⟨-, -, -, -, -, -, -, -, -, -, -, i0, i1, -⟩ := idx_in t
  blk_ext! [iblk, V, i0, i1]

/-- What a point writes. -/
theorem point_at (r : Fin 256) (l : Fin 2048) : (outsAt0 m c t) (ix2 r l) = result m c (trow t r) l := by
  have key : outsAt0 m c t = k0_pay1 (F := Ideal) (k0_pay2 (iblk m c 5 t)) (k0_pay3 (iblk m c 0 t) (iblk m c 1 t) (iblk m c 3 t) (iblk m c 2 t) (iblk m c 4 t)) := by
    unfold outsAt0
    frame_out
  rw [key, lines_at, g_read, b_read]
  unfold result afterBlock
  congr 1
  funext d
  rw [x_read, gate_read m c t r]
  congr 1
  exact Finset.sum_congr rfl fun k _ => by rw [y_read, w_read]

end Point

/-- The whole result. -/
def whole : Buf (Elt Ideal) ((c : Thread nD τ).loc main_v4) := fun i : S32768x2048.Idx => result m c (i 0) (i 1)

theorem written (t : Fin cfg0.N) : (dats m 0 c).flushed 6 t = ((cfg0.win 6).blk t).view.read (Elt Ideal) (whole m c) := by
  rw [Value.flushed6]
  obtain ⟨-, -, -, -, -, -, -, -, -, -, -, -, -, i0, i1⟩ := idx_in t
  funext y
  have e0 : (((cfg0.win 6).blk t).view.emb y 0).val = win0_6.index t (0 : Fin 2) * 256 + 1 * (y 0).val := rfl
  have e1 : (((cfg0.win 6).blk t).view.emb y 1).val = win0_6.index t (1 : Fin 2) * 2048 + 1 * (y 1).val := rfl
  show outsAt0 m c t ((cfg0.win 6).xinj (grid0.coords t) y) = result m c (((cfg0.win 6).blk t).view.emb y 0) (((cfg0.win 6).blk t).view.emb y 1)
  refine (congrArg (outsAt0 m c t) (show _ = ix2 (show Fin 256 from y 0) (show Fin 2048 from y 1) from by
    funext a; apply Fin.ext; fin_cases a <;> rfl)).trans ((point_at m c t _ _).trans ?_)
  congr 1
  · exact Fin.ext (by show 256 * t.val + (y 0).val = _; rw [e0, i0]; omega)
  · exact Fin.ext (by show (y 1).val = _; rw [e1, i1]; omega)

theorem covered (i : S32768x2048.Idx) : ∃ t : Fin cfg0.N, (cfg0.win 6).flush t = true ∧ i ∈ ((cfg0.win 6).blk t).view.set := by
  have h0 : (i 0).val < 32768 := (i 0).isLt
  have h1 : (i 1).val < 2048 := (i 1).isLt
  obtain ⟨t, ht⟩ : ∃ t : Fin cfg0.N, t.val = (i 0).val / 256 := ⟨⟨(i 0).val / 256, by show _ < 128; omega⟩, rfl⟩
  obtain ⟨-, -, -, -, -, -, -, -, -, -, -, -, -, i0, i1⟩ := idx_in t
  refine ⟨t, (by decide +kernel : ∀ t : Fin grid0.N, win0_6.flush t = true) t, ?_⟩
  show i ∈ ((View.whole main_v4).slice (win0_6.rect t)).set
  rw [View.set_slice_whole, Rect.mem_set_unit]
  intro a
  match a with
  | ⟨0, _⟩ => show win0_6.index t (0 : Fin 2) * 256 ≤ (i 0).val ∧ (i 0).val < win0_6.index t (0 : Fin 2) * 256 + 256; omega
  | ⟨1, _⟩ => show win0_6.index t (1 : Fin 2) * 2048 ≤ (i 1).val ∧ (i 1).val < win0_6.index t (1 : Fin 2) * 2048 + 2048; omega

/-- The kernel's result is the plain sums. -/
theorem final : (dats m 0 c).arrAt 6 cfg0.N = whole m c :=
  (dats m 0 c).arrAt_eq_of_cover 6 _ (fun t _ => written m c t) covered

/-- The kernel's result is the reference's. -/
theorem results_eq (y : FVec Ideal S32768x4096 .bf16) (w : FVec Ideal S4096x2048 .f32) (x : FVec Ideal S32768x2048 .f32) (s : FVec Ideal S4x12288 .f32)
    (g b : FVec Ideal S2048 .f32) (hy : y = argY m c) (hw : w = argW m c) (hx : x = argX m c) (hs : s = argM m c) (hg : g = argG m c)
    (hb : b = argB m c) : ref y w x s g b = whole m c := by
  subst hy hw hx hs hg hb
  funext i
  rw [show i = ix2 (i 0) (i 1) by funext a; fin_cases a <;> rfl]
  exact ref_at _ _ _ _ _ _ _ _

end Cert.Layer.SsdOut

end
-- ==== Proof.Convolution.lean ====
/-
  The SSD block's causal convolution: the tiled kernel and the reference compute the same sums.
-/
module

public import proofs.«01_k».proof.Proof.Projection
public import proofs.«01_k».proof.Proof.Gen.ConvIdeal.Value
public import proofs.«01_k».proof.Proof.Gen.ConvRefIdeal.Run
public import Idealize.ShloMosaic.Lib.Tactic.CleanTypes

@[expose] public section

set_option maxRecDepth 16384

noncomputable section

namespace Cert.Layer.Conv

open Idealize.ShloMosaic Idealize.ShloMosaic.TcCoe Idealize.ShloMosaic.Tactic

/-! ## The convolution in plain sums -/

/-- A value times its logistic. -/
def swish (y : EReal) : EReal := y * Ideal.div 1 (1 + Ideal.exp (-y))

/-- Channel `l` of the row `3 - k` before row `r`: zero before the sequence's start. -/
def past (X : Fin 32768 → Fin 10240 → EReal) (r : Fin 32768) (k : Fin 4) (l : Fin 6144) : EReal :=
  if r.val % 8192 + k.val < 3 then 0 else X ⟨r.val + k.val - 3, by omega⟩ ⟨4096 + l.val, by omega⟩

/-- The convolution of channel `l` at row `r`, with its bias, through the swish. -/
def convolved (X : Fin 32768 → Fin 10240 → EReal) (W : Fin 4 → Fin 6144 → EReal) (b : Fin 6144 → EReal) (r : Fin 32768) (l : Fin 6144) : EReal :=
  swish (past X r 0 l * W 0 l + past X r 1 l * W 1 l + past X r 2 l * W 2 l + past X r 3 l * W 3 l + b l)

section Reference

open Cert.ConvRefIdeal Cert.ConvRefIdeal.Gen

/-- The reference's rows, three of zeros before each sequence. -/
def refPast (x : FVec Ideal S32768x10240 .bf16) : FVec Ideal S4x8195x6144 .f32 :=
  concatenate S4x8195x6144 1 [⟨S4x3x6144, (broadcastInDim S4x3x6144 ![] bcast_S_S4x3x6144 (constant S_ .f32 0x00000000#32))⟩, ⟨S4x8192x6144, (extf .f32 (extractStridedSlice S4x8192x6144 ![0, 0, 4096] (shapeCast _ x shapeCasts_S32768x10240_S4x8192x10240) slices_S4x8192x10240_S4x8192x6144_0_0_4096) bitsLt_bf16_f32)⟩] concatenates_S4x3x6144_S4x8192x6144_S4x8195x6144_d1

theorem refPast_at (x : FVec Ideal S32768x10240 .bf16) (r : Fin 32768) (k : Fin 4) (l : Fin 6144) :
    refPast x (ix3 (seqOf r) ⟨r.val % 8192 + k.val, by omega⟩ l) = past (fun r j => x (ix2 r j)) r k l := by
  unfold refPast past seqOf
  clean_types
  pointwise
  by_cases h : r.val % 8192 + k.val < 3
  · rw [dif_pos h, if_pos h]
  · rw [dif_neg h, if_neg h]
    congr 2
    apply Fin.ext
    show r.val / 8192 * 8192 + (r.val % 8192 + k.val - 3) = r.val + k.val - 3
    omega

/-- A row of channels at every row. -/
def refRow (v : FVec Ideal S6144 .f32) : FVec Ideal S4x8192x6144 .f32 :=
  broadcastInDim S4x8192x6144 ![0, 1, 2] bcast_S1x1x6144_S4x8192x6144_0_1_2 (broadcastInDim S1x1x6144 ![2] bcast_S6144_S1x1x6144_2 v)

/-- The reference's sums, from its rows. -/
def refSums (P : FVec Ideal S4x8195x6144 .f32) (w : FVec Ideal S4x1x6144 .f32) (b : FVec Ideal S6144 .f32) : FVec Ideal S4x8192x6144 .f32 :=
  addf (addf (addf (addf (mulf (extractStridedSlice S4x8192x6144 ![0, 0, 0] P slices_S4x8195x6144_S4x8192x6144_0_0_0) (refRow (shapeCast _ (extractStridedSlice S1x1x6144 ![0, 0, 0] w slices_S4x1x6144_S1x1x6144_0_0_0) shapeCasts_S1x1x6144_S6144))) (mulf (extractStridedSlice S4x8192x6144 ![0, 1, 0] P slices_S4x8195x6144_S4x8192x6144_0_1_0) (refRow (shapeCast _ (extractStridedSlice S1x1x6144 ![1, 0, 0] w slices_S4x1x6144_S1x1x6144_1_0_0) shapeCasts_S1x1x6144_S6144)))) (mulf (extractStridedSlice S4x8192x6144 ![0, 2, 0] P slices_S4x8195x6144_S4x8192x6144_0_2_0) (refRow (shapeCast _ (extractStridedSlice S1x1x6144 ![2, 0, 0] w slices_S4x1x6144_S1x1x6144_2_0_0) shapeCasts_S1x1x6144_S6144)))) (mulf (extractStridedSlice S4x8192x6144 ![0, 3, 0] P slices_S4x8195x6144_S4x8192x6144_0_3_0) (refRow (shapeCast _ (extractStridedSlice S1x1x6144 ![3, 0, 0] w slices_S4x1x6144_S1x1x6144_3_0_0) shapeCasts_S1x1x6144_S6144)))) (refRow b)

theorem refSums_at (P : FVec Ideal S4x8195x6144 .f32) (w : FVec Ideal S4x1x6144 .f32) (b : FVec Ideal S6144 .f32) (q : Fin 4) (t : Fin 8192) (l : Fin 6144) :
    refSums P w b (ix3 q t l) = P (ix3 q ⟨t.val + 0, by omega⟩ l) * w (ix3 0 0 l) + P (ix3 q ⟨t.val + 1, by omega⟩ l) * w (ix3 1 0 l)
      + P (ix3 q ⟨t.val + 2, by omega⟩ l) * w (ix3 2 0 l) + P (ix3 q ⟨t.val + 3, by omega⟩ l) * w (ix3 3 0 l) + b (ix1 l) := by
  unfold refSums refRow
  pointwise
  simp only [Nat.add_comm t.val]

/-- The reference's result from its sums. -/
def refSwish (S : FVec Ideal S4x8192x6144 .f32) : FVec Ideal S32768x6144 .bf16 :=
  truncf .bf16 (shapeCast _ (mulf S (Host.divf (broadcastInDim S4x8192x6144 ![] bcast_S_S4x8192x6144 (constant S_ .f32 0x3F800000#32)) (addf (broadcastInDim S4x8192x6144 ![] bcast_S_S4x8192x6144 (constant S_ .f32 0x3F800000#32)) (Host.exp (Host.negf S))))) shapeCasts_S4x8192x6144_S32768x6144) bitsLt_bf16_f32

theorem refSwish_at (S : FVec Ideal S4x8192x6144 .f32) (r : Fin 32768) (l : Fin 6144) :
    refSwish S (ix2 r l) = swish (S (ix3 (seqOf r) ⟨r.val % 8192, by omega⟩ l)) := by
  unfold refSwish swish seqOf
  clean_types
  pointwise
  done

/-- The reference's result. -/
def ref (x : FVec Ideal S32768x10240 .bf16) (w : FVec Ideal S4x1x6144 .f32) (b : FVec Ideal S6144 .f32) : FVec Ideal S32768x6144 .bf16 :=
  refSwish (refSums (refPast x) w b)

theorem ref_at (x : FVec Ideal S32768x10240 .bf16) (w : FVec Ideal S4x1x6144 .f32) (b : FVec Ideal S6144 .f32) (r : Fin 32768) (l : Fin 6144) :
    ref x w b (ix2 r l) = convolved (fun r j => x (ix2 r j)) (fun k j => w (ix3 k 0 j)) (fun j => b (ix1 j)) r l := by
  unfold ref convolved
  rw [refSwish_at, refSums_at]
  simp only [← refPast_at]
  rfl

theorem ref_eq (m : (ℓ : Loc nD τ sig) → Buf (Elt Ideal) ℓ) (c : Dev nD) : Value.res_out0 m c
    = ref (m ((c.tc : Thread nD τ).loc main_arg0)) (m ((c.tc : Thread nD τ).loc main_arg1)) (m ((c.tc : Thread nD τ).loc main_arg2)) := rfl

end Reference

open Cert.ConvIdeal Cert.ConvIdeal.Gen

/-- What the kernel's lines compute from the rows `C`, sixteen of them before its own. -/
theorem lines_at (i : grid0.Coords) (x : FVec Ideal S512x512 .bf16) (h : FVec Ideal S16x512 .bf16) (b w0 w1 w2 w3 : FVec Ideal S1x512 .f32)
    (r l : Fin 512) (C : Fin 528 → EReal) (hC : ∀ q, (k0_pay2 (F := Ideal) i x h : FVec Ideal S528x512 .f32) (ix2 q l) = C q) :
    (k0_pay1 (F := Ideal) (k0_pay2 i x h) (k0_pay3 i x h b w0 w1) (k0_pay4 i x h) w2 w3 : FVec Ideal S512x512 .bf16) (ix2 r l)
      = swish (C ⟨13 + r.val, by omega⟩ * w0 (ix2 0 l) + C ⟨14 + r.val, by omega⟩ * w1 (ix2 0 l) + C ⟨15 + r.val, by omega⟩ * w2 (ix2 0 l)
        + C ⟨16 + r.val, by omega⟩ * w3 (ix2 0 l) + b (ix2 0 l)) := by
  have e : C ⟨13 + r.val, by omega⟩ * w0 (ix2 0 l) + C ⟨14 + r.val, by omega⟩ * w1 (ix2 0 l) + C ⟨15 + r.val, by omega⟩ * w2 (ix2 0 l)
      + C ⟨16 + r.val, by omega⟩ * w3 (ix2 0 l) + b (ix2 0 l)
    = b (ix2 0 l) + w0 (ix2 0 l) * C ⟨13 + r.val, by omega⟩ + w1 (ix2 0 l) * C ⟨14 + r.val, by omega⟩ + w2 (ix2 0 l) * C ⟨15 + r.val, by omega⟩
      + w3 (ix2 0 l) * C ⟨16 + r.val, by omega⟩ := by
    simp only [mul_comm (w0 _), mul_comm (w1 _), mul_comm (w2 _), mul_comm (w3 _)]
    abel
  rw [e]
  unfold k0_pay1 k0_pay3 k0_pay4
  generalize k0_pay2 (F := Ideal) i x h = D at hC
  pointwise
  simp only [hC, zero_sub, show (16 + r.val + 528 - 3) % 528 = 13 + r.val by omega, show (16 + r.val + 528 - 2) % 528 = 14 + r.val by omega,
    show (16 + r.val + 528 - 1) % 528 = 15 + r.val by omega]
  rfl

/-- The weights' rows. -/
theorem row_at (w : FVec Ideal S4x512 .f32) (l : Fin 512) : (View.ld (Val := Elt Ideal) (e' := .f32) w r0_3 : FVec Ideal S1x512 .f32) (ix2 0 l) = w (ix2 0 l)
    ∧ (View.ld (Val := Elt Ideal) (e' := .f32) w r0_4 : FVec Ideal S1x512 .f32) (ix2 0 l) = w (ix2 1 l)
    ∧ (View.ld (Val := Elt Ideal) (e' := .f32) w r0_5 : FVec Ideal S1x512 .f32) (ix2 0 l) = w (ix2 2 l)
    ∧ (View.ld (Val := Elt Ideal) (e' := .f32) w r0_6 : FVec Ideal S1x512 .f32) (ix2 0 l) = w (ix2 3 l) := by
  refine ⟨?_, ?_, ?_, ?_⟩ <;>
  · refine congrArg w ?_
    funext a
    apply Fin.ext
    fin_cases a
    · rfl
    · show 0 + 1 * l.val = l.val
      omega

/-- Whether a block of rows is its sequence's first, as the kernel computes it. -/
theorem first_at : ∀ n : Fin 64, (Scalar.cmpi CmpIPredicate.eq
          (Scalar.select
            (Scalar.andi
              (Scalar.xori
                (Scalar.cmpi CmpIPredicate.slt
                  (Scalar.remsi (BitVec.ofNat 32 n.val)
                    (Scalar.select (Scalar.cmpi CmpIPredicate.eq 16#32 0#32) 1#32 16#32))
                  0#32)
                (Scalar.cmpi CmpIPredicate.slt (Scalar.select (Scalar.cmpi CmpIPredicate.eq 16#32 0#32) 1#32 16#32)
                  0#32))
              (Scalar.cmpi CmpIPredicate.ne
                (Scalar.remsi (BitVec.ofNat 32 n.val)
                  (Scalar.select (Scalar.cmpi CmpIPredicate.eq 16#32 0#32) 1#32 16#32))
                0#32))
            (Scalar.addi
              (Scalar.remsi (BitVec.ofNat 32 n.val)
                (Scalar.select (Scalar.cmpi CmpIPredicate.eq 16#32 0#32) 1#32 16#32))
              (Scalar.select (Scalar.cmpi CmpIPredicate.eq 16#32 0#32) 1#32 16#32))
            (Scalar.remsi (BitVec.ofNat 32 n.val)
              (Scalar.select (Scalar.cmpi CmpIPredicate.eq 16#32 0#32) 1#32 16#32)))
          0#32) = BitVec.ofBool (decide (n.val % 16 = 0)) := by decide +kernel

/-- The rows a point works on: those before its own are zero at its sequence's start. -/
theorem rows_at (i : grid0.Coords) (x : FVec Ideal S512x512 .bf16) (h : FVec Ideal S16x512 .bf16) (r : Fin 528) (l : Fin 512) :
    (k0_pay2 (F := Ideal) i x h : FVec Ideal S528x512 .f32) (ix2 r l)
      = if hr : r.val < 16 then (if (i 0).val % 16 = 0 then 0 else h (ix2 ⟨r.val, hr⟩ l)) else x (ix2 ⟨r.val - 16, by omega⟩ l) := by
  unfold_payloads
  pointwise
  rw [first_at (i 0)]
  split
  · by_cases hz : (i 0).val % 16 = 0
    · rw [if_pos hz, decide_eq_true hz]; rfl
    · rw [if_neg hz, decide_eq_false hz]; rfl
  · rfl

variable (m : (ℓ : Loc nD τ sig) → Buf (Elt Ideal) ℓ) (c : Dev nD)

/-- The call's arguments. -/
abbrev argX : FVec Ideal S32768x10240 .bf16 := m ((c : Thread nD τ).loc main_arg0)
abbrev argW : FVec Ideal S4x1x6144 .f32 := m ((c : Thread nD τ).loc main_arg1)
abbrev argB : FVec Ideal S6144 .f32 := m ((c : Thread nD τ).loc main_arg2)

/-- The call's result at row `r` and channel `l`. -/
def result (r : Fin 32768) (l : Fin 6144) : EReal :=
  convolved (fun r j => argX m c (ix2 r j)) (fun k j => argW m c (ix3 k 0 j)) (fun j => argB m c (ix1 j)) r l

section Point

variable (t : Fin cfg0.N)

theorem lt_N : t.val < 768 := lt_of_lt_of_eq t.isLt (show cfg0.N = 768 from N_0)

/-- The row and the channel that row `r` and lane `l` of point `t` stand for. -/
def trow (r : Fin 512) : Fin 32768 := ⟨512 * (t.val / 12) + r.val, by have := lt_N t; omega⟩
def tcol (l : Fin 512) : Fin 6144 := ⟨512 * (t.val % 12) + l.val, by omega⟩

/-- Where each window's block lies. -/
theorem idx_in : ∀ t : Fin cfg0.N, win0_0.index t (0 : Fin 2) = t.val / 12 ∧ win0_0.index t (1 : Fin 2) = 8 + t.val % 12
    ∧ win0_1.index t (0 : Fin 2) = 32 * (t.val / 12) - 1 ∧ win0_1.index t (1 : Fin 2) = 8 + t.val % 12
    ∧ win0_2.index t (0 : Fin 2) = 0 ∧ win0_2.index t (1 : Fin 2) = t.val % 12
    ∧ win0_3.index t (0 : Fin 2) = 0 ∧ win0_3.index t (1 : Fin 2) = t.val % 12
    ∧ win0_4.index t (0 : Fin 2) = t.val / 12 ∧ win0_4.index t (1 : Fin 2) = t.val % 12 :=
  (by decide +kernel : ∀ t : Fin grid0.N, _)

theorem coord_at : ∀ t : Fin cfg0.N, ((grid0.coords t) 0).val = t.val / 12 := (by decide +kernel : ∀ t : Fin grid0.N, _)

theorem x_read (r l : Fin 512) : (iblk m c 0 t : FVec Ideal S512x512 .bf16) (ix2 r l)
    = argX m c (ix2 (trow t r) ⟨4096 + (tcol t l).val, by omega⟩) := by
  obtain ⟨i0, i1, -⟩ := idx_in t
  unfold trow tcol
  blk_ext! [iblk, V, i0, i1]

theorem halo_read (r : Fin 16) (l : Fin 512) : (iblk m c 1 t : FVec Ideal S16x512 .bf16) (ix2 r l)
    = argX m c (ix2 ⟨16 * (32 * (t.val / 12) - 1) + r.val, by have := lt_N t; omega⟩ ⟨4096 + (tcol t l).val, by omega⟩) := by
  obtain ⟨-, -, i0, i1, -⟩ := idx_in t
  unfold tcol
  blk_ext! [iblk, V, i0, i1]

theorem w_read (k : Fin 4) (l : Fin 512) : (iblk m c 2 t : FVec Ideal S4x512 .f32) (ix2 k l) = argW m c (ix3 k 0 (tcol t l)) := by
  obtain ⟨-, -, -, -, i0, i1, -⟩ := idx_in t
  unfold tcol
  blk_ext! [iblk, V, i0, i1]

theorem b_read (l : Fin 512) : (iblk m c 3 t : FVec Ideal S1x512 .f32) (ix2 0 l) = argB m c (ix1 (tcol t l)) := by
  obtain ⟨-, -, -, -, -, -, i0, i1, -⟩ := idx_in t
  unfold tcol
  blk_ext! [iblk, V, i0, i1]

/-- The rows a point works on are the stream's, and zero before the sequence's start. -/
theorem rows_past (r l : Fin 512) (k : Fin 4) :
    (k0_pay2 (F := Ideal) (grid0.coords t) (iblk m c 0 t) (iblk m c 1 t) : FVec Ideal S528x512 .f32) (ix2 ⟨13 + k.val + r.val, by omega⟩ l)
      = past (fun r j => argX m c (ix2 r j)) (trow t r) k (tcol t l) := by
  have hN := lt_N t
  rw [rows_at, coord_at]
  unfold past
  have hm : (trow t r).val % 8192 = 512 * (t.val / 12 % 16) + r.val := by
    show (512 * (t.val / 12) + r.val) % 8192 = _
    omega
  rw [hm]
  by_cases h1 : 13 + k.val + r.val < 16
  · rw [dif_pos h1]
    by_cases h2 : t.val / 12 % 16 = 0
    · rw [if_pos h2, if_pos (by omega)]
    · rw [if_neg h2, if_neg (by omega), halo_read]
      congr 2
      apply Fin.ext
      show 16 * (32 * (t.val / 12) - 1) + (13 + k.val + r.val) = 512 * (t.val / 12) + r.val + k.val - 3
      omega
  · rw [dif_neg h1, if_neg (by omega), x_read]
    congr 2
    apply Fin.ext
    show 512 * (t.val / 12) + (13 + k.val + r.val - 16) = 512 * (t.val / 12) + r.val + k.val - 3
    omega

/-- What a point writes. -/
theorem point_at (r l : Fin 512) :
    (out0_4 (F := Ideal) (grid0.coords t) (iblk m c 0 t) (iblk m c 1 t) (iblk m c 2 t) (iblk m c 3 t)) (ix2 r l) = result m c (trow t r) (tcol t l) := by
  unfold out0_4
  frame_out
  obtain ⟨h0, h1, h2, h3⟩ := row_at (iblk m c 2 t) l
  refine (lines_at _ _ _ _ _ _ _ _ r l _ (fun _ => rfl)).trans ?_
  rw [h0, h1, h2, h3, w_read, w_read, w_read, w_read, b_read]
  unfold result convolved
  simp only [← rows_past]
  rfl

end Point

/-- The whole result. -/
def whole : Buf (Elt Ideal) ((c : Thread nD τ).loc main_v2) := fun i : S32768x6144.Idx => result m c (i 0) (i 1)

theorem written (t : Fin cfg0.N) : (dats m 0 c).flushed 4 t = ((cfg0.win 4).blk t).view.read (Elt Ideal) (whole m c) := by
  rw [Value.flushed4]
  obtain ⟨-, -, -, -, -, -, -, -, i0, i1⟩ := idx_in t
  funext y
  have e0 : (((cfg0.win 4).blk t).view.emb y 0).val = win0_4.index t (0 : Fin 2) * 512 + 1 * (y 0).val := rfl
  have e1 : (((cfg0.win 4).blk t).view.emb y 1).val = win0_4.index t (1 : Fin 2) * 512 + 1 * (y 1).val := rfl
  show out0_4 (F := Ideal) (grid0.coords t) (iblk m c 0 t) (iblk m c 1 t) (iblk m c 2 t) (iblk m c 3 t) ((cfg0.win 4).xinj (grid0.coords t) y)
    = result m c (((cfg0.win 4).blk t).view.emb y 0) (((cfg0.win 4).blk t).view.emb y 1)
  refine (congrArg (out0_4 (F := Ideal) (grid0.coords t) (iblk m c 0 t) (iblk m c 1 t) (iblk m c 2 t) (iblk m c 3 t))
    (show _ = ix2 (show Fin 512 from y 0) (show Fin 512 from y 1) from by
    funext a; apply Fin.ext; fin_cases a <;> rfl)).trans ((point_at m c t _ _).trans ?_)
  congr 1
  · exact Fin.ext (by show 512 * (t.val / 12) + (y 0).val = _; rw [e0, i0]; omega)
  · exact Fin.ext (by show 512 * (t.val % 12) + (y 1).val = _; rw [e1, i1]; omega)

theorem covered (i : S32768x6144.Idx) : ∃ t : Fin cfg0.N, (cfg0.win 4).flush t = true ∧ i ∈ ((cfg0.win 4).blk t).view.set := by
  have h0 : (i 0).val < 32768 := (i 0).isLt
  have h1 : (i 1).val < 6144 := (i 1).isLt
  obtain ⟨t, ht⟩ : ∃ t : Fin cfg0.N, t.val = 12 * ((i 0).val / 512) + (i 1).val / 512 :=
    ⟨⟨12 * ((i 0).val / 512) + (i 1).val / 512, by show _ < 768; omega⟩, rfl⟩
  obtain ⟨-, -, -, -, -, -, -, -, i0, i1⟩ := idx_in t
  refine ⟨t, (by decide +kernel : ∀ t : Fin grid0.N, win0_4.flush t = true) t, ?_⟩
  show i ∈ ((View.whole main_v2).slice (win0_4.rect t)).set
  rw [View.set_slice_whole, Rect.mem_set_unit]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 512 ≤ (i 1).val ∧ (i 1).val < win0_4.index t (1 : Fin 2) * 512 + 512; omega

/-- The kernel's result is the plain sums. -/
theorem final : (dats m 0 c).arrAt 4 cfg0.N = whole m c :=
  (dats m 0 c).arrAt_eq_of_cover 4 _ (fun t _ => written m c t) covered

/-- The kernel's result is the reference's. -/
theorem results_eq (x : FVec Ideal S32768x10240 .bf16) (w : FVec Ideal S4x1x6144 .f32) (b : FVec Ideal S6144 .f32)
    (hx : x = argX m c) (hw : w = argW m c) (hb : b = argB m c) : ref x w b = whole m c := by
  subst hx hw hb
  funext i
  rw [show i = ix2 (i 0) (i 1) by funext a; fin_cases a <;> rfl]
  exact ref_at _ _ _ _ _

end Cert.Layer.Conv

end
-- ==== Proof.Gates.lean ====
/-
  The projections of the gates: a block's last columns, on lanes padded with zeros to 128.
-/
module

public import proofs.«01_k».proof.Proof.MlstmProjection
public import Idealize.ShloMosaic.Lib.Routing.OpsSet
public import Idealize.ShloMosaic.Lib.Routing.OpsOne

@[expose] public section

set_option maxRecDepth 16384

noncomputable section

namespace Cert.Layer

open Idealize.ShloMosaic Idealize.ShloMosaic.Routing

/-! ## A table written into the corner of another -/

section Corner

variable {R C R' C' w : ℕ} (d : ScatterDims (shape2 R C) (shape1 1) (shape2 R' C')) (hiw : d.insertedWindowDims = [])
    (huw : d.updateWindowDims = [0, 1]) (idx : IVec (shape1 1) w) (hidx : idx = fun _ => 0#w)
include hiw huw hidx

theorem corner_lands (i : Fin R') (j : Fin C') (r : Fin R) (c : Fin C) :
    d.resultIdx? (ix2 i j) idx = some (ix2 r c) ↔ i.val = r.val ∧ j.val = c.val := by
  have hs : ∀ a, d.start (ix2 i j) idx a = 0 := fun a => by
    unfold ScatterDims.start
    split
    · rw [hidx]; simp
    · rfl
  have hk : ∀ a : Fin 2, d.window (ix2 i j) a = (ix2 i j a).val := by
    obtain ⟨uw, iw, sd, iv, wf⟩ := d
    dsimp only at hiw huw
    subst hiw huw
    intro a
    fin_cases a <;> rfl
  refine (resultIdx?_ix2 d (ix2 i j) idx r c).trans ?_
  rw [hs, hs, hk, hk, Int.zero_add, Int.zero_add]
  exact and_congr Int.ofNat_inj Int.ofNat_inj

/-- Inside the corner the result holds the smaller table, elsewhere the larger. -/
theorem corner_at {α : Type} (x0 : (shape2 R C).Idx → α) (upd : (shape2 R' C').Idx → α) (r : Fin R) (c : Fin C) :
    Host.scatter d (fun _ b => b) x0 idx upd (ix2 r c)
      = if h : r.val < R' ∧ c.val < C' then upd (ix2 ⟨r.val, h.1⟩ ⟨c.val, h.2⟩) else x0 (ix2 r c) := by
  split
  · rename_i h
    refine scatter_set_hit d x0 idx upd _ _ (fun k hk => ?_) (ix2 ⟨r.val, h.1⟩ ⟨c.val, h.2⟩)
      ((corner_lands d hiw huw idx hidx _ _ r c).2 ⟨rfl, rfl⟩)
    obtain ⟨i, j, rfl⟩ : ∃ (i : Fin R') (j : Fin C'), k = ix2 i j := ⟨k 0, k 1, ValueIdx.eq_ix2 k⟩
    obtain ⟨h0, h1⟩ := (corner_lands d hiw huw idx hidx _ _ r c).1 hk
    exact congrArg₂ (fun i j => upd (ix2 i j)) (Fin.ext h0) (Fin.ext h1)
  · rename_i h
    refine scatter_set_miss d x0 idx upd _ fun k hk => h ?_
    obtain ⟨i, j, rfl⟩ : ∃ (i : Fin R') (j : Fin C'), k = ix2 i j := ⟨k 0, k 1, ValueIdx.eq_ix2 k⟩
    obtain ⟨h0, h1⟩ := (corner_lands d hiw huw idx hidx _ _ r c).1 hk
    exact ⟨h0 ▸ i.isLt, h1 ▸ j.isLt⟩

/-- Columns written into the first lanes of a table of zeros. -/
theorem columns_at {W : Fin R → Fin C' → EReal} {x0 : (shape2 R C).Idx → EReal} {upd : (shape2 R' C').Idx → EReal} (hR : R' = R)
    (h0 : ∀ r c, x0 (ix2 r c) = 0) (hu : ∀ r c, upd (ix2 r c) = W (Fin.cast hR r) c) (r : Fin R) (c : Fin C) :
    Host.scatter d (fun _ b => b) x0 idx upd (ix2 r c) = if h : c.val < C' then W r ⟨c.val, h⟩ else 0 := by
  subst hR
  refine (corner_at d hiw huw idx hidx x0 upd r c).trans ?_
  by_cases h : c.val < C'
  · rw [dif_pos ⟨r.isLt, h⟩, dif_pos h]
    exact hu r _
  · rw [dif_neg fun q => h q.2, dif_neg h]
    exact h0 r c

end Corner

/-! ## The gates -/

/-- Lane `l` of the gates of row `r`, the gates being the projections by the `n` columns `W`: zero past them. -/
def gate {n : ℕ} (X : Fin 32768 → Fin 2048 → EReal) (M : Fin 4 → Fin 12288 → EReal) (W : Fin 2048 → Fin n → EReal) (r : Fin 32768)
    (l : Fin 128) : EReal :=
  if h : l.val < n then projected X M (fun d => W d ⟨l.val, h⟩) r else 0

/-- The projection by columns padded with zeros is the gates padded with zeros. -/
theorem gate_of_padded {n : ℕ} (X : Fin 32768 → Fin 2048 → EReal) (M : Fin 4 → Fin 12288 → EReal) (W : Fin 2048 → Fin n → EReal)
    (P : Fin 2048 → EReal) (r : Fin 32768) (l : Fin 128) (hP : ∀ d, P d = if h : l.val < n then W d ⟨l.val, h⟩ else 0) :
    projected X M P r = gate X M W r l := by
  unfold gate projected
  split
  · rename_i h
    exact Finset.sum_congr rfl fun d _ => by rw [hP, dif_pos h]
  · rename_i h
    exact Finset.sum_eq_zero fun d _ => by rw [hP, dif_neg h, mul_zero]

end Cert.Layer

end
-- ==== Proof.MlstmGates.lean ====
/-
  The mLSTM block's gate projection: the tiled kernel and the reference compute the same sums.
-/
module

public import proofs.«01_k».proof.Proof.Gates
public import proofs.«01_k».proof.Proof.Gen.MlstmGatesIdeal.Value
public import proofs.«01_k».proof.Proof.Gen.MlstmGatesRefIdeal.Run

@[expose] public section

set_option maxRecDepth 16384

noncomputable section

namespace Cert.Layer.MlstmGates

open Idealize.ShloMosaic Idealize.ShloMosaic.TcCoe Idealize.ShloMosaic.Tactic

section Reference

open Cert.MlstmGatesRefIdeal Cert.MlstmGatesRefIdeal.Gen

/-- The reference's result. -/
def ref (x : FVec Ideal S32768x2048 .f32) (s : FVec Ideal S4x12288 .f32) (w : FVec Ideal S2048x6152 .f32) : FVec Ideal S32768x128 .f32 :=
  concatenate S32768x128 1 [⟨S32768x8, (shapeCast _ (extractStridedSlice S4x8192x8 ![0, 0, 6144] (Host.dotGeneral dot_S4x8192x2048_S2048x6152_S4x8192x6152_2_0_01_1_n_n none (refHidden x s) w) slices_S4x8192x6152_S4x8192x8_0_0_6144) shapeCasts_S4x8192x8_S32768x8)⟩, ⟨S32768x120, (broadcastInDim S32768x120 ![] bcast_S_S32768x120 (constant S_ .f32 0x00000000#32))⟩] concatenates_S32768x8_S32768x120_S32768x128_d1

theorem ref_at (x : FVec Ideal S32768x2048 .f32) (s : FVec Ideal S4x12288 .f32) (w : FVec Ideal S2048x6152 .f32) (r : Fin 32768) (l : Fin 128) :
    ref x s w (ix2 r l) = gate (fun r d => x (ix2 r d)) (fun b j => s (ix2 b j))
      (fun d (l : Fin 8) => w (ix2 d ⟨6144 + l.val, by omega⟩)) r l := by
  unfold ref gate projected
  simp only [← refHidden_at]
  generalize refHidden x s = H
  unfold seqOf
  clean_types
  by_cases h : l.val < 8
  · rw [dif_pos h]
    pointwise
    exact dif_pos h
  · rw [dif_neg h]
    pointwise
    exact dif_neg h

end Reference

open Cert.MlstmGatesIdeal Cert.MlstmGatesIdeal.Gen

variable (m : (ℓ : Loc nD τ sig) → Buf (Elt Ideal) ℓ) (c : Dev nD)

/-- The call's arguments. -/
abbrev argX : FVec Ideal S32768x2048 .f32 := m ((c : Thread nD τ).loc main_arg0)
abbrev argM : FVec Ideal S4x12288 .f32 := m ((c : Thread nD τ).loc main_arg1)
abbrev argW : FVec Ideal S2048x6152 .f32 := m ((c : Thread nD τ).loc main_arg2)

/-- The call's result at row `r` and lane `l`. -/
def result (r : Fin 32768) (l : Fin 128) : EReal :=
  gate (fun r d => argX m c (ix2 r d)) (fun b j => argM m c (ix2 b j)) (fun d (l : Fin 8) => argW m c (ix2 d ⟨6144 + l.val, by omega⟩)) r l

/-- The modulated block times the padded weights. -/
theorem product_pay (h : FVec Ideal S1024x2048 .bf16) (w : FVec Ideal S2048x128 .bf16) (r : Fin 1024) (l : Fin 128) :
    (k0_pay2 (F := Ideal) h w : FVec Ideal S1024x128 .f32) (ix2 r l) = ∑ d : Fin 2048, h (ix2 r d) * w (ix2 d l) := by
  unfold_payloads
  pointwise
  done

/-- A block of the result whose operands hold the row, its shift and scale, and the columns padded with zeros. -/
theorem point_of_reads {n : ℕ} {X : Fin 32768 → Fin 2048 → EReal} {M : Fin 4 → Fin 12288 → EReal} {W : Fin 2048 → Fin n → EReal}
    {s : FVec Ideal S1x6x2048 .f32} {x : FVec Ideal S1024x2048 .f32} {w : FVec Ideal S2048x128 .bf16} {R : Fin 32768} {r : Fin 1024} {l : Fin 128}
    (hx : ∀ d, x (ix2 r d) = X R d) (h0 : ∀ d : Fin 2048, s (ix3 0 0 d) = M (seqOf R) ⟨d.val, by omega⟩)
    (h1 : ∀ d : Fin 2048, s (ix3 0 1 d) = M (seqOf R) ⟨2048 + d.val, by omega⟩)
    (hw : ∀ d, w (ix2 d l) = if h : l.val < n then W d ⟨l.val, h⟩ else 0) :
    (k0_pay2 (F := Ideal) (k0_pay1 (F := Ideal) s x) w : FVec Ideal S1024x128 .f32) (ix2 r l) = gate X M W R l := by
  refine (product_pay _ _ r l).trans (Eq.trans ?_ (gate_of_padded X M W _ R l hw))
  refine Finset.sum_congr rfl fun d _ => congrArg (· * w (ix2 d l)) ((hidden_pay _ _ r d).trans ?_)
  rw [hx, h0, h1]
  rfl

section Point

variable (t : Fin cfg0.N)

theorem lt_N : t.val < 32 := lt_of_lt_of_eq t.isLt (show cfg0.N = 32 from N_0)

/-- Where each window's block lies. -/
theorem idx_in : ∀ t : Fin cfg0.N, win0_0.index t (0 : Fin 2) = t.val ∧ win0_0.index t (1 : Fin 2) = 0
    ∧ win0_1.index t (0 : Fin 3) = t.val / 8 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem x_read (r : Fin 1024) (d : Fin 2048) : (iblk m c 0 t : FVec Ideal S1024x2048 .f32) (ix2 r d) = argX m c (ix2 (rowOf t.val (lt_N t) r) d) := by
  obtain ⟨i0, i1, -⟩ := idx_in t
  unfold rowOf
  blk_ext! [iblk, V, i0, i1]

theorem shift_read (d : Fin 2048) : (iblk m c 1 t : FVec Ideal S1x6x2048 .f32) (ix3 0 0 d)
    = argM m c (ix2 ⟨t.val / 8, by have := lt_N t; omega⟩ ⟨d.val, by omega⟩) := by
  obtain ⟨-, -, i0, i1, i2, -⟩ := idx_in t
  blk_ext! [iblk, V, i0, i1, i2]

theorem scale_read (d : Fin 2048) : (iblk m c 1 t : FVec Ideal S1x6x2048 .f32) (ix3 0 1 d)
    = argM m c (ix2 ⟨t.val / 8, by have := lt_N t; omega⟩ ⟨2048 + d.val, by omega⟩) := by
  obtain ⟨-, -, i0, i1, i2, -⟩ := idx_in t
  blk_ext! [iblk, V, i0, i1, i2]

/-- The padded weights as the call finds them. -/
theorem entry_w : (V m c main_v4 : FVec Ideal S2048x128 .bf16)
    = Host.scatter scatter_S2048x128_S1_S2048x8_01_n_1_0 (fun _ b => b)
      (broadcastInDim S2048x128 ![] bcast_S_S2048x128 (constant (F := Ideal) S_ .bf16 0x0000#16)) (broadcastInDim S1 ![] bcast_S_S1 (constantI S_ 32 0#32))
      (truncf .bf16 (extractStridedSlice S2048x8 ![0, 6144] (argW m c) slices_S2048x6152_S2048x8_0_6144) bitsLt_bf16_f32) := by
  entry_read
  rfl

theorem w_block (d : Fin 2048) (l : Fin 128) : (iblk m c 2 t : FVec Ideal S2048x128 .bf16) (ix2 d l) = (V m c main_v4 : FVec Ideal S2048x128 .bf16) (ix2 d l) := by
  obtain ⟨-, -, -, -, -, i0, i1, -⟩ := idx_in t
  refine congrArg (V m c main_v4) (?_ : ((View.whole main_v4).slice (win0_2.rect t)).emb (ix2 d l) = (ix2 d l : S2048x128.Idx))
  funext a
  apply Fin.ext
  fin_cases a
  · show win0_2.index t (0 : Fin 2) * 2048 + 1 * d.val = d.val
    rw [i0]; omega
  · show win0_2.index t (1 : Fin 2) * 128 + 1 * l.val = l.val
    rw [i1]; omega

theorem w_read (d : Fin 2048) (l : Fin 128) : (iblk m c 2 t : FVec Ideal S2048x128 .bf16) (ix2 d l)
    = if h : l.val < 8 then argW m c (ix2 d ⟨6144 + l.val, by omega⟩) else 0 := by
  rw [w_block, entry_w]
  refine columns_at scatter_S2048x128_S1_S2048x8_01_n_1_0 rfl rfl _ rfl (W := fun d (l : Fin 8) => argW m c (ix2 d ⟨6144 + l.val, by omega⟩)) rfl
    (fun r c => ?_) (fun r c => ?_) d l <;> pointwise
  done

/-- What a point writes. -/
theorem point_at (r : Fin 1024) (l : Fin 128) : (outsAt0 m c t) (ix2 r l) = result m c (rowOf t.val (lt_N t) r) l := by
  have key : outsAt0 m c t = k0_pay2 (F := Ideal) (k0_pay1 (iblk m c 1 t) (iblk m c 0 t)) (iblk m c 2 t) := by
    unfold outsAt0
    frame_out
  rw [key]
  refine point_of_reads (x_read m c t r) (fun d => ?_) (fun d => ?_) fun d => w_read m c t d l
  · rw [shift_read, seqOf_rowOf]
  · rw [scale_read, seqOf_rowOf]

end Point

/-- The whole result. -/
def whole : Buf (Elt Ideal) ((c : Thread nD τ).loc main_v6) := fun i : S32768x128.Idx => result m c (i 0) (i 1)

theorem written (t : Fin cfg0.N) : (dats m 0 c).flushed 3 t = ((cfg0.win 3).blk t).view.read (Elt Ideal) (whole m c) := by
  rw [Value.flushed3]
  obtain ⟨-, -, -, -, -, -, -, i0, i1⟩ := idx_in t
  funext y
  have e0 : (((cfg0.win 3).blk t).view.emb y 0).val = win0_3.index t (0 : Fin 2) * 1024 + 1 * (y 0).val := rfl
  have e1 : (((cfg0.win 3).blk t).view.emb y 1).val = win0_3.index t (1 : Fin 2) * 128 + 1 * (y 1).val := rfl
  show outsAt0 m c t ((cfg0.win 3).xinj (grid0.coords t) y) = result m c (((cfg0.win 3).blk t).view.emb y 0) (((cfg0.win 3).blk t).view.emb y 1)
  refine (congrArg (outsAt0 m c t) (show _ = ix2 (show Fin 1024 from y 0) (show Fin 128 from y 1) from by
    funext a; apply Fin.ext; fin_cases a <;> rfl)).trans ((point_at m c t _ _).trans ?_)
  congr 1
  · exact Fin.ext (by show 1024 * t.val + (y 0).val = _; rw [e0, i0]; omega)
  · exact Fin.ext (by show (y 1).val = _; rw [e1, i1]; omega)

theorem covered (i : S32768x128.Idx) : ∃ t : Fin cfg0.N, (cfg0.win 3).flush t = true ∧ i ∈ ((cfg0.win 3).blk t).view.set := by
  have h0 : (i 0).val < 32768 := (i 0).isLt
  have h1 : (i 1).val < 128 := (i 1).isLt
  obtain ⟨t, ht⟩ : ∃ t : Fin cfg0.N, t.val = (i 0).val / 1024 := ⟨⟨(i 0).val / 1024, by show _ < 32; omega⟩, rfl⟩
  obtain ⟨-, -, -, -, -, -, -, i0, i1⟩ := idx_in t
  refine ⟨t, (by decide +kernel : ∀ t : Fin grid0.N, win0_3.flush t = true) t, ?_⟩
  show i ∈ ((View.whole main_v6).slice (win0_3.rect t)).set
  rw [View.set_slice_whole, Rect.mem_set_unit]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 128 ≤ (i 1).val ∧ (i 1).val < win0_3.index t (1 : Fin 2) * 128 + 128; omega

/-- The kernel's result is the plain sums. -/
theorem final : (dats m 0 c).arrAt 3 cfg0.N = whole m c :=
  (dats m 0 c).arrAt_eq_of_cover 3 _ (fun t _ => written m c t) covered

/-- The kernel's result is the reference's. -/
theorem results_eq (x : FVec Ideal S32768x2048 .f32) (s : FVec Ideal S4x12288 .f32) (w : FVec Ideal S2048x6152 .f32)
    (hx : x = argX m c) (hs : s = argM m c) (hw : w = argW m c) : ref x s w = whole m c := by
  subst hx hs hw
  funext i
  rw [show i = ix2 (i 0) (i 1) by funext a; fin_cases a <;> rfl]
  exact ref_at _ _ _ _ _

end Cert.Layer.MlstmGates

end
-- ==== Proof.SsdDt.lean ====
/-
  The SSD block's step-size projection: the tiled kernel and the reference compute the same sums.
-/
module

public import proofs.«01_k».proof.Proof.MlstmGates
public import proofs.«01_k».proof.Proof.Gen.SsdDtIdeal.Value
public import proofs.«01_k».proof.Proof.Gen.SsdDtRefIdeal.Run

@[expose] public section

set_option maxRecDepth 16384

noncomputable section

namespace Cert.Layer.SsdDt

open Idealize.ShloMosaic Idealize.ShloMosaic.TcCoe Idealize.ShloMosaic.Tactic

section Reference

open Cert.SsdDtRefIdeal Cert.SsdDtRefIdeal.Gen

/-- The reference's result. -/
def ref (x : FVec Ideal S32768x2048 .f32) (s : FVec Ideal S4x12288 .f32) (w : FVec Ideal S2048x10304 .f32) : FVec Ideal S32768x128 .f32 :=
  concatenate S32768x128 1 [⟨S32768x64, (shapeCast _ (extractStridedSlice S4x8192x64 ![0, 0, 10240] (Host.dotGeneral dot_S4x8192x2048_S2048x10304_S4x8192x10304_2_0_01_1_n_n none (refHidden x s) w) slices_S4x8192x10304_S4x8192x64_0_0_10240) shapeCasts_S4x8192x64_S32768x64)⟩, ⟨S32768x64, (broadcastInDim S32768x64 ![] bcast_S_S32768x64 (constant S_ .f32 0x00000000#32))⟩] concatenates_S32768x64_S32768x64_S32768x128_d1

theorem ref_at (x : FVec Ideal S32768x2048 .f32) (s : FVec Ideal S4x12288 .f32) (w : FVec Ideal S2048x10304 .f32) (r : Fin 32768) (l : Fin 128) :
    ref x s w (ix2 r l) = gate (fun r d => x (ix2 r d)) (fun b j => s (ix2 b j))
      (fun d (l : Fin 64) => w (ix2 d ⟨10240 + l.val, by omega⟩)) r l := by
  unfold ref gate projected
  simp only [← refHidden_at]
  generalize refHidden x s = H
  unfold seqOf
  clean_types
  by_cases h : l.val < 64
  · rw [dif_pos h]
    pointwise
    exact dif_pos h
  · rw [dif_neg h]
    pointwise
    exact dif_neg h

end Reference

open Cert.SsdDtIdeal Cert.SsdDtIdeal.Gen

variable (m : (ℓ : Loc nD τ sig) → Buf (Elt Ideal) ℓ) (c : Dev nD)

/-- The call's arguments. -/
abbrev argX : FVec Ideal S32768x2048 .f32 := m ((c : Thread nD τ).loc main_arg0)
abbrev argM : FVec Ideal S4x12288 .f32 := m ((c : Thread nD τ).loc main_arg1)
abbrev argW : FVec Ideal S2048x10304 .f32 := m ((c : Thread nD τ).loc main_arg2)

/-- The call's result at row `r` and lane `l`. -/
def result (r : Fin 32768) (l : Fin 128) : EReal :=
  gate (fun r d => argX m c (ix2 r d)) (fun b j => argM m c (ix2 b j)) (fun d (l : Fin 64) => argW m c (ix2 d ⟨10240 + l.val, by omega⟩)) r l

section Point

variable (t : Fin cfg0.N)

theorem lt_N : t.val < 32 := lt_of_lt_of_eq t.isLt (show cfg0.N = 32 from N_0)

/-- Where each window's block lies. -/
theorem idx_in : ∀ t : Fin cfg0.N, win0_0.index t (0 : Fin 2) = t.val ∧ win0_0.index t (1 : Fin 2) = 0
    ∧ win0_1.index t (0 : Fin 3) = t.val / 8 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem x_read (r : Fin 1024) (d : Fin 2048) : (iblk m c 0 t : FVec Ideal S1024x2048 .f32) (ix2 r d) = argX m c (ix2 (rowOf t.val (lt_N t) r) d) := by
  obtain ⟨i0, i1, -⟩ := idx_in t
  unfold rowOf
  blk_ext! [iblk, V, i0, i1]

theorem shift_read (d : Fin 2048) : (iblk m c 1 t : FVec Ideal S1x6x2048 .f32) (ix3 0 0 d)
    = argM m c (ix2 ⟨t.val / 8, by have := lt_N t; omega⟩ ⟨d.val, by omega⟩) := by
  obtain ⟨-, -, i0, i1, i2, -⟩ := idx_in t
  blk_ext! [iblk, V, i0, i1, i2]

theorem scale_read (d : Fin 2048) : (iblk m c 1 t : FVec Ideal S1x6x2048 .f32) (ix3 0 1 d)
    = argM m c (ix2 ⟨t.val / 8, by have := lt_N t; omega⟩ ⟨2048 + d.val, by omega⟩) := by
  obtain ⟨-, -, i0, i1, i2, -⟩ := idx_in t
  blk_ext! [iblk, V, i0, i1, i2]

/-- The padded weights as the call finds them. -/
theorem entry_w : (V m c main_v4 : FVec Ideal S2048x128 .bf16)
    = Host.scatter scatter_S2048x128_S1_S2048x64_01_n_1_0 (fun _ b => b)
      (broadcastInDim S2048x128 ![] bcast_S_S2048x128 (constant (F := Ideal) S_ .bf16 0x0000#16)) (broadcastInDim S1 ![] bcast_S_S1 (constantI S_ 32 0#32))
      (truncf .bf16 (extractStridedSlice S2048x64 ![0, 10240] (argW m c) slices_S2048x10304_S2048x64_0_10240) bitsLt_bf16_f32) := by
  entry_read
  rfl

theorem w_block (d : Fin 2048) (l : Fin 128) : (iblk m c 2 t : FVec Ideal S2048x128 .bf16) (ix2 d l) = (V m c main_v4 : FVec Ideal S2048x128 .bf16) (ix2 d l) := by
  obtain ⟨-, -, -, -, -, i0, i1, -⟩ := idx_in t
  refine congrArg (V m c main_v4) (?_ : ((View.whole main_v4).slice (win0_2.rect t)).emb (ix2 d l) = (ix2 d l : S2048x128.Idx))
  funext a
  apply Fin.ext
  fin_cases a
  · show win0_2.index t (0 : Fin 2) * 2048 + 1 * d.val = d.val
    rw [i0]; omega
  · show win0_2.index t (1 : Fin 2) * 128 + 1 * l.val = l.val
    rw [i1]; omega

theorem w_read (d : Fin 2048) (l : Fin 128) : (iblk m c 2 t : FVec Ideal S2048x128 .bf16) (ix2 d l)
    = if h : l.val < 64 then argW m c (ix2 d ⟨10240 + l.val, by omega⟩) else 0 := by
  rw [w_block, entry_w]
  refine columns_at scatter_S2048x128_S1_S2048x64_01_n_1_0 rfl rfl _ rfl (W := fun d (l : Fin 64) => argW m c (ix2 d ⟨10240 + l.val, by omega⟩)) rfl
    (fun r c => ?_) (fun r c => ?_) d l <;> pointwise
  done

/-- What a point writes. -/
theorem point_at (r : Fin 1024) (l : Fin 128) : (outsAt0 m c t) (ix2 r l) = result m c (rowOf t.val (lt_N t) r) l := by
  have key : outsAt0 m c t = k0_pay2 (F := Ideal) (k0_pay1 (iblk m c 1 t) (iblk m c 0 t)) (iblk m c 2 t) := by
    unfold outsAt0
    frame_out
  rw [key]
  refine MlstmGates.point_of_reads (x_read m c t r) (fun d => ?_) (fun d => ?_) fun d => w_read m c t d l
  · rw [shift_read, seqOf_rowOf]
  · rw [scale_read, seqOf_rowOf]

end Point

/-- The whole result. -/
def whole : Buf (Elt Ideal) ((c : Thread nD τ).loc main_v6) := fun i : S32768x128.Idx => result m c (i 0) (i 1)

theorem written (t : Fin cfg0.N) : (dats m 0 c).flushed 3 t = ((cfg0.win 3).blk t).view.read (Elt Ideal) (whole m c) := by
  rw [Value.flushed3]
  obtain ⟨-, -, -, -, -, -, -, i0, i1⟩ := idx_in t
  funext y
  have e0 : (((cfg0.win 3).blk t).view.emb y 0).val = win0_3.index t (0 : Fin 2) * 1024 + 1 * (y 0).val := rfl
  have e1 : (((cfg0.win 3).blk t).view.emb y 1).val = win0_3.index t (1 : Fin 2) * 128 + 1 * (y 1).val := rfl
  show outsAt0 m c t ((cfg0.win 3).xinj (grid0.coords t) y) = result m c (((cfg0.win 3).blk t).view.emb y 0) (((cfg0.win 3).blk t).view.emb y 1)
  refine (congrArg (outsAt0 m c t) (show _ = ix2 (show Fin 1024 from y 0) (show Fin 128 from y 1) from by
    funext a; apply Fin.ext; fin_cases a <;> rfl)).trans ((point_at m c t _ _).trans ?_)
  congr 1
  · exact Fin.ext (by show 1024 * t.val + (y 0).val = _; rw [e0, i0]; omega)
  · exact Fin.ext (by show (y 1).val = _; rw [e1, i1]; omega)

theorem covered (i : S32768x128.Idx) : ∃ t : Fin cfg0.N, (cfg0.win 3).flush t = true ∧ i ∈ ((cfg0.win 3).blk t).view.set := by
  have h0 : (i 0).val < 32768 := (i 0).isLt
  have h1 : (i 1).val < 128 := (i 1).isLt
  obtain ⟨t, ht⟩ : ∃ t : Fin cfg0.N, t.val = (i 0).val / 1024 := ⟨⟨(i 0).val / 1024, by show _ < 32; omega⟩, rfl⟩
  obtain ⟨-, -, -, -, -, -, -, i0, i1⟩ := idx_in t
  refine ⟨t, (by decide +kernel : ∀ t : Fin grid0.N, win0_3.flush t = true) t, ?_⟩
  show i ∈ ((View.whole main_v6).slice (win0_3.rect t)).set
  rw [View.set_slice_whole, Rect.mem_set_unit]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 128 ≤ (i 1).val ∧ (i 1).val < win0_3.index t (1 : Fin 2) * 128 + 128; omega

/-- The kernel's result is the plain sums. -/
theorem final : (dats m 0 c).arrAt 3 cfg0.N = whole m c :=
  (dats m 0 c).arrAt_eq_of_cover 3 _ (fun t _ => written m c t) covered

/-- The kernel's result is the reference's. -/
theorem results_eq (x : FVec Ideal S32768x2048 .f32) (s : FVec Ideal S4x12288 .f32) (w : FVec Ideal S2048x10304 .f32)
    (hx : x = argX m c) (hs : s = argM m c) (hw : w = argW m c) : ref x s w = whole m c := by
  subst hx hs hw
  funext i
  rw [show i = ix2 (i 0) (i 1) by funext a; fin_cases a <;> rfl]
  exact ref_at _ _ _ _ _

end Cert.Layer.SsdDt

end
-- ==== Proof.Modulation.lean ====
/-
  The projection of the conditioning that modulates the layers: the tiled kernel and the reference compute the same sums.
-/
module

public import proofs.«01_k».proof.Proof.Gates
public import proofs.«01_k».proof.Proof.Convolution
public import proofs.«01_k».proof.Proof.Gen.AdaIdeal.Value
public import proofs.«01_k».proof.Proof.Gen.AdaRefIdeal.Run

@[expose] public section

set_option maxRecDepth 16384

noncomputable section

namespace Cert.Layer.Ada

open Idealize.ShloMosaic Idealize.ShloMosaic.TcCoe Idealize.ShloMosaic.Tactic

/-- The conditioning on eight rows: the sequences', and zeros. -/
def padded (c : Fin 4 → Fin 2048 → EReal) (r : Fin 8) (k : Fin 2048) : EReal := if h : r.val < 4 then c ⟨r.val, h⟩ k else 0

/-- Column `l` of row `r` of a layer's modulation, from the conditioning and the layer's weights and bias of that column. -/
def modulation (c : Fin 4 → Fin 2048 → EReal) (w : Fin 2048 → EReal) (b : EReal) (r : Fin 8) : EReal :=
  ∑ k, Conv.swish (padded c r k) * w k + b

section Reference

open Cert.AdaRefIdeal Cert.AdaRefIdeal.Gen

/-- The reference's padded conditioning. -/
def refPadded (c : FVec Ideal S4x2048 .f32) : FVec Ideal S8x2048 .f32 :=
  concatenate S8x2048 0 [⟨S4x2048, c⟩, ⟨S4x2048, (broadcastInDim S4x2048 ![] bcast_S_S4x2048 (constant S_ .f32 0x00000000#32))⟩] concatenates_S4x2048_S4x2048_S8x2048_d0

theorem refPadded_at (c : FVec Ideal S4x2048 .f32) (r : Fin 8) (k : Fin 2048) : refPadded c (ix2 r k) = padded (fun b k => c (ix2 b k)) r k := by
  unfold refPadded padded
  pointwise
  done

/-- The reference's conditioning through the swish. -/
def refSwish (P : FVec Ideal S8x2048 .f32) : FVec Ideal S8x2048 .f32 :=
  mulf P (Host.divf (broadcastInDim S8x2048 ![] bcast_S_S8x2048 (constant S_ .f32 0x3F800000#32)) (addf (broadcastInDim S8x2048 ![] bcast_S_S8x2048 (constant S_ .f32 0x3F800000#32)) (Host.exp (Host.negf P))))

theorem refSwish_at (P : FVec Ideal S8x2048 .f32) (r : Fin 8) (k : Fin 2048) : refSwish P (ix2 r k) = Conv.swish (P (ix2 r k)) := by
  unfold refSwish Conv.swish
  pointwise
  done

/-- The reference's modulation of one layer. -/
def refLayer (C : FVec Ideal S8x2048 .f32) (w : FVec Ideal S2048x12288 .f32) (b : FVec Ideal S12288 .f32) : FVec Ideal S1x8x12288 .f32 :=
  broadcastInDim S1x8x12288 ![1, 2] bcast_S8x12288_S1x8x12288_1_2 (addf (Host.dotGeneral dot_S8x2048_S2048x12288_S8x12288_1_0_0_1_n_n none C w) (broadcastInDim S8x12288 ![0, 1] bcast_S1x12288_S8x12288_0_1 (broadcastInDim S1x12288 ![1] bcast_S12288_S1x12288_1 b)))

theorem refLayer_at (C : FVec Ideal S8x2048 .f32) (w : FVec Ideal S2048x12288 .f32) (b : FVec Ideal S12288 .f32) (r : Fin 8) (l : Fin 12288) :
    refLayer C w b (ix3 0 r l) = ∑ k, C (ix2 r k) * w (ix2 k l) + b (ix1 l) := by
  unfold refLayer
  pointwise
  done

/-- The four layers' one above another. -/
def refStack (L0 L1 L2 L3 : FVec Ideal S1x8x12288 .f32) : FVec Ideal S4x8x12288 .f32 :=
  concatenate S4x8x12288 0 [⟨S1x8x12288, L0⟩, ⟨S1x8x12288, L1⟩, ⟨S1x8x12288, L2⟩, ⟨S1x8x12288, L3⟩] concatenates_S1x8x12288_S1x8x12288_S1x8x12288_S1x8x12288_S4x8x12288_d0

theorem refStack_at (L0 L1 L2 L3 : FVec Ideal S1x8x12288 .f32) (i : Fin 4) (r : Fin 8) (l : Fin 12288) :
    refStack L0 L1 L2 L3 (ix3 i r l) = ![L0, L1, L2, L3] i (ix3 0 r l) := by
  unfold refStack
  pointwise
  fin_cases i <;> rfl

/-- The reference's result. -/
def ref (c : FVec Ideal S4x2048 .f32) (w : FVec Ideal S4x2048x12288 .f32) (b : FVec Ideal S4x12288 .f32) : FVec Ideal S4x8x12288 .f32 :=
  refStack
    (refLayer (refSwish (refPadded c)) (shapeCast _ (extractStridedSlice S1x2048x12288 ![0, 0, 0] w slices_S4x2048x12288_S1x2048x12288_0_0_0) shapeCasts_S1x2048x12288_S2048x12288) (shapeCast _ (extractStridedSlice S1x12288 ![0, 0] b slices_S4x12288_S1x12288_0_0) shapeCasts_S1x12288_S12288))
    (refLayer (refSwish (refPadded c)) (shapeCast _ (extractStridedSlice S1x2048x12288 ![1, 0, 0] w slices_S4x2048x12288_S1x2048x12288_1_0_0) shapeCasts_S1x2048x12288_S2048x12288) (shapeCast _ (extractStridedSlice S1x12288 ![1, 0] b slices_S4x12288_S1x12288_1_0) shapeCasts_S1x12288_S12288))
    (refLayer (refSwish (refPadded c)) (shapeCast _ (extractStridedSlice S1x2048x12288 ![2, 0, 0] w slices_S4x2048x12288_S1x2048x12288_2_0_0) shapeCasts_S1x2048x12288_S2048x12288) (shapeCast _ (extractStridedSlice S1x12288 ![2, 0] b slices_S4x12288_S1x12288_2_0) shapeCasts_S1x12288_S12288))
    (refLayer (refSwish (refPadded c)) (shapeCast _ (extractStridedSlice S1x2048x12288 ![3, 0, 0] w slices_S4x2048x12288_S1x2048x12288_3_0_0) shapeCasts_S1x2048x12288_S2048x12288) (shapeCast _ (extractStridedSlice S1x12288 ![3, 0] b slices_S4x12288_S1x12288_3_0) shapeCasts_S1x12288_S12288))

theorem ref_at (c : FVec Ideal S4x2048 .f32) (w : FVec Ideal S4x2048x12288 .f32) (b : FVec Ideal S4x12288 .f32) (i : Fin 4) (r : Fin 8) (l : Fin 12288) :
    ref c w b (ix3 i r l) = modulation (fun b k => c (ix2 b k)) (fun k => w (ix3 i k l)) (b (ix2 i l)) r := by
  unfold ref modulation
  simp only [← refPadded_at, ← refSwish_at]
  generalize refSwish (refPadded c) = C
  rw [refStack_at]
  fin_cases i <;>
  · refine (refLayer_at _ _ _ _ _).trans ?_
    pointwise

theorem ref_eq (m : (ℓ : Loc nD τ sig) → Buf (Elt Ideal) ℓ) (c : Dev nD) : Value.res_out0 m c
    = ref (m ((c.tc : Thread nD τ).loc main_arg0)) (m ((c.tc : Thread nD τ).loc main_arg1)) (m ((c.tc : Thread nD τ).loc main_arg2)) := rfl

end Reference

open Cert.AdaIdeal Cert.AdaIdeal.Gen

/-- What the kernel's lines compute from its blocks. -/
theorem lines_at (c : FVec Ideal S8x2048 .f32) (w : FVec Ideal S1x2048x1536 .f32) (b : FVec Ideal S1x1x1536 .f32) (r : Fin 8) (l : Fin 1536) :
    (k0_pay1 (F := Ideal) c w b : FVec Ideal S1x8x1536 .f32) (ix3 0 r l) = ∑ k, Conv.swish (c (ix2 r k)) * w (ix3 0 k l) + b (ix3 0 0 l) := by
  unfold_payloads
  pointwise
  simp only [zero_sub]
  rfl

variable (m : (ℓ : Loc nD τ sig) → Buf (Elt Ideal) ℓ) (c : Dev nD)

/-- The call's arguments. -/
abbrev argC : FVec Ideal S4x2048 .f32 := m ((c : Thread nD τ).loc main_arg0)
abbrev argW : FVec Ideal S4x2048x12288 .f32 := m ((c : Thread nD τ).loc main_arg1)
abbrev argB : FVec Ideal S4x12288 .f32 := m ((c : Thread nD τ).loc main_arg2)

/-- The call's result at layer `i`, row `r` and column `l`. -/
def result (i : Fin 4) (r : Fin 8) (l : Fin 12288) : EReal :=
  modulation (fun b k => argC m c (ix2 b k)) (fun k => argW m c (ix3 i k l)) (argB m c (ix2 i l)) r

section Point

variable (t : Fin cfg0.N)

theorem lt_N : t.val < 32 := lt_of_lt_of_eq t.isLt (show cfg0.N = 32 from N_0)

/-- The layer of point `t`, and the column that lane `l` of it stands for. -/
def tlayer : Fin 4 := ⟨t.val / 8, by have := lt_N t; omega⟩
def tcol (l : Fin 1536) : Fin 12288 := ⟨1536 * (t.val % 8) + l.val, by omega⟩

/-- Where each window's block lies. -/
theorem idx_in : ∀ t : Fin cfg0.N, win0_0.index t (0 : Fin 2) = 0 ∧ win0_0.index t (1 : Fin 2) = 0
    ∧ win0_1.index t (0 : Fin 3) = t.val / 8 ∧ win0_1.index t (1 : Fin 3) = 0 ∧ win0_1.index t (2 : Fin 3) = t.val % 8
    ∧ win0_2.index t (0 : Fin 3) = t.val / 8 ∧ win0_2.index t (1 : Fin 3) = 0 ∧ win0_2.index t (2 : Fin 3) = t.val % 8
    ∧ win0_3.index t (0 : Fin 3) = t.val / 8 ∧ win0_3.index t (1 : Fin 3) = 0 ∧ win0_3.index t (2 : Fin 3) = t.val % 8 :=
  (by decide +kernel : ∀ t : Fin grid0.N, _)

/-- The padded conditioning as the call finds it. -/
theorem entry_c : (V m c main_v2 : FVec Ideal S8x2048 .f32)
    = Host.scatter scatter_S8x2048_S1_S4x2048_01_n_0_0 (fun _ b => b)
      (broadcastInDim S8x2048 ![] bcast_S_S8x2048 (constant (F := Ideal) S_ .f32 0x00000000#32)) (broadcastInDim S1 ![] bcast_S_S1 (constantI S_ 32 0#32))
      (argC m c) := by
  entry_read
  rfl

theorem c_block (r : Fin 8) (k : Fin 2048) : (iblk m c 0 t : FVec Ideal S8x2048 .f32) (ix2 r k) = (V m c main_v2 : FVec Ideal S8x2048 .f32) (ix2 r k) := by
  obtain ⟨i0, i1, -⟩ := idx_in t
  refine congrArg (V m c main_v2) (?_ : ((View.whole main_v2).slice (win0_0.rect t)).emb (ix2 r k) = (ix2 r k : S8x2048.Idx))
  funext a
  apply Fin.ext
  fin_cases a
  · show win0_0.index t (0 : Fin 2) * 8 + 1 * r.val = r.val
    rw [i0]; omega
  · show win0_0.index t (1 : Fin 2) * 2048 + 1 * k.val = k.val
    rw [i1]; omega

theorem c_read (r : Fin 8) (k : Fin 2048) : (iblk m c 0 t : FVec Ideal S8x2048 .f32) (ix2 r k) = padded (fun b k => argC m c (ix2 b k)) r k := by
  rw [c_block, entry_c]
  refine (corner_at _ rfl rfl _ rfl _ _ r k).trans ?_
  unfold padded
  by_cases h : r.val < 4
  · rw [dif_pos ⟨h, k.isLt⟩, dif_pos h]
  · rw [dif_neg fun q => h q.1, dif_neg h]
    pointwise
    done

theorem w_read (k : Fin 2048) (l : Fin 1536) : (iblk m c 1 t : FVec Ideal S1x2048x1536 .f32) (ix3 0 k l) = argW m c (ix3 (tlayer t) k (tcol t l)) := by
  obtain ⟨-, -, i0, i1, i2, -⟩ := idx_in t
  unfold tlayer tcol
  blk_ext! [iblk, V, i0, i1, i2]

theorem b_read (l : Fin 1536) : (iblk m c 2 t : FVec Ideal S1x1x1536 .f32) (ix3 0 0 l) = argB m c (ix2 (tlayer t) (tcol t l)) := by
  obtain ⟨-, -, -, -, -, i0, i1, i2, -⟩ := idx_in t
  unfold tlayer tcol
  blk_ext! [iblk, V, i0, i1, i2]

/-- What a point writes. -/
theorem point_at (r : Fin 8) (l : Fin 1536) :
    (out0_3 (F := Ideal) (iblk m c 0 t) (iblk m c 1 t) (iblk m c 2 t)) (ix3 0 r l) = result m c (tlayer t) r (tcol t l) := by
  unfold out0_3
  frame_out
  refine (lines_at _ _ _ r l).trans ?_
  rw [b_read]
  exact congrArg (fun s => s + argB m c (ix2 (tlayer t) (tcol t l))) (Finset.sum_congr rfl fun k _ => by rw [c_read, w_read])

end Point

/-- The whole result. -/
def whole : Buf (Elt Ideal) ((c : Thread nD τ).loc main_v4) := fun i : S4x8x12288.Idx => result m c (i 0) (i 1) (i 2)

theorem written (t : Fin cfg0.N) : (dats m 0 c).flushed 3 t = ((cfg0.win 3).blk t).view.read (Elt Ideal) (whole m c) := by
  rw [Value.flushed3]
  obtain ⟨-, -, -, -, -, -, -, -, i0, i1, i2⟩ := idx_in t
  funext y
  have hy : (y 0).val < 1 := (y 0).isLt
  have e0 : (((cfg0.win 3).blk t).view.emb y 0).val = win0_3.index t (0 : Fin 3) * 1 + 1 * (y 0).val := rfl
  have e1 : (((cfg0.win 3).blk t).view.emb y 1).val = win0_3.index t (1 : Fin 3) * 8 + 1 * (y 1).val := rfl
  have e2 : (((cfg0.win 3).blk t).view.emb y 2).val = win0_3.index t (2 : Fin 3) * 1536 + 1 * (y 2).val := rfl
  show out0_3 (F := Ideal) (iblk m c 0 t) (iblk m c 1 t) (iblk m c 2 t) ((cfg0.win 3).xinj (grid0.coords t) y)
    = result m c (((cfg0.win 3).blk t).view.emb y 0) (((cfg0.win 3).blk t).view.emb y 1) (((cfg0.win 3).blk t).view.emb y 2)
  refine (congrArg (out0_3 (F := Ideal) (iblk m c 0 t) (iblk m c 1 t) (iblk m c 2 t))
    (show _ = ix3 (0 : Fin 1) (show Fin 8 from y 1) (show Fin 1536 from y 2) from by
    funext a
    apply Fin.ext
    fin_cases a
    · show (y 0).val = 0
      omega
    · rfl
    · rfl)).trans ((point_at m c t _ _).trans ?_)
  congr 1
  · exact Fin.ext (by show t.val / 8 = _; rw [e0, i0]; omega)
  · exact Fin.ext (by show (y 1).val = _; rw [e1, i1]; omega)
  · exact Fin.ext (by show 1536 * (t.val % 8) + (y 2).val = _; rw [e2, i2]; omega)

theorem covered (i : S4x8x12288.Idx) : ∃ t : Fin cfg0.N, (cfg0.win 3).flush t = true ∧ i ∈ ((cfg0.win 3).blk t).view.set := by
  have h0 : (i 0).val < 4 := (i 0).isLt
  have h1 : (i 1).val < 8 := (i 1).isLt
  have h2 : (i 2).val < 12288 := (i 2).isLt
  obtain ⟨t, ht⟩ : ∃ t : Fin cfg0.N, t.val = 8 * (i 0).val + (i 2).val / 1536 := ⟨⟨8 * (i 0).val + (i 2).val / 1536, by show _ < 32; omega⟩, rfl⟩
  obtain ⟨-, -, -, -, -, -, -, -, i0, i1, i2⟩ := idx_in t
  refine ⟨t, (by decide +kernel : ∀ t : Fin grid0.N, win0_3.flush t = true) t, ?_⟩
  show i ∈ ((View.whole main_v4).slice (win0_3.rect t)).set
  rw [View.set_slice_whole, Rect.mem_set_unit]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 8 ≤ (i 1).val ∧ (i 1).val < win0_3.index t (1 : Fin 3) * 8 + 8; omega
  | ⟨2, _⟩ => show win0_3.index t (2 : Fin 3) * 1536 ≤ (i 2).val ∧ (i 2).val < win0_3.index t (2 : Fin 3) * 1536 + 1536; omega

/-- The kernel's result is the plain sums. -/
theorem final : (dats m 0 c).arrAt 3 cfg0.N = whole m c :=
  (dats m 0 c).arrAt_eq_of_cover 3 _ (fun t _ => written m c t) covered

/-- The kernel's result is the reference's. -/
theorem results_eq (x : FVec Ideal S4x2048 .f32) (w : FVec Ideal S4x2048x12288 .f32) (b : FVec Ideal S4x12288 .f32)
    (hx : x = argC m c) (hw : w = argW m c) (hb : b = argB m c) : ref x w b = whole m c := by
  subst hx hw hb
  funext i
  rw [show i = ix3 (i 0) (i 1) (i 2) by funext a; fin_cases a <;> rfl]
  exact ref_at _ _ _ _ _ _

end Cert.Layer.Ada

end
-- ==== Proof.ExpertWeights.lean ====
/-
  The experts' first weights with their columns sorted: a product with a table of zeros and ones, and the columns themselves.
-/
module

public import proofs.«01_k».proof.Proof.Projection
public import proofs.«01_k».proof.Proof.Gen.W1PrepIdeal.Value
public import proofs.«01_k».proof.Proof.Gen.W1PrepRefIdeal.Run
public import Idealize.ShloMosaic.Lib.Pipeline.ReadBack
public import Idealize.ShloMosaic.Lib.Tactic.CleanTypes

@[expose] public section

set_option maxRecDepth 16384

noncomputable section

namespace Cert.Layer.W1Prep

open Idealize.ShloMosaic Idealize.ShloMosaic.TcCoe Idealize.ShloMosaic.Tactic

/-- The column that stands at place `l` after the sorting: the even columns come first, the odd ones after them. -/
def origin (l : Fin 1024) : Fin 1024 := if h : l.val < 512 then ⟨2 * l.val, by omega⟩ else ⟨1 + 2 * (l.val - 512), by omega⟩

/-- The sorted weights of expert `e` among the layers' experts. -/
def sorted (W : Fin 4 → Fin 32 → Fin 2048 → Fin 1024 → EReal) (e : Fin 128) (d : Fin 2048) (l : Fin 1024) : EReal :=
  W ⟨e.val / 32, by omega⟩ ⟨e.val % 32, by omega⟩ d (origin l)

section Reference

open Cert.W1PrepRefIdeal Cert.W1PrepRefIdeal.Gen

/-- The layers' experts in one row. -/
theorem regrouped_at (w : FVec Ideal S4x32x2048x1024 .f32) (e : Fin 128) (d : Fin 2048) (l : Fin 1024) :
    shapeCast S128x2048x1024 w shapeCasts_S4x32x2048x1024_S128x2048x1024 (ix3 e d l) = w (ix4 ⟨e.val / 32, by omega⟩ ⟨e.val % 32, by omega⟩ d l) := by
  pointwise
  done

/-- The even columns followed by the odd ones. -/
def refSorted (w : FVec Ideal S4x32x2048x1024 .f32) : FVec Ideal S4x32x2048x1024 .f32 :=
  concatenate S4x32x2048x1024 3 [⟨S4x32x2048x512, (Host.slice S4x32x2048x512 ![0, 0, 0, 0] ![1, 1, 1, 2] w slicesBy_S4x32x2048x1024_S4x32x2048x512_0s1_0s1_0s1_0s2)⟩, ⟨S4x32x2048x512, (Host.slice S4x32x2048x512 ![0, 0, 0, 1] ![1, 1, 1, 2] w slicesBy_S4x32x2048x1024_S4x32x2048x512_0s1_0s1_0s1_1s2)⟩] concatenates_S4x32x2048x512_S4x32x2048x512_S4x32x2048x1024_d3

theorem refSorted_at (w : FVec Ideal S4x32x2048x1024 .f32) (i : Fin 4) (j : Fin 32) (d : Fin 2048) (l : Fin 1024) :
    refSorted w (ix4 i j d l) = w (ix4 i j d (origin l)) := by
  unfold refSorted origin
  by_cases h : l.val < 512
  · rw [dif_pos h]
    pointwise
    exact dif_pos h
  · rw [dif_neg h]
    pointwise
    exact dif_neg h

/-- The reference's result. -/
def ref (w : FVec Ideal S4x32x2048x1024 .f32) : FVec Ideal S128x2048x1024 .bf16 :=
  truncf .bf16 (shapeCast _ (refSorted w) shapeCasts_S4x32x2048x1024_S128x2048x1024) bitsLt_bf16_f32

theorem ref_at (w : FVec Ideal S4x32x2048x1024 .f32) (e : Fin 128) (d : Fin 2048) (l : Fin 1024) :
    ref w (ix3 e d l) = sorted (fun i j d l => w (ix4 i j d l)) e d l :=
  (regrouped_at (refSorted w) e d l).trans (refSorted_at w _ _ d l)

end Reference

open Cert.W1PrepIdeal Cert.W1PrepIdeal.Gen

/-- What the kernel's lines compute from its blocks. -/
theorem lines_at (w : FVec Ideal S1x512x1024 .f32) (p : FVec Ideal S1024x1024 .bf16) (r : Fin 512) (l : Fin 1024) :
    (k0_pay1 (F := Ideal) w p : FVec Ideal S1x512x1024 .bf16) (ix3 0 r l) = ∑ k : Fin 1024, w (ix3 0 r k) * p (ix2 k l) := by
  unfold_payloads
  pointwise
  done

variable (m : (ℓ : Loc nD τ sig) → Buf (Elt Ideal) ℓ) (c : Dev nD)

/-- The call's argument. -/
abbrev argW : FVec Ideal S4x32x2048x1024 .f32 := m ((c : Thread nD τ).loc main_arg0)

/-- The call's result at expert `e`, row `d` and column `l`. -/
def result (e : Fin 128) (d : Fin 2048) (l : Fin 1024) : EReal := sorted (fun i j d l => argW m c (ix4 i j d l)) e d l

/-- The number of the column that the table has its one in, as the call computes it. -/
def word : IVec S1024 32 :=
  select (cmpi .slt (iotaInDim S1024 32 0) (broadcastInDim S1024 ![] bcast_S_S1024 (constantI S_ 32 512#32)))
    (muli (broadcastInDim S1024 ![] bcast_S_S1024 (constantI S_ 32 2#32)) (iotaInDim S1024 32 0))
    (addi (muli (broadcastInDim S1024 ![] bcast_S_S1024 (constantI S_ 32 2#32))
      (subi (iotaInDim S1024 32 0) (broadcastInDim S1024 ![] bcast_S_S1024 (constantI S_ 32 512#32))))
      (broadcastInDim S1024 ![] bcast_S_S1024 (constantI S_ 32 1#32)))

theorem word_at (l : Fin 1024) : word (ix1 l) = BitVec.ofNat 32 (origin l).val := by
  unfold word
  pointwise
  revert l
  decide +kernel

/-- Row `k` of the column of the table whose one is at `q`. -/
def unit (k q : Fin 1024) : EReal := if k = q then 1 else 0

/-- The table of zeros and ones, as the call computes it. -/
def table : FVec Ideal S1024x1024 .bf16 :=
  uitofp .bf16 (cmpi .eq
    (broadcastInDim S1024x1024 ![0, 1] bcast_S1024x1_S1024x1024_0_1 (broadcastInDim S1024x1 ![0] bcast_S1024_S1024x1_0 (iotaInDim S1024 32 0)))
    (broadcastInDim S1024x1024 ![0, 1] bcast_S1x1024_S1024x1024_0_1 (broadcastInDim S1x1024 ![1] bcast_S1024_S1x1024_1 word)))

theorem table_at (k l : Fin 1024) : table (ix2 k l) = unit k (origin l) := by
  unfold table unit
  have hw := word_at l
  generalize word = q at hw
  pointwise
  rw [hw]
  have e1 : (FloatOps.uitofp .bf16 (1#1) : Ideal .bf16) = (1 : EReal) := by
    show ((((1#1 : BitVec 1).toNat : ℝ)) : EReal) = 1
    simp
  have e0 : (FloatOps.uitofp .bf16 (0#1) : Ideal .bf16) = (0 : EReal) := by
    show ((((0#1 : BitVec 1).toNat : ℝ)) : EReal) = 0
    simp
  by_cases h : k = origin l
  · rw [if_pos h, h]
    exact Eq.trans (congrArg (FloatOps.uitofp .bf16) (by simp [IntOp.cmpi])) e1
  · rw [if_neg h]
    have hne : (BitVec.ofNat 32 k.val == BitVec.ofNat 32 (origin l).val) = false := by
      refine beq_eq_false_iff_ne.mpr fun q => h (Fin.ext ?_)
      have := congrArg BitVec.toNat q
      simp only [BitVec.toNat_ofNat] at this
      omega
    exact Eq.trans (congrArg (FloatOps.uitofp .bf16) (by simp [IntOp.cmpi, hne])) e0

/-- The operands as the call finds them. -/
theorem entry_p : V m c main_v19 = table := by
  entry_read
  rfl

theorem entry_w : V m c main_v0 = shapeCast S128x2048x1024 (argW m c) shapeCasts_S4x32x2048x1024_S128x2048x1024 := by
  entry_read
  rfl

/-- The product with a column of the table that is one at one place. -/
theorem pick (w : Fin 1024 → EReal) (q : Fin 1024) : ∑ k, w k * unit k q = w q := by
  unfold unit
  rw [Finset.sum_eq_single q (fun k _ hk => by rw [if_neg hk, mul_zero]) (fun h => absurd (Finset.mem_univ q) h), if_pos rfl, mul_one]

section Point

variable (t : Fin cfg0.N)

theorem lt_N : t.val < 512 := lt_of_lt_of_eq t.isLt (show cfg0.N = 512 from N_0)

/-- The expert of point `t`, and the row that row `r` of it stands for. -/
def texpert : Fin 128 := ⟨t.val / 4, by have := lt_N t; omega⟩
def trow (r : Fin 512) : Fin 2048 := ⟨512 * (t.val % 4) + r.val, by omega⟩

/-- Where each window's block lies. -/
theorem idx_in : ∀ t : Fin cfg0.N, win0_0.index t (0 : Fin 3) = t.val / 4 ∧ win0_0.index t (1 : Fin 3) = t.val % 4 ∧ win0_0.index t (2 : Fin 3) = 0
    ∧ win0_1.index t (0 : Fin 2) = 0 ∧ win0_1.index t (1 : Fin 2) = 0
    ∧ win0_2.index t (0 : Fin 3) = t.val / 4 ∧ win0_2.index t (1 : Fin 3) = t.val % 4 ∧ win0_2.index t (2 : Fin 3) = 0 :=
  (by decide +kernel : ∀ t : Fin grid0.N, _)

theorem w_read (r : Fin 512) (k : Fin 1024) : (iblk m c 0 t : FVec Ideal S1x512x1024 .f32) (ix3 0 r k)
    = argW m c (ix4 ⟨(texpert t).val / 32, by omega⟩ ⟨(texpert t).val % 32, by omega⟩ (trow t r) k) := by
  obtain ⟨i0, i1, i2, -⟩ := idx_in t
  refine Eq.trans (congrArg (V m c main_v0) (?_ : ((View.whole main_v0).slice (win0_0.rect t)).emb (ix3 0 r k)
    = (ix3 (texpert t) (trow t r) k : S128x2048x1024.Idx))) ((congrFun (entry_w m c) _).trans ?_)
  · funext a
    apply Fin.ext
    fin_cases a
    · show win0_0.index t (0 : Fin 3) * 1 + 1 * 0 = t.val / 4
      rw [i0]; omega
    · show win0_0.index t (1 : Fin 3) * 512 + 1 * r.val = 512 * (t.val % 4) + r.val
      rw [i1]; omega
    · show win0_0.index t (2 : Fin 3) * 1024 + 1 * k.val = k.val
      rw [i2]; omega
  · exact regrouped_at _ _ _ _

theorem p_read (k l : Fin 1024) : (iblk m c 1 t : FVec Ideal S1024x1024 .bf16) (ix2 k l) = unit k (origin l) := by
  obtain ⟨-, -, -, i0, i1, -⟩ := idx_in t
  refine Eq.trans (congrArg (V m c main_v19) (?_ : ((View.whole main_v19).slice (win0_1.rect t)).emb (ix2 k l) = (ix2 k l : S1024x1024.Idx))) ((congrFun (entry_p m c) _).trans (table_at k l))
  funext a
  apply Fin.ext
  fin_cases a
  · show win0_1.index t (0 : Fin 2) * 1024 + 1 * k.val = k.val
    rw [i0]; omega
  · show win0_1.index t (1 : Fin 2) * 1024 + 1 * l.val = l.val
    rw [i1]; omega

/-- What a point writes. -/
theorem point_at (r : Fin 512) (l : Fin 1024) :
    (out0_2 (F := Ideal) (iblk m c 0 t) (iblk m c 1 t)) (ix3 0 r l) = result m c (texpert t) (trow t r) l := by
  unfold out0_2
  frame_out
  refine (lines_at _ _ r l).trans (Eq.trans (Finset.sum_congr rfl fun k _ => ?_) (pick (fun k => (iblk m c 0 t : FVec Ideal S1x512x1024 .f32) (ix3 0 r k)) (origin l) |>.trans (w_read m c t r (origin l))))
  rw [p_read]

end Point

/-- The whole result. -/
def whole : Buf (Elt Ideal) ((c : Thread nD τ).loc main_v20) := fun i : S128x2048x1024.Idx => result m c (i 0) (i 1) (i 2)

theorem written (t : Fin cfg0.N) : (dats m 0 c).flushed 2 t = ((cfg0.win 2).blk t).view.read (Elt Ideal) (whole m c) := by
  rw [Value.flushed2]
  obtain ⟨-, -, -, -, -, i0, i1, i2⟩ := idx_in t
  funext y
  have hy : (y 0).val < 1 := (y 0).isLt
  have e0 : (((cfg0.win 2).blk t).view.emb y 0).val = win0_2.index t (0 : Fin 3) * 1 + 1 * (y 0).val := rfl
  have e1 : (((cfg0.win 2).blk t).view.emb y 1).val = win0_2.index t (1 : Fin 3) * 512 + 1 * (y 1).val := rfl
  have e2 : (((cfg0.win 2).blk t).view.emb y 2).val = win0_2.index t (2 : Fin 3) * 1024 + 1 * (y 2).val := rfl
  show out0_2 (F := Ideal) (iblk m c 0 t) (iblk m c 1 t) ((cfg0.win 2).xinj (grid0.coords t) y)
    = result m c (((cfg0.win 2).blk t).view.emb y 0) (((cfg0.win 2).blk t).view.emb y 1) (((cfg0.win 2).blk t).view.emb y 2)
  refine (congrArg (out0_2 (F := Ideal) (iblk m c 0 t) (iblk m c 1 t))
    (show _ = ix3 (0 : Fin 1) (show Fin 512 from y 1) (show Fin 1024 from y 2) from by
    funext a
    apply Fin.ext
    fin_cases a
    · show (y 0).val = 0
      omega
    · rfl
    · rfl)).trans ((point_at m c t _ _).trans ?_)
  congr 1
  · exact Fin.ext (by show t.val / 4 = _; rw [e0, i0]; omega)
  · exact Fin.ext (by show 512 * (t.val % 4) + (y 1).val = _; rw [e1, i1]; omega)
  · exact Fin.ext (by show (y 2).val = _; rw [e2, i2]; omega)

theorem covered (i : S128x2048x1024.Idx) : ∃ t : Fin cfg0.N, (cfg0.win 2).flush t = true ∧ i ∈ ((cfg0.win 2).blk t).view.set := by
  have h0 : (i 0).val < 128 := (i 0).isLt
  have h1 : (i 1).val < 2048 := (i 1).isLt
  have h2 : (i 2).val < 1024 := (i 2).isLt
  obtain ⟨t, ht⟩ : ∃ t : Fin cfg0.N, t.val = 4 * (i 0).val + (i 1).val / 512 := ⟨⟨4 * (i 0).val + (i 1).val / 512, by show _ < 512; omega⟩, rfl⟩
  obtain ⟨-, -, -, -, -, i0, i1, i2⟩ := idx_in t
  refine ⟨t, (by decide +kernel : ∀ t : Fin grid0.N, win0_2.flush t = true) t, ?_⟩
  show i ∈ ((View.whole main_v20).slice (win0_2.rect t)).set
  rw [View.set_slice_whole, Rect.mem_set_unit]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 1024 ≤ (i 2).val ∧ (i 2).val < win0_2.index t (2 : Fin 3) * 1024 + 1024; omega

/-- The kernel's result is the sorted weights. -/
theorem final : (dats m 0 c).arrAt 2 cfg0.N = whole m c :=
  (dats m 0 c).arrAt_eq_of_cover 2 _ (fun t _ => written m c t) covered

/-- The kernel's result is the reference's. -/
theorem results_eq (w : FVec Ideal S4x32x2048x1024 .f32) (hw : w = argW m c) : ref w = whole m c := by
  subst hw
  funext i
  rw [show i = ix3 (i 0) (i 1) (i 2) by funext a; fin_cases a <;> rfl]
  exact ref_at _ _ _ _

end Cert.Layer.W1Prep

end
-- ==== Proof.lean ====
/-
  The proof of `Cert.Claim` (proofs.«01_k».proof.Defs). Every kernel and every reference runs, keeps its arguments and ends
  with every semaphore at zero. Over the extended reals the recurrence's kernel and reference end with equal results
  wherever the queries, keys and values are finite: the kernel's result is read in Proof/Kernel.lean and the reference's in
  Proof/Reference.lean, and both are `Cert.Mlstm.result` of the arguments. The projections' kernels and references end with
  equal results on all arguments: both are the plain sums of Proof/Projection.lean. So do the gate projections' (Proof/Gates.lean),
  the convolution's (Proof/Convolution.lean), the modulation's (Proof/Modulation.lean) and the sorted weights' of the experts
  (Proof/ExpertWeights.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.MlstmIn
public import proofs.«01_k».proof.Proof.Gen.MlstmIn.Skeleton
public import proofs.«01_k».proof.Proof.Gen.MlstmIn.Launch
public import proofs.«01_k».proof.Proof.Gen.MlstmIn.Points
public import proofs.«01_k».proof.Proof.Gen.MlstmIn.Frame
public import proofs.«01_k».proof.Proof.Gen.MlstmInIdeal
public import proofs.«01_k».proof.Proof.Gen.MlstmInIdeal.Skeleton
public import proofs.«01_k».proof.Proof.Gen.MlstmInIdeal.Launch
public import proofs.«01_k».proof.Proof.Gen.MlstmInIdeal.Points
public import proofs.«01_k».proof.Proof.Gen.MlstmInIdeal.Frame
public import proofs.«01_k».proof.Proof.Gen.MlstmInIdeal.Value
public import proofs.«01_k».proof.Proof.Gen.MlstmInRefIdeal
public import proofs.«01_k».proof.Proof.Gen.MlstmInRefIdeal.Run
public import proofs.«01_k».proof.Proof.Gen.HgrnIn
public import proofs.«01_k».proof.Proof.Gen.HgrnIn.Skeleton
public import proofs.«01_k».proof.Proof.Gen.HgrnIn.Launch
public import proofs.«01_k».proof.Proof.Gen.HgrnIn.Points
public import proofs.«01_k».proof.Proof.Gen.HgrnIn.Frame
public import proofs.«01_k».proof.Proof.Gen.HgrnInIdeal
public import proofs.«01_k».proof.Proof.Gen.HgrnInIdeal.Skeleton
public import proofs.«01_k».proof.Proof.Gen.HgrnInIdeal.Launch
public import proofs.«01_k».proof.Proof.Gen.HgrnInIdeal.Points
public import proofs.«01_k».proof.Proof.Gen.HgrnInIdeal.Frame
public import proofs.«01_k».proof.Proof.Gen.HgrnInIdeal.Value
public import proofs.«01_k».proof.Proof.Gen.HgrnInRefIdeal
public import proofs.«01_k».proof.Proof.Gen.HgrnInRefIdeal.Run
public import proofs.«01_k».proof.Proof.Gen.SsdIn
public import proofs.«01_k».proof.Proof.Gen.SsdIn.Skeleton
public import proofs.«01_k».proof.Proof.Gen.SsdIn.Launch
public import proofs.«01_k».proof.Proof.Gen.SsdIn.Points
public import proofs.«01_k».proof.Proof.Gen.SsdIn.Frame
public import proofs.«01_k».proof.Proof.Gen.SsdInIdeal
public import proofs.«01_k».proof.Proof.Gen.SsdInIdeal.Skeleton
public import proofs.«01_k».proof.Proof.Gen.SsdInIdeal.Launch
public import proofs.«01_k».proof.Proof.Gen.SsdInIdeal.Points
public import proofs.«01_k».proof.Proof.Gen.SsdInIdeal.Frame
public import proofs.«01_k».proof.Proof.Gen.SsdInIdeal.Value
public import proofs.«01_k».proof.Proof.Gen.SsdInRefIdeal
public import proofs.«01_k».proof.Proof.Gen.SsdInRefIdeal.Run
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Run
public import proofs.«01_k».proof.Proof.Gen.SsdOut
public import proofs.«01_k».proof.Proof.Gen.SsdOut.Skeleton
public import proofs.«01_k».proof.Proof.Gen.SsdOut.Launch
public import proofs.«01_k».proof.Proof.Gen.SsdOut.Points
public import proofs.«01_k».proof.Proof.Gen.SsdOut.Frame
public import proofs.«01_k».proof.Proof.Gen.SsdOutIdeal
public import proofs.«01_k».proof.Proof.Gen.SsdOutIdeal.Skeleton
public import proofs.«01_k».proof.Proof.Gen.SsdOutIdeal.Launch
public import proofs.«01_k».proof.Proof.Gen.SsdOutIdeal.Points
public import proofs.«01_k».proof.Proof.Gen.SsdOutIdeal.Frame
public import proofs.«01_k».proof.Proof.Gen.SsdOutIdeal.Value
public import proofs.«01_k».proof.Proof.Gen.SsdOutRefIdeal
public import proofs.«01_k».proof.Proof.Gen.SsdOutRefIdeal.Run
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvIdeal.Value
public import proofs.«01_k».proof.Proof.Gen.ConvRefIdeal
public import proofs.«01_k».proof.Proof.Gen.ConvRefIdeal.Run
public import proofs.«01_k».proof.Proof.Gen.MlstmGates
public import proofs.«01_k».proof.Proof.Gen.MlstmGates.Skeleton
public import proofs.«01_k».proof.Proof.Gen.MlstmGates.Launch
public import proofs.«01_k».proof.Proof.Gen.MlstmGates.Points
public import proofs.«01_k».proof.Proof.Gen.MlstmGates.Frame
public import proofs.«01_k».proof.Proof.Gen.MlstmGatesIdeal
public import proofs.«01_k».proof.Proof.Gen.MlstmGatesIdeal.Skeleton
public import proofs.«01_k».proof.Proof.Gen.MlstmGatesIdeal.Launch
public import proofs.«01_k».proof.Proof.Gen.MlstmGatesIdeal.Points
public import proofs.«01_k».proof.Proof.Gen.MlstmGatesIdeal.Frame
public import proofs.«01_k».proof.Proof.Gen.MlstmGatesIdeal.Value
public import proofs.«01_k».proof.Proof.Gen.MlstmGatesRefIdeal
public import proofs.«01_k».proof.Proof.Gen.MlstmGatesRefIdeal.Run
public import proofs.«01_k».proof.Proof.Gen.SsdDt
public import proofs.«01_k».proof.Proof.Gen.SsdDt.Skeleton
public import proofs.«01_k».proof.Proof.Gen.SsdDt.Launch
public import proofs.«01_k».proof.Proof.Gen.SsdDt.Points
public import proofs.«01_k».proof.Proof.Gen.SsdDt.Frame
public import proofs.«01_k».proof.Proof.Gen.SsdDtIdeal
public import proofs.«01_k».proof.Proof.Gen.SsdDtIdeal.Skeleton
public import proofs.«01_k».proof.Proof.Gen.SsdDtIdeal.Launch
public import proofs.«01_k».proof.Proof.Gen.SsdDtIdeal.Points
public import proofs.«01_k».proof.Proof.Gen.SsdDtIdeal.Frame
public import proofs.«01_k».proof.Proof.Gen.SsdDtIdeal.Value
public import proofs.«01_k».proof.Proof.Gen.SsdDtRefIdeal
public import proofs.«01_k».proof.Proof.Gen.SsdDtRefIdeal.Run
public import proofs.«01_k».proof.Proof.Gen.Ada
public import proofs.«01_k».proof.Proof.Gen.Ada.Skeleton
public import proofs.«01_k».proof.Proof.Gen.Ada.Launch
public import proofs.«01_k».proof.Proof.Gen.Ada.Points
public import proofs.«01_k».proof.Proof.Gen.Ada.Frame
public import proofs.«01_k».proof.Proof.Gen.AdaIdeal
public import proofs.«01_k».proof.Proof.Gen.AdaIdeal.Skeleton
public import proofs.«01_k».proof.Proof.Gen.AdaIdeal.Launch
public import proofs.«01_k».proof.Proof.Gen.AdaIdeal.Points
public import proofs.«01_k».proof.Proof.Gen.AdaIdeal.Frame
public import proofs.«01_k».proof.Proof.Gen.AdaIdeal.Value
public import proofs.«01_k».proof.Proof.Gen.AdaRefIdeal
public import proofs.«01_k».proof.Proof.Gen.AdaRefIdeal.Run
public import proofs.«01_k».proof.Proof.Gen.W1Prep
public import proofs.«01_k».proof.Proof.Gen.W1Prep.Skeleton
public import proofs.«01_k».proof.Proof.Gen.W1Prep.Launch
public import proofs.«01_k».proof.Proof.Gen.W1Prep.Points
public import proofs.«01_k».proof.Proof.Gen.W1Prep.Frame
public import proofs.«01_k».proof.Proof.Gen.W1PrepIdeal
public import proofs.«01_k».proof.Proof.Gen.W1PrepIdeal.Skeleton
public import proofs.«01_k».proof.Proof.Gen.W1PrepIdeal.Launch
public import proofs.«01_k».proof.Proof.Gen.W1PrepIdeal.Points
public import proofs.«01_k».proof.Proof.Gen.W1PrepIdeal.Frame
public import proofs.«01_k».proof.Proof.Gen.W1PrepIdeal.Value
public import proofs.«01_k».proof.Proof.Gen.W1PrepRefIdeal
public import proofs.«01_k».proof.Proof.Gen.W1PrepRefIdeal.Run
public import proofs.«01_k».proof.Proof.Kernel
public import proofs.«01_k».proof.Proof.Reference
public import Idealize.ShloMosaic.Adequacy
public import Idealize.ShloMosaic.Init
public import proofs.«01_k».proof.Proof.MlstmProjection
public import proofs.«01_k».proof.Proof.HgrnProjection
public import proofs.«01_k».proof.Proof.SsdProjection
public import proofs.«01_k».proof.Proof.OutProjection
public import proofs.«01_k».proof.Proof.SsdOutProjection
public import proofs.«01_k».proof.Proof.Convolution
public import proofs.«01_k».proof.Proof.MlstmGates
public import proofs.«01_k».proof.Proof.SsdDt
public import proofs.«01_k».proof.Proof.Modulation
public import proofs.«01_k».proof.Proof.ExpertWeights

@[expose] public section

noncomputable section

/-! ## The precondition -/

namespace Cert.Pre_qkv_finite

open Idealize.ShloMosaic

instance facts : Facts where
  slices_S32768x6144_S32768x4096_0_0 := by decide
  bitsLt_bf16_f32 := by decide
  bcast_S_S32768x4096 := by decide

theorem fn_at (x : FVec Ideal S32768x6144 .bf16) (a : FVec Ideal S32768x128 .f32) (b : FVec Ideal S8 .f32) (n : FVec Ideal S2048 .f32)
    (r : Fin 32768) (l : Fin 4096) :
    fn (F := Ideal) x a b n (ix2 r l) = FloatOps.cmpf (F := Ideal) (φ := .f32) .olt
      (FloatOps.hostAbsf (F := Ideal) (φ := .f32) (x (ix2 r ⟨l.val, by omega⟩))) (Ideal.ofBits .f32 0x7F800000#32) := by
  unfold fn
  pointwise

end Cert.Pre_qkv_finite

namespace Cert.Proof

open Idealize.ShloMosaic Idealize.SL.Sem

/-- A value whose magnitude lies under plus infinity is a real number. -/
theorem finite_of_lt (y : EReal) (h : FloatOps.cmpf (F := Ideal) (φ := .f32) .olt (FloatOps.hostAbsf (F := Ideal) (φ := .f32) y)
    (Ideal.ofBits .f32 0x7F800000#32) = 1#1) : y ≠ ⊥ ∧ y ≠ ⊤ := by
  have ht : Ideal.ofBits .f32 0x7F800000#32 = ⊤ := by simp [Ideal.ofBits, Ideal.ieee]
  have hlt : max y (-y) < ⊤ := by
    by_contra hn
    rw [ht] at h
    have h' : BitVec.ofBool (decide (max y (-y) < ⊤)) = 1#1 := h
    rw [decide_eq_false hn] at h'
    exact absurd h' (by decide)
  constructor
  · rintro rfl
    simp at hlt
  · rintro rfl
    simp at hlt

/-- The precondition says that the queries, keys and values are real numbers. -/
theorem finite_of_pre (m : (ℓ : Loc Cert.KernelIdeal.nD Cert.KernelIdeal.τ Cert.KernelIdeal.sig) → Buf (Elt Ideal) ℓ)
    (hpre : Cert.Pre_KernelIdeal_qkv_finite m) (c : Dev Cert.KernelIdeal.nD) : Cert.Mlstm.Finite (Cert.Mlstm.Ker.argX m c) := by
  intro r l hl
  have h := congrFun (hpre c) (ix2 r (⟨l.val, hl⟩ : Fin 4096))
  rw [Cert.Pre_qkv_finite.fn_at] at h
  exact finite_of_lt _ h

/-- The reference's own run, read at its arguments; it declares no semaphore. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

open Cert.Mlstm Idealize.ShloMosaic.StableHlo in
/-- From memories that agree on the arguments, the two results are the same array. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hx : Finite (Ker.argX m c)) (h0 : Ref.argX m' c = Ker.argX m c) (h1 : Ref.argAux m' c = Ker.argAux m c)
    (h2 : Ref.argBias m' c = Ker.argBias m c) (h3 : Ref.argNorm m' c = Ker.argNorm m c) :
    (Cert.ReferenceIdeal.Value.out_main_v71 (F := Ideal) (Cert.ReferenceIdeal.Value.STEP^[128] (entryContents Cert.ReferenceIdeal.Value.preI m' c))
      : FVec Ideal Cert.KernelIdeal.S32768x2048 .bf16) = Cert.KernelIdeal.Value.G7 m c := by
  funext i
  rw [show i = ix2 (i 0 : Fin 32768) (i 1 : Fin 2048) by funext a; fin_cases a <;> rfl]
  refine (Ref.out_at m' c (h0 ▸ hx) _ _).trans (Eq.trans ?_ (Ker.result_at m c hx _ _).symm)
  rw [h0, h1, h2, h3]

theorem algebraic : Cert.algebraic_KernelIdeal_ReferenceIdeal_pre_qkv_finite := fun m ρ m' ρ' hpre hagree =>
  ⟨fun c => Cert.KernelIdeal.Value.G7 m c, Cert.KernelIdeal.Value.run (F := Ideal) m ρ,
    (θ_run Cert.ReferenceIdeal.defs _ _).mono (fun _ h c => ⟨(h c).1.trans (results_eq m m' c (finite_of_pre m hpre c)
        (hagree c).1 (hagree c).2.1 (hagree c).2.2.1 (hagree c).2.2.2), (h c).2⟩)
      (Cert.ReferenceIdeal.Value.run (F := Ideal) m' ρ')⟩

theorem frame_mlstmInRef : Cert.quiescent_MlstmInRefIdeal := fun m ρ _ =>
  (θ_run Cert.MlstmInRefIdeal.defs _ _).mono (fun r h => ⟨fun c => (h c).2, Idealize.ShloMosaic.sem_eq_zero_of_no_sems (by decide) r.2⟩)
    (Cert.MlstmInRefIdeal.Value.run (F := Ideal) m ρ)

theorem algebraic_mlstmIn : Cert.algebraic_MlstmInIdeal_MlstmInRefIdeal := fun m ρ m' ρ' _ hagree =>
  ⟨fun c => Cert.MlstmInIdeal.Value.G3 m c, Cert.MlstmInIdeal.Value.run (F := Ideal) m ρ,
    (θ_run Cert.MlstmInRefIdeal.defs _ _).mono (fun _ h c => ⟨(h c).1.trans
        (Cert.Layer.MlstmIn.results_eq m c _ _ _ (hagree c).1 (hagree c).2.1 (hagree c).2.2), (h c).2⟩)
      (Cert.MlstmInRefIdeal.Value.run (F := Ideal) m' ρ')⟩

theorem frame_hgrnInRef : Cert.quiescent_HgrnInRefIdeal := fun m ρ _ =>
  (θ_run Cert.HgrnInRefIdeal.defs _ _).mono (fun r h => ⟨fun c => (h c).2, Idealize.ShloMosaic.sem_eq_zero_of_no_sems (by decide) r.2⟩)
    (Cert.HgrnInRefIdeal.Value.run (F := Ideal) m ρ)

theorem algebraic_hgrnIn : Cert.algebraic_HgrnInIdeal_HgrnInRefIdeal := fun m ρ m' ρ' _ hagree =>
  ⟨fun c => Cert.HgrnInIdeal.Value.G3 m c, Cert.HgrnInIdeal.Value.run (F := Ideal) m ρ,
    (θ_run Cert.HgrnInRefIdeal.defs _ _).mono (fun _ h c => ⟨(h c).1.trans
        (Cert.Layer.HgrnIn.results_eq m c _ _ _ (hagree c).1 (hagree c).2.1 (hagree c).2.2), (h c).2⟩)
      (Cert.HgrnInRefIdeal.Value.run (F := Ideal) m' ρ')⟩

theorem frame_ssdInRef : Cert.quiescent_SsdInRefIdeal := fun m ρ _ =>
  (θ_run Cert.SsdInRefIdeal.defs _ _).mono (fun r h => ⟨fun c => (h c).2, Idealize.ShloMosaic.sem_eq_zero_of_no_sems (by decide) r.2⟩)
    (Cert.SsdInRefIdeal.Value.run (F := Ideal) m ρ)

theorem algebraic_ssdIn : Cert.algebraic_SsdInIdeal_SsdInRefIdeal := fun m ρ m' ρ' _ hagree =>
  ⟨fun c => Cert.SsdInIdeal.Value.G3 m c, Cert.SsdInIdeal.Value.run (F := Ideal) m ρ,
    (θ_run Cert.SsdInRefIdeal.defs _ _).mono (fun _ h c => ⟨(h c).1.trans
        (Cert.Layer.SsdIn.results_eq m c _ _ _ (hagree c).1 (hagree c).2.1 (hagree c).2.2), (h c).2⟩)
      (Cert.SsdInRefIdeal.Value.run (F := Ideal) m' ρ')⟩

theorem frame_outRef : Cert.quiescent_OutRefIdeal := fun m ρ _ =>
  (θ_run Cert.OutRefIdeal.defs _ _).mono (fun r h => ⟨fun c => (h c).2, Idealize.ShloMosaic.sem_eq_zero_of_no_sems (by decide) r.2⟩)
    (Cert.OutRefIdeal.Value.run (F := Ideal) m ρ)

theorem algebraic_out : Cert.algebraic_OutIdeal_OutRefIdeal := fun m ρ m' ρ' _ hagree =>
  ⟨fun c => Cert.Layer.Out.whole m c,
    (θ_run Cert.OutIdeal.defs _ _).mono (fun _ h c => ⟨(h c).1.trans (Cert.Layer.Out.final m c), (h c).2⟩)
      (Cert.OutIdeal.Value.run_blocks (F := Ideal) m ρ),
    (θ_run Cert.OutRefIdeal.defs _ _).mono (fun _ h c => ⟨(h c).1.trans ((Cert.Layer.Out.ref_eq m' c).trans
        (Cert.Layer.Out.results_eq m c _ _ _ _ _ _ (hagree c).1 (hagree c).2.1 (hagree c).2.2.1 (hagree c).2.2.2.1 (hagree c).2.2.2.2.1
          (hagree c).2.2.2.2.2)), (h c).2⟩)
      (Cert.OutRefIdeal.Value.run (F := Ideal) m' ρ')⟩

theorem frame_ssdOutRef : Cert.quiescent_SsdOutRefIdeal := fun m ρ _ =>
  (θ_run Cert.SsdOutRefIdeal.defs _ _).mono (fun r h => ⟨fun c => (h c).2, Idealize.ShloMosaic.sem_eq_zero_of_no_sems (by decide) r.2⟩)
    (Cert.SsdOutRefIdeal.Value.run (F := Ideal) m ρ)

theorem algebraic_ssdOut : Cert.algebraic_SsdOutIdeal_SsdOutRefIdeal := fun m ρ m' ρ' _ hagree =>
  ⟨fun c => Cert.Layer.SsdOut.whole m c,
    (θ_run Cert.SsdOutIdeal.defs _ _).mono (fun _ h c => ⟨(h c).1.trans (Cert.Layer.SsdOut.final m c), (h c).2⟩)
      (Cert.SsdOutIdeal.Value.run_blocks (F := Ideal) m ρ),
    (θ_run Cert.SsdOutRefIdeal.defs _ _).mono (fun _ h c => ⟨(h c).1.trans ((Cert.Layer.SsdOut.ref_eq m' c).trans
        (Cert.Layer.SsdOut.results_eq m c _ _ _ _ _ _ (hagree c).1 (hagree c).2.1 (hagree c).2.2.1 (hagree c).2.2.2.1 (hagree c).2.2.2.2.1
          (hagree c).2.2.2.2.2)), (h c).2⟩)
      (Cert.SsdOutRefIdeal.Value.run (F := Ideal) m' ρ')⟩

theorem frame_convRef : Cert.quiescent_ConvRefIdeal := fun m ρ _ =>
  (θ_run Cert.ConvRefIdeal.defs _ _).mono (fun r h => ⟨fun c => (h c).2, Idealize.ShloMosaic.sem_eq_zero_of_no_sems (by decide) r.2⟩)
    (Cert.ConvRefIdeal.Value.run (F := Ideal) m ρ)

theorem algebraic_conv : Cert.algebraic_ConvIdeal_ConvRefIdeal := fun m ρ m' ρ' _ hagree =>
  ⟨fun c => Cert.Layer.Conv.whole m c,
    (θ_run Cert.ConvIdeal.defs _ _).mono (fun _ h c => ⟨(h c).1.trans (Cert.Layer.Conv.final m c), (h c).2⟩)
      (Cert.ConvIdeal.Value.run_blocks (F := Ideal) m ρ),
    (θ_run Cert.ConvRefIdeal.defs _ _).mono (fun _ h c => ⟨(h c).1.trans ((Cert.Layer.Conv.ref_eq m' c).trans
        (Cert.Layer.Conv.results_eq m c _ _ _ (hagree c).1 (hagree c).2.1 (hagree c).2.2)), (h c).2⟩)
      (Cert.ConvRefIdeal.Value.run (F := Ideal) m' ρ')⟩

theorem frame_mlstmGatesRef : Cert.quiescent_MlstmGatesRefIdeal := fun m ρ _ =>
  (θ_run Cert.MlstmGatesRefIdeal.defs _ _).mono (fun r h => ⟨fun c => (h c).2, Idealize.ShloMosaic.sem_eq_zero_of_no_sems (by decide) r.2⟩)
    (Cert.MlstmGatesRefIdeal.Value.run (F := Ideal) m ρ)

theorem algebraic_mlstmGates : Cert.algebraic_MlstmGatesIdeal_MlstmGatesRefIdeal := fun m ρ m' ρ' _ hagree =>
  ⟨fun c => Cert.Layer.MlstmGates.whole m c,
    (θ_run Cert.MlstmGatesIdeal.defs _ _).mono (fun _ h c => ⟨(h c).1.trans (Cert.Layer.MlstmGates.final m c), (h c).2⟩)
      (Cert.MlstmGatesIdeal.Value.run_blocks (F := Ideal) m ρ),
    (θ_run Cert.MlstmGatesRefIdeal.defs _ _).mono (fun _ h c => ⟨(h c).1.trans (
        Cert.Layer.MlstmGates.results_eq m c _ _ _ (hagree c).1 (hagree c).2.1 (hagree c).2.2), (h c).2⟩)
      (Cert.MlstmGatesRefIdeal.Value.run (F := Ideal) m' ρ')⟩

theorem frame_ssdDtRef : Cert.quiescent_SsdDtRefIdeal := fun m ρ _ =>
  (θ_run Cert.SsdDtRefIdeal.defs _ _).mono (fun r h => ⟨fun c => (h c).2, Idealize.ShloMosaic.sem_eq_zero_of_no_sems (by decide) r.2⟩)
    (Cert.SsdDtRefIdeal.Value.run (F := Ideal) m ρ)

theorem algebraic_ssdDt : Cert.algebraic_SsdDtIdeal_SsdDtRefIdeal := fun m ρ m' ρ' _ hagree =>
  ⟨fun c => Cert.Layer.SsdDt.whole m c,
    (θ_run Cert.SsdDtIdeal.defs _ _).mono (fun _ h c => ⟨(h c).1.trans (Cert.Layer.SsdDt.final m c), (h c).2⟩)
      (Cert.SsdDtIdeal.Value.run_blocks (F := Ideal) m ρ),
    (θ_run Cert.SsdDtRefIdeal.defs _ _).mono (fun _ h c => ⟨(h c).1.trans (
        Cert.Layer.SsdDt.results_eq m c _ _ _ (hagree c).1 (hagree c).2.1 (hagree c).2.2), (h c).2⟩)
      (Cert.SsdDtRefIdeal.Value.run (F := Ideal) m' ρ')⟩

theorem frame_adaRef : Cert.quiescent_AdaRefIdeal := fun m ρ _ =>
  (θ_run Cert.AdaRefIdeal.defs _ _).mono (fun r h => ⟨fun c => (h c).2, Idealize.ShloMosaic.sem_eq_zero_of_no_sems (by decide) r.2⟩)
    (Cert.AdaRefIdeal.Value.run (F := Ideal) m ρ)

theorem algebraic_ada : Cert.algebraic_AdaIdeal_AdaRefIdeal := fun m ρ m' ρ' _ hagree =>
  ⟨fun c => Cert.Layer.Ada.whole m c,
    (θ_run Cert.AdaIdeal.defs _ _).mono (fun _ h c => ⟨(h c).1.trans (Cert.Layer.Ada.final m c), (h c).2⟩)
      (Cert.AdaIdeal.Value.run_blocks (F := Ideal) m ρ),
    (θ_run Cert.AdaRefIdeal.defs _ _).mono (fun _ h c => ⟨(h c).1.trans ((Cert.Layer.Ada.ref_eq m' c).trans
        (Cert.Layer.Ada.results_eq m c _ _ _ (hagree c).1 (hagree c).2.1 (hagree c).2.2)), (h c).2⟩)
      (Cert.AdaRefIdeal.Value.run (F := Ideal) m' ρ')⟩

theorem frame_w1PrepRef : Cert.quiescent_W1PrepRefIdeal := fun m ρ _ =>
  (θ_run Cert.W1PrepRefIdeal.defs _ _).mono (fun r h => ⟨fun c => (h c).2, Idealize.ShloMosaic.sem_eq_zero_of_no_sems (by decide) r.2⟩)
    (Cert.W1PrepRefIdeal.Value.run (F := Ideal) m ρ)

theorem algebraic_w1Prep : Cert.algebraic_W1PrepIdeal_W1PrepRefIdeal := fun m ρ m' ρ' _ hagree =>
  ⟨fun c => Cert.Layer.W1Prep.whole m c,
    (θ_run Cert.W1PrepIdeal.defs _ _).mono (fun _ h c => ⟨(h c).1.trans (Cert.Layer.W1Prep.final m c), (h c).2⟩)
      (Cert.W1PrepIdeal.Value.run_blocks (F := Ideal) m ρ),
    (θ_run Cert.W1PrepRefIdeal.defs _ _).mono (fun _ h c => ⟨(h c).1.trans (Cert.Layer.W1Prep.results_eq m c _ (hagree c)), (h c).2⟩)
      (Cert.W1PrepRefIdeal.Value.run (F := Ideal) m' ρ')⟩

theorem claim : Cert.Claim := ⟨Cert.Kernel.Gen.facts, Cert.KernelIdeal.Gen.facts, Cert.ReferenceIdeal.Gen.facts,
  Cert.MlstmIn.Gen.facts, Cert.MlstmInIdeal.Gen.facts, Cert.MlstmInRefIdeal.Gen.facts,
  Cert.HgrnIn.Gen.facts, Cert.HgrnInIdeal.Gen.facts, Cert.HgrnInRefIdeal.Gen.facts,
  Cert.SsdIn.Gen.facts, Cert.SsdInIdeal.Gen.facts, Cert.SsdInRefIdeal.Gen.facts,
  Cert.Out.Gen.facts, Cert.OutIdeal.Gen.facts, Cert.OutRefIdeal.Gen.facts,
  Cert.SsdOut.Gen.facts, Cert.SsdOutIdeal.Gen.facts, Cert.SsdOutRefIdeal.Gen.facts,
  Cert.Conv.Gen.facts, Cert.ConvIdeal.Gen.facts, Cert.ConvRefIdeal.Gen.facts,
  Cert.MlstmGates.Gen.facts, Cert.MlstmGatesIdeal.Gen.facts, Cert.MlstmGatesRefIdeal.Gen.facts,
  Cert.SsdDt.Gen.facts, Cert.SsdDtIdeal.Gen.facts, Cert.SsdDtRefIdeal.Gen.facts,
  Cert.Ada.Gen.facts, Cert.AdaIdeal.Gen.facts, Cert.AdaRefIdeal.Gen.facts,
  Cert.W1Prep.Gen.facts, Cert.W1PrepIdeal.Gen.facts, Cert.W1PrepRefIdeal.Gen.facts,
  Cert.Pre_qkv_finite.facts,
  fun m ρ _ => Cert.Kernel.Gen.frame m ρ,
  fun m ρ _ => Cert.KernelIdeal.Gen.frame m ρ,
  fun m ρ _ => Cert.KernelIdeal.Gen.frame m ρ,
  fun m ρ _ => frame_reference m ρ trivial,
  fun m ρ _ => frame_reference m ρ trivial,
  fun m ρ _ => Cert.MlstmIn.Gen.frame m ρ, fun m ρ _ => Cert.MlstmInIdeal.Gen.frame m ρ, frame_mlstmInRef,
  fun m ρ _ => Cert.HgrnIn.Gen.frame m ρ, fun m ρ _ => Cert.HgrnInIdeal.Gen.frame m ρ, frame_hgrnInRef,
  fun m ρ _ => Cert.SsdIn.Gen.frame m ρ, fun m ρ _ => Cert.SsdInIdeal.Gen.frame m ρ, frame_ssdInRef,
  fun m ρ _ => Cert.Out.Gen.frame m ρ, fun m ρ _ => Cert.OutIdeal.Gen.frame m ρ, frame_outRef,
  fun m ρ _ => Cert.SsdOut.Gen.frame m ρ, fun m ρ _ => Cert.SsdOutIdeal.Gen.frame m ρ, frame_ssdOutRef,
  fun m ρ _ => Cert.Conv.Gen.frame m ρ, fun m ρ _ => Cert.ConvIdeal.Gen.frame m ρ, frame_convRef,
  fun m ρ _ => Cert.MlstmGates.Gen.frame m ρ, fun m ρ _ => Cert.MlstmGatesIdeal.Gen.frame m ρ, frame_mlstmGatesRef,
  fun m ρ _ => Cert.SsdDt.Gen.frame m ρ, fun m ρ _ => Cert.SsdDtIdeal.Gen.frame m ρ, frame_ssdDtRef,
  fun m ρ _ => Cert.Ada.Gen.frame m ρ, fun m ρ _ => Cert.AdaIdeal.Gen.frame m ρ, frame_adaRef,
  fun m ρ _ => Cert.W1Prep.Gen.frame m ρ, fun m ρ _ => Cert.W1PrepIdeal.Gen.frame m ρ, frame_w1PrepRef,
  trivial, algebraic,
  trivial, algebraic_mlstmIn,
  trivial, algebraic_hgrnIn,
  trivial, algebraic_ssdIn,
  trivial, algebraic_out,
  trivial, algebraic_ssdOut,
  trivial, algebraic_conv,
  trivial, algebraic_mlstmGates,
  trivial, algebraic_ssdDt,
  trivial, algebraic_ada,
  trivial, algebraic_w1Prep⟩

end Cert.Proof

end
